-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bounded_KernelIdeal [hPre_bounded_KernelIdeal : Cert.Pre_bounded_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_bounded_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bounded_ReferenceIdeal [hPre_bounded_ReferenceIdeal : Cert.Pre_bounded_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_bounded_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bounded_KernelIdeal [hKernelIdeal : Cert.KernelIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bounded_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bounded_ReferenceIdeal [hReferenceIdeal : Cert.ReferenceIdeal.Facts] [hPre_bounded_ReferenceIdeal : Cert.Pre_bounded_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bounded_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_bounded_KernelIdeal [hKernelIdeal : Cert.KernelIdeal.Facts] [hReferenceIdeal : Cert.ReferenceIdeal.Facts] [hPre_bounded_KernelIdeal : Cert.Pre_bounded_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bounded_KernelIdeal m →
    (∀ c : Dev Cert.KernelIdeal.nD,
      m ((c.tc : Thread Cert.KernelIdeal.nD Cert.KernelIdeal.τ).loc Cert.KernelIdeal.main_arg0) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 256]⟩ ⟨2, ![2048, 2048]⟩ 1 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v6) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ReferenceIdeal_on_unclipped [hKernelIdeal : Cert.KernelIdeal.Facts] [hReferenceIdeal : Cert.ReferenceIdeal.Facts] [hOn_unclipped : Cert.On_unclipped.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 2048]⟩ ⟨2, ![2048, 2048]⟩ 0 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![2048, 256]⟩ ⟨2, ![2048, 2048]⟩ 1 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![2048, 256]⟩ : Shape).Idx, (Layout.block ⟨2, ![2048, 256]⟩ ⟨2, ![2048, 2048]⟩ 1 8 c ((Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![2048, 256]⟩ : Shape).Idx → _) i = 1#1 → r.2.mem ((c.tc : Thread Cert.KernelIdeal.nD Cert.KernelIdeal.τ).loc Cert.KernelIdeal.main_v1) i = (Layout.block ⟨2, ![2048, 256]⟩ ⟨2, ![2048, 2048]⟩ 1 8 c v0 : (⟨2, ![2048, 256]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![2048, 2048]⟩ : Shape).Idx, (Cert.On_unclipped.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_bounded_KernelIdeal : Cert.Pre_bounded_KernelIdeal.Facts) (hPre_bounded_ReferenceIdeal : Cert.Pre_bounded_ReferenceIdeal.Facts) (hOn_unclipped : Cert.On_unclipped.Facts),
    quiescent_Kernel (hKernel := hKernel)
    ∧ quiescent_KernelIdeal (hKernelIdeal := hKernelIdeal)
    ∧ quiescent_KernelIdeal_pre_bounded_KernelIdeal (hKernelIdeal := hKernelIdeal) (hPre_bounded_KernelIdeal := hPre_bounded_KernelIdeal)
    ∧ quiescent_ReferenceIdeal (hReferenceIdeal := hReferenceIdeal)
    ∧ quiescent_ReferenceIdeal_pre_bounded_ReferenceIdeal (hReferenceIdeal := hReferenceIdeal) (hPre_bounded_ReferenceIdeal := hPre_bounded_ReferenceIdeal)
    ∧ preserves_Kernel_KernelIdeal
    ∧ algebraic_KernelIdeal_ReferenceIdeal_pre_bounded_KernelIdeal (hKernelIdeal := hKernelIdeal) (hReferenceIdeal := hReferenceIdeal) (hPre_bounded_KernelIdeal := hPre_bounded_KernelIdeal)
    ∧ algebraic_KernelIdeal_ReferenceIdeal_on_unclipped (hKernelIdeal := hKernelIdeal) (hReferenceIdeal := hReferenceIdeal) (hOn_unclipped := hOn_unclipped)
-- ==== On_unclipped.lean ====
abbrev S2048x2048 : Shape := ⟨2, ![2048, 2048]⟩
abbrev S_ : Shape := ⟨0, ![]⟩

class Facts : Prop where
  bcast_S_S2048x2048 : S_.BroadcastsInDim S2048x2048 (![] : Fin 0 → Fin S2048x2048.rank)
  dot_S2048x2048_S2048x2048_S2048x2048_1_0_0_1_n_n_wf : DotDims.WF S2048x2048 S2048x2048 S2048x2048 [1] [0] [0] [1] [] []

variable [Facts]

def dot_S2048x2048_S2048x2048_S2048x2048_1_0_0_1_n_n : DotDims S2048x2048 S2048x2048 S2048x2048 where
  lhsContracting := [1]
  rhsContracting := [0]
  lhsNonContracting := [0]
  rhsNonContracting := [1]
  lhsBatch := []
  rhsBatch := []
  wf := dot_S2048x2048_S2048x2048_S2048x2048_1_0_0_1_n_n_wf
def fn {F : FTy → Type} [FloatOps F] (main_arg0 : FVec F S2048x2048 .f32) (main_arg1 : FVec F S2048x2048 .f32) : IVec S2048x2048 1 :=
  let main_v0 : FVec F S2048x2048 .f32 := (fun l r => Host.dotGeneral dot_S2048x2048_S2048x2048_S2048x2048_1_0_0_1_n_n none l r) main_arg0 main_arg1
  let main_cst : FVec F S_ .f32 := constant S_ .f32 0xC2700000#32
  let main_v1 : FVec F S2048x2048 .f32 := broadcastInDim S2048x2048 ![] bcast_S_S2048x2048 main_cst
  let main_v2 : IVec S2048x2048 1 := cmpf .oge main_v0 main_v1
  let main_cst_0 : FVec F S_ .f32 := constant S_ .f32 0x42700000#32
  let main_v3 : FVec F S2048x2048 .f32 := broadcastInDim S2048x2048 ![] bcast_S_S2048x2048 main_cst_0
  let main_v4 : IVec S2048x2048 1 := cmpf .ole main_v0 main_v3
  let main_v5 : IVec S2048x2048 1 := andi main_v2 main_v4
  main_v5
-- ==== Pre_bounded_KernelIdeal.lean ====
abbrev S256x2048 : Shape := ⟨2, ![256, 2048]⟩
abbrev S2048x256 : Shape := ⟨2, ![2048, 256]⟩
abbrev S_ : Shape := ⟨0, ![]⟩
abbrev S256 : Shape := ⟨1, ![256]⟩

class Facts : Prop where
  reducesTo_S256x2048_S256_d1 : S256x2048.ReducesTo [1] S256
  h_S_ : 0 < S_.numel
  bcast_S_S256 : S_.BroadcastsInDim S256 (![] : Fin 0 → Fin S256.rank)
  reducesTo_S2048x256_S256_d0 : S2048x256.ReducesTo [0] S256

variable [Facts]

def fn {F : FTy → Type} [FloatOps F] (main_arg0 : FVec F S256x2048 .f32) (main_arg1 : FVec F S2048x256 .f32) : IVec S256 1 × IVec S256 1 :=
  let main_v0 : FVec F S256x2048 .f32 := mulf main_arg0 main_arg0
  let main_cst : FVec F S_ .f32 := constant S_ .f32 0x00000000#32
  let main_v1 : FVec F S256 .f32 := (fun x v => Host.reduceAdd x v reducesTo_S256x2048_S256_d1 h_S_) main_v0 main_cst
  let main_cst_0 : FVec F S_ .f32 := constant S_ .f32 0x45160000#32
  let main_v2 : FVec F S256 .f32 := broadcastInDim S256 ![] bcast_S_S256 main_cst_0
  let main_v3 : IVec S256 1 := cmpf .ole main_v1 main_v2
  let main_v4 : FVec F S2048x256 .f32 := mulf main_arg1 main_arg1
  let main_cst_1 : FVec F S_ .f32 := constant S_ .f32 0x00000000#32
  let main_v5 : FVec F S256 .f32 := (fun x v => Host.reduceAdd x v reducesTo_S2048x256_S256_d0 h_S_) main_v4 main_cst_1
  let main_cst_2 : FVec F S_ .f32 := constant S_ .f32 0x3FC00000#32
  let main_v6 : FVec F S256 .f32 := broadcastInDim S256 ![] bcast_S_S256 main_cst_2
  let main_v7 : IVec S256 1 := cmpf .ole main_v5 main_v6
  (main_v3, main_v7)
-- ==== Pre_bounded_ReferenceIdeal.lean ====
abbrev S2048x2048 : Shape := ⟨2, ![2048, 2048]⟩
abbrev S_ : Shape := ⟨0, ![]⟩
abbrev S2048 : Shape := ⟨1, ![2048]⟩

class Facts : Prop where
  reducesTo_S2048x2048_S2048_d1 : S2048x2048.ReducesTo [1] S2048
  h_S_ : 0 < S_.numel
  bcast_S_S2048 : S_.BroadcastsInDim S2048 (![] : Fin 0 → Fin S2048.rank)
  reducesTo_S2048x2048_S2048_d0 : S2048x2048.ReducesTo [0] S2048

variable [Facts]

def fn {F : FTy → Type} [FloatOps F] (main_arg0 : FVec F S2048x2048 .f32) (main_arg1 : FVec F S2048x2048 .f32) : IVec S2048 1 × IVec S2048 1 :=
  let main_v0 : FVec F S2048x2048 .f32 := mulf main_arg0 main_arg0
  let main_cst : FVec F S_ .f32 := constant S_ .f32 0x00000000#32
  let main_v1 : FVec F S2048 .f32 := (fun x v => Host.reduceAdd x v reducesTo_S2048x2048_S2048_d1 h_S_) main_v0 main_cst
  let main_cst_0 : FVec F S_ .f32 := constant S_ .f32 0x45160000#32
  let main_v2 : FVec F S2048 .f32 := broadcastInDim S2048 ![] bcast_S_S2048 main_cst_0
  let main_v3 : IVec S2048 1 := cmpf .ole main_v1 main_v2
  let main_v4 : FVec F S2048x2048 .f32 := mulf main_arg1 main_arg1
  let main_cst_1 : FVec F S_ .f32 := constant S_ .f32 0x00000000#32
  let main_v5 : FVec F S2048 .f32 := (fun x v => Host.reduceAdd x v reducesTo_S2048x2048_S2048_d0 h_S_) main_v4 main_cst_1
  let main_cst_2 : FVec F S_ .f32 := constant S_ .f32 0x3FC00000#32
  let main_v6 : FVec F S2048 .f32 := broadcastInDim S2048 ![] bcast_S_S2048 main_cst_2
  let main_v7 : IVec S2048 1 := cmpf .ole main_v5 main_v6
  (main_v3, main_v7)
-- ==== Kernel.lean ====
abbrev S256x2048 : Shape := ⟨2, ![256, 2048]⟩
abbrev S2048x256 : Shape := ⟨2, ![2048, 256]⟩
abbrev S2x256x2048 : Shape := ⟨3, ![2, 256, 2048]⟩
abbrev S88x2048 : Shape := ⟨2, ![88, 2048]⟩
abbrev S80x2048 : Shape := ⟨2, ![80, 2048]⟩
abbrev S5 : Shape := ⟨1, ![5]⟩
abbrev S4 : Shape := ⟨1, ![4]⟩
abbrev S_ : Shape := ⟨0, ![]⟩
abbrev S1 : Shape := ⟨1, ![1]⟩
abbrev S1x128x2048 : Shape := ⟨3, ![1, 128, 2048]⟩
abbrev S128x2048 : Shape := ⟨2, ![128, 2048]⟩
abbrev S256x256 : Shape := ⟨2, ![256, 256]⟩
abbrev S1x256x2048 : Shape := ⟨3, ![1, 256, 2048]⟩
abbrev S1x88x2048 : Shape := ⟨3, ![1, 88, 2048]⟩
abbrev S128x256 : Shape := ⟨2, ![128, 256]⟩
abbrev S1x80x2048 : Shape := ⟨3, ![1, 80, 2048]⟩
abbrev S88x256 : Shape := ⟨2, ![88, 256]⟩
abbrev S80x256 : Shape := ⟨2, ![80, 256]⟩

abbrev nBuf : Space → Nat
  | .hbm => 3
  | .vmem => 10
  | .smem => 0
  | _ => 0

abbrev bufTy : (tb : Table) → Fin (tcTables nBuf tb) → BufTy
  | .hbm, ⟨0, _⟩ => ⟨S256x2048, .f32⟩
  | .hbm, ⟨1, _⟩ => ⟨S2048x256, .f32⟩
  | .hbm, ⟨2, _⟩ => ⟨S2048x256, .f32⟩
  | .local _ .vmem, ⟨0, _⟩ => ⟨S256x2048, .f32⟩
  | .local _ .vmem, ⟨1, _⟩ => ⟨S2048x256, .f32⟩
  | .local _ .vmem, ⟨2, _⟩ => ⟨S2048x256, .f32⟩
  | .local _ .vmem, ⟨3, _⟩ => ⟨S2x256x2048, .f32⟩
  | .local _ .vmem, ⟨4, _⟩ => ⟨S2x256x2048, .f32⟩
  | .local _ .vmem, ⟨5, _⟩ => ⟨S256x2048, .f32⟩
  | .local _ .vmem, ⟨6, _⟩ => ⟨S256x2048, .f32⟩
  | .local _ .vmem, ⟨7, _⟩ => ⟨S88x2048, .f32⟩
  | .local _ .vmem, ⟨8, _⟩ => ⟨S80x2048, .f32⟩
  | .local _ .vmem, ⟨9, _⟩ => ⟨S88x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  (ofTc nBuf bufTy 1 31 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_scratch3 : Ref sig .tc := ⟨.vmem, 6, rfl⟩
abbrev cc0_scratch4 : Ref sig .tc := ⟨.vmem, 7, rfl⟩
abbrev cc0_scratch5 : Ref sig .tc := ⟨.vmem, 8, rfl⟩
abbrev cc0_scratch6 : Ref sig .tc := ⟨.vmem, 9, rfl⟩
abbrev cc0_sem0_0 : DmaSem sig := 0
abbrev cc0_sem1_0 : DmaSem sig := 1
abbrev cc0_sem2_0 : DmaSem sig := 2
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32_34 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_33 : BitVec 32 := 1#32
  let v63 : BitVec 32 := Scalar.muli v33 c1_i32_33
  let v64 : BitVec 32 := Scalar.addi c0_i32_34 v63
  v64.toNat
def k0_dev2 (d0 : Dev nD) : Nat :=
  let c0_i32_37 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_36 : BitVec 32 := 1#32
  let v65 : BitVec 32 := Scalar.muli v19 c1_i32_36
  let v66 : BitVec 32 := Scalar.addi c0_i32_37 v65
  v66.toNat
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi v5 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_22 : BitVec 32 := 0#32
  let v44 : BitVec 1 := Scalar.cmpi .eq v43 c0_i32_22
  let c3_i32 : BitVec 32 := 3#32
  let v46 : BitVec 32 := Scalar.addi v5 c3_i32
  let c3_i32_23 : BitVec 32 := 3#32
  let v47 : BitVec 32 := Scalar.subi v5 c3_i32_23
  let v48 : BitVec 32 := Scalar.select v44 v46 v47
  let c8_i32_24 : BitVec 32 := 8#32
  let c0_i32_25 : BitVec 32 := 0#32
  let v49 : BitVec 1 := Scalar.cmpi .eq c8_i32_24 c0_i32_25
  let c1_i32_26 : BitVec 32 := 1#32
  let v50 : BitVec 32 := Scalar.select v49 c1_i32_26 c8_i32_24
  let v51 : BitVec 32 := Scalar.remsi v48 v50
  let c0_i32_28 : BitVec 32 := 0#32
  let v53 : BitVec 1 := Scalar.cmpi .slt v51 c0_i32_28
  let c0_i32_29 : BitVec 32 := 0#32
  let v54 : BitVec 1 := Scalar.cmpi .slt v50 c0_i32_29
  let v55 : BitVec 1 := Scalar.xori v53 v54
  let c0_i32_27 : BitVec 32 := 0#32
  let v52 : BitVec 1 := Scalar.cmpi .ne v51 c0_i32_27
  let v56 : BitVec 1 := Scalar.andi v55 v52
  let v57 : BitVec 32 := Scalar.addi v51 v50
  let v58 : BitVec 32 := Scalar.select v56 v57 v51
  let c4_i32_30 : BitVec 32 := 4#32
  let v59 : BitVec 1 := Scalar.cmpi .slt v58 c4_i32_30
  let c11_i32_31 : BitVec 32 := 11#32
  let v60 : BitVec 32 := Scalar.subi c11_i32_31 v58
  let v61 : BitVec 32 := Scalar.select v59 v58 v60
  let c1_i32_39 : BitVec 32 := 1#32
  let v67 : BitVec 32 := Scalar.muli v61 c1_i32_39
  let v68 : BitVec 32 := Scalar.addi c0_i32_40 v67
  v68.toNat
def k0_dev4 (d0 : Dev nD) : Nat :=
  let c0_i32_47 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_46 : BitVec 32 := 1#32
  let v69 : BitVec 32 := Scalar.muli v19 c1_i32_46
  let v70 : BitVec 32 := Scalar.addi c0_i32_47 v69
  v70.toNat
def k0_dev5 (d0 : Dev nD) : Nat :=
  let c0_i32_56 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_55 : BitVec 32 := 1#32
  let v78 : BitVec 32 := Scalar.muli v19 c1_i32_55
  let v79 : BitVec 32 := Scalar.addi c0_i32_56 v78
  v79.toNat
def k0_dev6 (d0 : Dev nD) : Nat :=
  let c0_i32_64 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_63 : BitVec 32 := 1#32
  let v87 : BitVec 32 := Scalar.muli v33 c1_i32_63
  let v88 : BitVec 32 := Scalar.addi c0_i32_64 v87
  v88.toNat
def k0_dev7 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_72 : BitVec 32 := 1#32
  let v96 : BitVec 32 := Scalar.muli v33 c1_i32_72
  let v97 : BitVec 32 := Scalar.addi c0_i32_73 v96
  v97.toNat
def k0_dev8 (d0 : Dev nD) : Nat :=
  let c0_i32_81 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi v5 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_22 : BitVec 32 := 0#32
  let v44 : BitVec 1 := Scalar.cmpi .eq v43 c0_i32_22
  let c3_i32 : BitVec 32 := 3#32
  let v46 : BitVec 32 := Scalar.addi v5 c3_i32
  let c3_i32_23 : BitVec 32 := 3#32
  let v47 : BitVec 32 := Scalar.subi v5 c3_i32_23
  let v48 : BitVec 32 := Scalar.select v44 v46 v47
  let c8_i32_24 : BitVec 32 := 8#32
  let c0_i32_25 : BitVec 32 := 0#32
  let v49 : BitVec 1 := Scalar.cmpi .eq c8_i32_24 c0_i32_25
  let c1_i32_26 : BitVec 32 := 1#32
  let v50 : BitVec 32 := Scalar.select v49 c1_i32_26 c8_i32_24
  let v51 : BitVec 32 := Scalar.remsi v48 v50
  let c0_i32_28 : BitVec 32 := 0#32
  let v53 : BitVec 1 := Scalar.cmpi .slt v51 c0_i32_28
  let c0_i32_29 : BitVec 32 := 0#32
  let v54 : BitVec 1 := Scalar.cmpi .slt v50 c0_i32_29
  let v55 : BitVec 1 := Scalar.xori v53 v54
  let c0_i32_27 : BitVec 32 := 0#32
  let v52 : BitVec 1 := Scalar.cmpi .ne v51 c0_i32_27
  let v56 : BitVec 1 := Scalar.andi v55 v52
  let v57 : BitVec 32 := Scalar.addi v51 v50
  let v58 : BitVec 32 := Scalar.select v56 v57 v51
  let c4_i32_30 : BitVec 32 := 4#32
  let v59 : BitVec 1 := Scalar.cmpi .slt v58 c4_i32_30
  let c11_i32_31 : BitVec 32 := 11#32
  let v60 : BitVec 32 := Scalar.subi c11_i32_31 v58
  let v61 : BitVec 32 := Scalar.select v59 v58 v60
  let c1_i32_80 : BitVec 32 := 1#32
  let v105 : BitVec 32 := Scalar.muli v61 c1_i32_80
  let v106 : BitVec 32 := Scalar.addi c0_i32_81 v105
  v106.toNat
def k0_off1 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v118 : BitVec 32 := Scalar.muli v2 c256_i32
  let c0_i32_85 : BitVec 32 := 0#32
  let v119 : BitVec 32 := Scalar.addi v118 c0_i32_85
  let v120 : Index := Scalar.indexCast v119
  let c0_86 : Index := 0#32
  ![v120.toNat, 0]
def k0_dev9 (d0 : Dev nD) : Nat :=
  let c0_i32_101 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_100 : BitVec 32 := 1#32
  let v129 : BitVec 32 := Scalar.muli v19 c1_i32_100
  let v130 : BitVec 32 := Scalar.addi c0_i32_101 v129
  v130.toNat
def k0_dev10 (d0 : Dev nD) : Nat :=
  let c0_i32_120 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_119 : BitVec 32 := 1#32
  let v146 : BitVec 32 := Scalar.muli v33 c1_i32_119
  let v147 : BitVec 32 := Scalar.addi c0_i32_120 v146
  v147.toNat
def k0_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi v5 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_22 : BitVec 32 := 0#32
  let v44 : BitVec 1 := Scalar.cmpi .eq v43 c0_i32_22
  let v_true : BitVec 1 := 1#1
  let v45 : BitVec 1 := Scalar.xori v44 v_true
  let v156 : BitVec 32 := Scalar.extui v45
  let c0_i32_128 : BitVec 32 := 0#32
  let v157 : BitVec 1 := Scalar.cmpi .ne v156 c0_i32_128
  v157

def k0_dev11 (d0 : Dev nD) : Nat :=
  let c0_i32_538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi v5 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_22 : BitVec 32 := 0#32
  let v44 : BitVec 1 := Scalar.cmpi .eq v43 c0_i32_22
  let c3_i32 : BitVec 32 := 3#32
  let v46 : BitVec 32 := Scalar.addi v5 c3_i32
  let c3_i32_23 : BitVec 32 := 3#32
  let v47 : BitVec 32 := Scalar.subi v5 c3_i32_23
  let v48 : BitVec 32 := Scalar.select v44 v46 v47
  let c8_i32_24 : BitVec 32 := 8#32
  let c0_i32_25 : BitVec 32 := 0#32
  let v49 : BitVec 1 := Scalar.cmpi .eq c8_i32_24 c0_i32_25
  let c1_i32_26 : BitVec 32 := 1#32
  let v50 : BitVec 32 := Scalar.select v49 c1_i32_26 c8_i32_24
  let v51 : BitVec 32 := Scalar.remsi v48 v50
  let c0_i32_28 : BitVec 32 := 0#32
  let v53 : BitVec 1 := Scalar.cmpi .slt v51 c0_i32_28
  let c0_i32_29 : BitVec 32 := 0#32
  let v54 : BitVec 1 := Scalar.cmpi .slt v50 c0_i32_29
  let v55 : BitVec 1 := Scalar.xori v53 v54
  let c0_i32_27 : BitVec 32 := 0#32
  let v52 : BitVec 1 := Scalar.cmpi .ne v51 c0_i32_27
  let v56 : BitVec 1 := Scalar.andi v55 v52
  let v57 : BitVec 32 := Scalar.addi v51 v50
  let v58 : BitVec 32 := Scalar.select v56 v57 v51
  let c4_i32_30 : BitVec 32 := 4#32
  let v59 : BitVec 1 := Scalar.cmpi .slt v58 c4_i32_30
  let c11_i32_31 : BitVec 32 := 11#32
  let v60 : BitVec 32 := Scalar.subi c11_i32_31 v58
  let v61 : BitVec 32 := Scalar.select v59 v58 v60
  let c1_i32_537 : BitVec 32 := 1#32
  let v552 : BitVec 32 := Scalar.muli v61 c1_i32_537
  let v553 : BitVec 32 := Scalar.addi c0_i32_538 v552
  v553.toNat
def k0_dev12 (d0 : Dev nD) : Nat :=
  let c0_i32_143 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_142 : BitVec 32 := 1#32
  let v165 : BitVec 32 := Scalar.muli v19 c1_i32_142
  let v166 : BitVec 32 := Scalar.addi c0_i32_143 v165
  v166.toNat
def k0_dev13 (d0 : Dev nD) : Nat :=
  let c0_i32_162 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_161 : BitVec 32 := 1#32
  let v182 : BitVec 32 := Scalar.muli v33 c1_i32_161
  let v183 : BitVec 32 := Scalar.addi c0_i32_162 v182
  v183.toNat
def k0_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi v5 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_22 : BitVec 32 := 0#32
  let v44 : BitVec 1 := Scalar.cmpi .eq v43 c0_i32_22
  let v_true : BitVec 1 := 1#1
  let v45 : BitVec 1 := Scalar.xori v44 v_true
  let v192 : BitVec 32 := Scalar.extui v45
  let c0_i32_170 : BitVec 32 := 0#32
  let v193 : BitVec 1 := Scalar.cmpi .ne v192 c0_i32_170
  v193

def k0_dev14 (d0 : Dev nD) : Nat :=
  let c0_i32_538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi v5 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_22 : BitVec 32 := 0#32
  let v44 : BitVec 1 := Scalar.cmpi .eq v43 c0_i32_22
  let c3_i32 : BitVec 32 := 3#32
  let v46 : BitVec 32 := Scalar.addi v5 c3_i32
  let c3_i32_23 : BitVec 32 := 3#32
  let v47 : BitVec 32 := Scalar.subi v5 c3_i32_23
  let v48 : BitVec 32 := Scalar.select v44 v46 v47
  let c8_i32_24 : BitVec 32 := 8#32
  let c0_i32_25 : BitVec 32 := 0#32
  let v49 : BitVec 1 := Scalar.cmpi .eq c8_i32_24 c0_i32_25
  let c1_i32_26 : BitVec 32 := 1#32
  let v50 : BitVec 32 := Scalar.select v49 c1_i32_26 c8_i32_24
  let v51 : BitVec 32 := Scalar.remsi v48 v50
  let c0_i32_28 : BitVec 32 := 0#32
  let v53 : BitVec 1 := Scalar.cmpi .slt v51 c0_i32_28
  let c0_i32_29 : BitVec 32 := 0#32
  let v54 : BitVec 1 := Scalar.cmpi .slt v50 c0_i32_29
  let v55 : BitVec 1 := Scalar.xori v53 v54
  let c0_i32_27 : BitVec 32 := 0#32
  let v52 : BitVec 1 := Scalar.cmpi .ne v51 c0_i32_27
  let v56 : BitVec 1 := Scalar.andi v55 v52
  let v57 : BitVec 32 := Scalar.addi v51 v50
  let v58 : BitVec 32 := Scalar.select v56 v57 v51
  let c4_i32_30 : BitVec 32 := 4#32
  let v59 : BitVec 1 := Scalar.cmpi .slt v58 c4_i32_30
  let c11_i32_31 : BitVec 32 := 11#32
  let v60 : BitVec 32 := Scalar.subi c11_i32_31 v58
  let v61 : BitVec 32 := Scalar.select v59 v58 v60
  let c1_i32_537 : BitVec 32 := 1#32
  let v552 : BitVec 32 := Scalar.muli v61 c1_i32_537
  let v553 : BitVec 32 := Scalar.addi c0_i32_538 v552
  v553.toNat
def k0_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi v5 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_22 : BitVec 32 := 0#32
  let v44 : BitVec 1 := Scalar.cmpi .eq v43 c0_i32_22
  let v194 : BitVec 32 := Scalar.extui v44
  let c0_i32_177 : BitVec 32 := 0#32
  let v195 : BitVec 1 := Scalar.cmpi .ne v194 c0_i32_177
  v195

def k0_dev15 (d0 : Dev nD) : Nat :=
  let c0_i32_538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi v5 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_22 : BitVec 32 := 0#32
  let v44 : BitVec 1 := Scalar.cmpi .eq v43 c0_i32_22
  let c3_i32 : BitVec 32 := 3#32
  let v46 : BitVec 32 := Scalar.addi v5 c3_i32
  let c3_i32_23 : BitVec 32 := 3#32
  let v47 : BitVec 32 := Scalar.subi v5 c3_i32_23
  let v48 : BitVec 32 := Scalar.select v44 v46 v47
  let c8_i32_24 : BitVec 32 := 8#32
  let c0_i32_25 : BitVec 32 := 0#32
  let v49 : BitVec 1 := Scalar.cmpi .eq c8_i32_24 c0_i32_25
  let c1_i32_26 : BitVec 32 := 1#32
  let v50 : BitVec 32 := Scalar.select v49 c1_i32_26 c8_i32_24
  let v51 : BitVec 32 := Scalar.remsi v48 v50
  let c0_i32_28 : BitVec 32 := 0#32
  let v53 : BitVec 1 := Scalar.cmpi .slt v51 c0_i32_28
  let c0_i32_29 : BitVec 32 := 0#32
  let v54 : BitVec 1 := Scalar.cmpi .slt v50 c0_i32_29
  let v55 : BitVec 1 := Scalar.xori v53 v54
  let c0_i32_27 : BitVec 32 := 0#32
  let v52 : BitVec 1 := Scalar.cmpi .ne v51 c0_i32_27
  let v56 : BitVec 1 := Scalar.andi v55 v52
  let v57 : BitVec 32 := Scalar.addi v51 v50
  let v58 : BitVec 32 := Scalar.select v56 v57 v51
  let c4_i32_30 : BitVec 32 := 4#32
  let v59 : BitVec 1 := Scalar.cmpi .slt v58 c4_i32_30
  let c11_i32_31 : BitVec 32 := 11#32
  let v60 : BitVec 32 := Scalar.subi c11_i32_31 v58
  let v61 : BitVec 32 := Scalar.select v59 v58 v60
  let c1_i32_537 : BitVec 32 := 1#32
  let v552 : BitVec 32 := Scalar.muli v61 c1_i32_537
  let v553 : BitVec 32 := Scalar.addi c0_i32_538 v552
  v553.toNat
def k0_dev16 (d0 : Dev nD) : Nat :=
  let c0_i32_544 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi v5 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_22 : BitVec 32 := 0#32
  let v44 : BitVec 1 := Scalar.cmpi .eq v43 c0_i32_22
  let c3_i32 : BitVec 32 := 3#32
  let v46 : BitVec 32 := Scalar.addi v5 c3_i32
  let c3_i32_23 : BitVec 32 := 3#32
  let v47 : BitVec 32 := Scalar.subi v5 c3_i32_23
  let v48 : BitVec 32 := Scalar.select v44 v46 v47
  let c8_i32_24 : BitVec 32 := 8#32
  let c0_i32_25 : BitVec 32 := 0#32
  let v49 : BitVec 1 := Scalar.cmpi .eq c8_i32_24 c0_i32_25
  let c1_i32_26 : BitVec 32 := 1#32
  let v50 : BitVec 32 := Scalar.select v49 c1_i32_26 c8_i32_24
  let v51 : BitVec 32 := Scalar.remsi v48 v50
  let c0_i32_28 : BitVec 32 := 0#32
  let v53 : BitVec 1 := Scalar.cmpi .slt v51 c0_i32_28
  let c0_i32_29 : BitVec 32 := 0#32
  let v54 : BitVec 1 := Scalar.cmpi .slt v50 c0_i32_29
  let v55 : BitVec 1 := Scalar.xori v53 v54
  let c0_i32_27 : BitVec 32 := 0#32
  let v52 : BitVec 1 := Scalar.cmpi .ne v51 c0_i32_27
  let v56 : BitVec 1 := Scalar.andi v55 v52
  let v57 : BitVec 32 := Scalar.addi v51 v50
  let v58 : BitVec 32 := Scalar.select v56 v57 v51
  let c4_i32_30 : BitVec 32 := 4#32
  let v59 : BitVec 1 := Scalar.cmpi .slt v58 c4_i32_30
  let c11_i32_31 : BitVec 32 := 11#32
  let v60 : BitVec 32 := Scalar.subi c11_i32_31 v58
  let v61 : BitVec 32 := Scalar.select v59 v58 v60
  let c1_i32_543 : BitVec 32 := 1#32
  let v561 : BitVec 32 := Scalar.muli v61 c1_i32_543
  let v562 : BitVec 32 := Scalar.addi c0_i32_544 v561
  v562.toNat
def k0_off2 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_181 : BitVec 32 := 1#32
  let v198 : BitVec 32 := Scalar.subi v5 c1_i32_181
  let c8_i32_182 : BitVec 32 := 8#32
  let c0_i32_183 : BitVec 32 := 0#32
  let v199 : BitVec 1 := Scalar.cmpi .eq c8_i32_182 c0_i32_183
  let c1_i32_184 : BitVec 32 := 1#32
  let v200 : BitVec 32 := Scalar.select v199 c1_i32_184 c8_i32_182
  let v201 : BitVec 32 := Scalar.remsi v198 v200
  let c0_i32_186 : BitVec 32 := 0#32
  let v203 : BitVec 1 := Scalar.cmpi .slt v201 c0_i32_186
  let c0_i32_187 : BitVec 32 := 0#32
  let v204 : BitVec 1 := Scalar.cmpi .slt v200 c0_i32_187
  let v205 : BitVec 1 := Scalar.xori v203 v204
  let c0_i32_185 : BitVec 32 := 0#32
  let v202 : BitVec 1 := Scalar.cmpi .ne v201 c0_i32_185
  let v206 : BitVec 1 := Scalar.andi v205 v202
  let v207 : BitVec 32 := Scalar.addi v201 v200
  let v208 : BitVec 32 := Scalar.select v206 v207 v201
  let c4_i32_188 : BitVec 32 := 4#32
  let v209 : BitVec 1 := Scalar.cmpi .slt v208 c4_i32_188
  let c11_i32_189 : BitVec 32 := 11#32
  let v210 : BitVec 32 := Scalar.subi c11_i32_189 v208
  let v211 : BitVec 32 := Scalar.select v209 v208 v210
  let c256_i32_193 : BitVec 32 := 256#32
  let v217 : BitVec 32 := Scalar.muli v211 c256_i32_193
  let c0_i32_194 : BitVec 32 := 0#32
  let v218 : BitVec 32 := Scalar.addi v217 c0_i32_194
  let v219 : Index := Scalar.indexCast v218
  let c0_195 : Index := 0#32
  ![v219.toNat, 0]
def k0_off3 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_199 : BitVec 32 := 1#32
  let v223 : BitVec 32 := Scalar.addi v5 c1_i32_199
  let c8_i32_200 : BitVec 32 := 8#32
  let c0_i32_201 : BitVec 32 := 0#32
  let v224 : BitVec 1 := Scalar.cmpi .eq c8_i32_200 c0_i32_201
  let c1_i32_202 : BitVec 32 := 1#32
  let v225 : BitVec 32 := Scalar.select v224 c1_i32_202 c8_i32_200
  let v226 : BitVec 32 := Scalar.remsi v223 v225
  let c0_i32_204 : BitVec 32 := 0#32
  let v228 : BitVec 1 := Scalar.cmpi .slt v226 c0_i32_204
  let c0_i32_205 : BitVec 32 := 0#32
  let v229 : BitVec 1 := Scalar.cmpi .slt v225 c0_i32_205
  let v230 : BitVec 1 := Scalar.xori v228 v229
  let c0_i32_203 : BitVec 32 := 0#32
  let v227 : BitVec 1 := Scalar.cmpi .ne v226 c0_i32_203
  let v231 : BitVec 1 := Scalar.andi v230 v227
  let v232 : BitVec 32 := Scalar.addi v226 v225
  let v233 : BitVec 32 := Scalar.select v231 v232 v226
  let c4_i32_206 : BitVec 32 := 4#32
  let v234 : BitVec 1 := Scalar.cmpi .slt v233 c4_i32_206
  let c11_i32_207 : BitVec 32 := 11#32
  let v235 : BitVec 32 := Scalar.subi c11_i32_207 v233
  let v236 : BitVec 32 := Scalar.select v234 v233 v235
  let c256_i32_211 : BitVec 32 := 256#32
  let v242 : BitVec 32 := Scalar.muli v236 c256_i32_211
  let c0_i32_212 : BitVec 32 := 0#32
  let v243 : BitVec 32 := Scalar.addi v242 c0_i32_212
  let v244 : Index := Scalar.indexCast v243
  let c0_213 : Index := 0#32
  ![v244.toNat, 0]
def k0_off4 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi v5 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_22 : BitVec 32 := 0#32
  let v44 : BitVec 1 := Scalar.cmpi .eq v43 c0_i32_22
  let c3_i32_220 : BitVec 32 := 3#32
  let v251 : BitVec 32 := Scalar.addi v5 c3_i32_220
  let c3_i32_221 : BitVec 32 := 3#32
  let v252 : BitVec 32 := Scalar.subi v5 c3_i32_221
  let v253 : BitVec 32 := Scalar.select v44 v251 v252
  let c8_i32_222 : BitVec 32 := 8#32
  let c0_i32_223 : BitVec 32 := 0#32
  let v254 : BitVec 1 := Scalar.cmpi .eq c8_i32_222 c0_i32_223
  let c1_i32_224 : BitVec 32 := 1#32
  let v255 : BitVec 32 := Scalar.select v254 c1_i32_224 c8_i32_222
  let v256 : BitVec 32 := Scalar.remsi v253 v255
  let c0_i32_226 : BitVec 32 := 0#32
  let v258 : BitVec 1 := Scalar.cmpi .slt v256 c0_i32_226
  let c0_i32_227 : BitVec 32 := 0#32
  let v259 : BitVec 1 := Scalar.cmpi .slt v255 c0_i32_227
  let v260 : BitVec 1 := Scalar.xori v258 v259
  let c0_i32_225 : BitVec 32 := 0#32
  let v257 : BitVec 1 := Scalar.cmpi .ne v256 c0_i32_225
  let v261 : BitVec 1 := Scalar.andi v260 v257
  let v262 : BitVec 32 := Scalar.addi v256 v255
  let v263 : BitVec 32 := Scalar.select v261 v262 v256
  let c4_i32_228 : BitVec 32 := 4#32
  let v264 : BitVec 1 := Scalar.cmpi .slt v263 c4_i32_228
  let c11_i32_229 : BitVec 32 := 11#32
  let v265 : BitVec 32 := Scalar.subi c11_i32_229 v263
  let v266 : BitVec 32 := Scalar.select v264 v263 v265
  let c256_i32_233 : BitVec 32 := 256#32
  let v272 : BitVec 32 := Scalar.muli v266 c256_i32_233
  let c0_i32_234 : BitVec 32 := 0#32
  let v273 : BitVec 32 := Scalar.addi v272 c0_i32_234
  let v274 : Index := Scalar.indexCast v273
  let c0_235 : Index := 0#32
  ![v274.toNat, 0]
def k0_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi v5 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_22 : BitVec 32 := 0#32
  let v44 : BitVec 1 := Scalar.cmpi .eq v43 c0_i32_22
  let v_true : BitVec 1 := 1#1
  let v45 : BitVec 1 := Scalar.xori v44 v_true
  let v284 : BitVec 32 := Scalar.extui v45
  let c0_i32_249 : BitVec 32 := 0#32
  let v285 : BitVec 1 := Scalar.cmpi .ne v284 c0_i32_249
  v285

def k0_dev17 (d0 : Dev nD) : Nat :=
  let c0_i32_538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_537 : BitVec 32 := 1#32
  let v552 : BitVec 32 := Scalar.muli v19 c1_i32_537
  let v553 : BitVec 32 := Scalar.addi c0_i32_538 v552
  v553.toNat
def k0_off5 (d0 : Dev nD) (c0_i32_275 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32_262 : BitVec 32 := 2#32
  let v296 : BitVec 32 := Scalar.subi v5 c2_i32_262
  let c8_i32_263 : BitVec 32 := 8#32
  let c0_i32_264 : BitVec 32 := 0#32
  let v297 : BitVec 1 := Scalar.cmpi .eq c8_i32_263 c0_i32_264
  let c1_i32_265 : BitVec 32 := 1#32
  let v298 : BitVec 32 := Scalar.select v297 c1_i32_265 c8_i32_263
  let v299 : BitVec 32 := Scalar.remsi v296 v298
  let c0_i32_267 : BitVec 32 := 0#32
  let v301 : BitVec 1 := Scalar.cmpi .slt v299 c0_i32_267
  let c0_i32_268 : BitVec 32 := 0#32
  let v302 : BitVec 1 := Scalar.cmpi .slt v298 c0_i32_268
  let v303 : BitVec 1 := Scalar.xori v301 v302
  let c0_i32_266 : BitVec 32 := 0#32
  let v300 : BitVec 1 := Scalar.cmpi .ne v299 c0_i32_266
  let v304 : BitVec 1 := Scalar.andi v303 v300
  let v305 : BitVec 32 := Scalar.addi v299 v298
  let v306 : BitVec 32 := Scalar.select v304 v305 v299
  let c4_i32_269 : BitVec 32 := 4#32
  let v307 : BitVec 1 := Scalar.cmpi .slt v306 c4_i32_269
  let c11_i32_270 : BitVec 32 := 11#32
  let v308 : BitVec 32 := Scalar.subi c11_i32_270 v306
  let v309 : BitVec 32 := Scalar.select v307 v306 v308
  let c256_i32_274 : BitVec 32 := 256#32
  let v315 : BitVec 32 := Scalar.muli v309 c256_i32_274
  let v316 : BitVec 32 := Scalar.addi v315 c0_i32_275
  let v317 : Index := Scalar.indexCast v316
  let c0_276 : Index := 0#32
  ![v317.toNat, 0]
def k0_off6 (d0 : Dev nD) (c0_i32_293 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32_280 : BitVec 32 := 2#32
  let v321 : BitVec 32 := Scalar.addi v5 c2_i32_280
  let c8_i32_281 : BitVec 32 := 8#32
  let c0_i32_282 : BitVec 32 := 0#32
  let v322 : BitVec 1 := Scalar.cmpi .eq c8_i32_281 c0_i32_282
  let c1_i32_283 : BitVec 32 := 1#32
  let v323 : BitVec 32 := Scalar.select v322 c1_i32_283 c8_i32_281
  let v324 : BitVec 32 := Scalar.remsi v321 v323
  let c0_i32_285 : BitVec 32 := 0#32
  let v326 : BitVec 1 := Scalar.cmpi .slt v324 c0_i32_285
  let c0_i32_286 : BitVec 32 := 0#32
  let v327 : BitVec 1 := Scalar.cmpi .slt v323 c0_i32_286
  let v328 : BitVec 1 := Scalar.xori v326 v327
  let c0_i32_284 : BitVec 32 := 0#32
  let v325 : BitVec 1 := Scalar.cmpi .ne v324 c0_i32_284
  let v329 : BitVec 1 := Scalar.andi v328 v325
  let v330 : BitVec 32 := Scalar.addi v324 v323
  let v331 : BitVec 32 := Scalar.select v329 v330 v324
  let c4_i32_287 : BitVec 32 := 4#32
  let v332 : BitVec 1 := Scalar.cmpi .slt v331 c4_i32_287
  let c11_i32_288 : BitVec 32 := 11#32
  let v333 : BitVec 32 := Scalar.subi c11_i32_288 v331
  let v334 : BitVec 32 := Scalar.select v332 v331 v333
  let c256_i32_292 : BitVec 32 := 256#32
  let v340 : BitVec 32 := Scalar.muli v334 c256_i32_292
  let v341 : BitVec 32 := Scalar.addi v340 c0_i32_293
  let v342 : Index := Scalar.indexCast v341
  let c0_294 : Index := 0#32
  ![v342.toNat, 0]
def k0_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi v5 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_22 : BitVec 32 := 0#32
  let v44 : BitVec 1 := Scalar.cmpi .eq v43 c0_i32_22
  let v344 : BitVec 32 := Scalar.extui v44
  let c0_i32_300 : BitVec 32 := 0#32
  let v345 : BitVec 1 := Scalar.cmpi .ne v344 c0_i32_300
  v345

def k0_dev18 (d0 : Dev nD) : Nat :=
  let c0_i32_544 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_0 : BitVec 32 := 1#32
  let v6 : BitVec 32 := Scalar.addi v5 c1_i32_0
  let c8_i32_1 : BitVec 32 := 8#32
  let c0_i32 : BitVec 32 := 0#32
  let v7 : BitVec 1 := Scalar.cmpi .eq c8_i32_1 c0_i32
  let c1_i32_2 : BitVec 32 := 1#32
  let v8 : BitVec 32 := Scalar.select v7 c1_i32_2 c8_i32_1
  let v9 : BitVec 32 := Scalar.remsi v6 v8
  let c0_i32_4 : BitVec 32 := 0#32
  let v11 : BitVec 1 := Scalar.cmpi .slt v9 c0_i32_4
  let c0_i32_5 : BitVec 32 := 0#32
  let v12 : BitVec 1 := Scalar.cmpi .slt v8 c0_i32_5
  let v13 : BitVec 1 := Scalar.xori v11 v12
  let c0_i32_3 : BitVec 32 := 0#32
  let v10 : BitVec 1 := Scalar.cmpi .ne v9 c0_i32_3
  let v14 : BitVec 1 := Scalar.andi v13 v10
  let v15 : BitVec 32 := Scalar.addi v9 v8
  let v16 : BitVec 32 := Scalar.select v14 v15 v9
  let c4_i32_6 : BitVec 32 := 4#32
  let v17 : BitVec 1 := Scalar.cmpi .slt v16 c4_i32_6
  let c11_i32_7 : BitVec 32 := 11#32
  let v18 : BitVec 32 := Scalar.subi c11_i32_7 v16
  let v19 : BitVec 32 := Scalar.select v17 v16 v18
  let c1_i32_543 : BitVec 32 := 1#32
  let v559 : BitVec 32 := Scalar.muli v19 c1_i32_543
  let v560 : BitVec 32 := Scalar.addi c0_i32_544 v559
  v560.toNat
def k0_off7 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_549 : BitVec 32 := 4#32
  let v567 : BitVec 32 := Scalar.addi v5 c4_i32_549
  let c8_i32_550 : BitVec 32 := 8#32
  let c0_i32_551 : BitVec 32 := 0#32
  let v568 : BitVec 1 := Scalar.cmpi .eq c8_i32_550 c0_i32_551
  let c1_i32_552 : BitVec 32 := 1#32
  let v569 : BitVec 32 := Scalar.select v568 c1_i32_552 c8_i32_550
  let v570 : BitVec 32 := Scalar.remsi v567 v569
  let c0_i32_554 : BitVec 32 := 0#32
  let v572 : BitVec 1 := Scalar.cmpi .slt v570 c0_i32_554
  let c0_i32_555 : BitVec 32 := 0#32
  let v573 : BitVec 1 := Scalar.cmpi .slt v569 c0_i32_555
  let v574 : BitVec 1 := Scalar.xori v572 v573
  let c0_i32_553 : BitVec 32 := 0#32
  let v571 : BitVec 1 := Scalar.cmpi .ne v570 c0_i32_553
  let v575 : BitVec 1 := Scalar.andi v574 v571
  let v576 : BitVec 32 := Scalar.addi v570 v569
  let v577 : BitVec 32 := Scalar.select v575 v576 v570
  let c4_i32_556 : BitVec 32 := 4#32
  let v578 : BitVec 1 := Scalar.cmpi .slt v577 c4_i32_556
  let c11_i32_557 : BitVec 32 := 11#32
  let v579 : BitVec 32 := Scalar.subi c11_i32_557 v577
  let v580 : BitVec 32 := Scalar.select v578 v577 v579
  let c256_i32_561 : BitVec 32 := 256#32
  let v586 : BitVec 32 := Scalar.muli v580 c256_i32_561
  let c0_i32_562 : BitVec 32 := 0#32
  let v587 : BitVec 32 := Scalar.addi v586 c0_i32_562
  let v588 : Index := Scalar.indexCast v587
  let c0_563 : Index := 0#32
  ![v588.toNat, 0]
def k0_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi v5 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_22 : BitVec 32 := 0#32
  let v44 : BitVec 1 := Scalar.cmpi .eq v43 c0_i32_22
  let v_true : BitVec 1 := 1#1
  let v45 : BitVec 1 := Scalar.xori v44 v_true
  let v346 : BitVec 32 := Scalar.extui v45
  let c0_i32_306 : BitVec 32 := 0#32
  let v347 : BitVec 1 := Scalar.cmpi .ne v346 c0_i32_306
  v347

def k0_dev19 (d0 : Dev nD) : Nat :=
  let c0_i32_544 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_543 : BitVec 32 := 1#32
  let v559 : BitVec 32 := Scalar.muli v33 c1_i32_543
  let v560 : BitVec 32 := Scalar.addi c0_i32_544 v559
  v560.toNat
def k0_off8 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_549 : BitVec 32 := 4#32
  let v567 : BitVec 32 := Scalar.addi v5 c4_i32_549
  let c8_i32_550 : BitVec 32 := 8#32
  let c0_i32_551 : BitVec 32 := 0#32
  let v568 : BitVec 1 := Scalar.cmpi .eq c8_i32_550 c0_i32_551
  let c1_i32_552 : BitVec 32 := 1#32
  let v569 : BitVec 32 := Scalar.select v568 c1_i32_552 c8_i32_550
  let v570 : BitVec 32 := Scalar.remsi v567 v569
  let c0_i32_554 : BitVec 32 := 0#32
  let v572 : BitVec 1 := Scalar.cmpi .slt v570 c0_i32_554
  let c0_i32_555 : BitVec 32 := 0#32
  let v573 : BitVec 1 := Scalar.cmpi .slt v569 c0_i32_555
  let v574 : BitVec 1 := Scalar.xori v572 v573
  let c0_i32_553 : BitVec 32 := 0#32
  let v571 : BitVec 1 := Scalar.cmpi .ne v570 c0_i32_553
  let v575 : BitVec 1 := Scalar.andi v574 v571
  let v576 : BitVec 32 := Scalar.addi v570 v569
  let v577 : BitVec 32 := Scalar.select v575 v576 v570
  let c4_i32_556 : BitVec 32 := 4#32
  let v578 : BitVec 1 := Scalar.cmpi .slt v577 c4_i32_556
  let c11_i32_557 : BitVec 32 := 11#32
  let v579 : BitVec 32 := Scalar.subi c11_i32_557 v577
  let v580 : BitVec 32 := Scalar.select v578 v577 v579
  let c256_i32_561 : BitVec 32 := 256#32
  let v586 : BitVec 32 := Scalar.muli v580 c256_i32_561
  let c128_i32_562 : BitVec 32 := 128#32
  let v587 : BitVec 32 := Scalar.addi v586 c128_i32_562
  let v588 : Index := Scalar.indexCast v587
  let c0_563 : Index := 0#32
  ![v588.toNat, 0]
def k0_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi v5 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_22 : BitVec 32 := 0#32
  let v44 : BitVec 1 := Scalar.cmpi .eq v43 c0_i32_22
  let v364 : BitVec 32 := Scalar.extui v44
  let c0_i32_333 : BitVec 32 := 0#32
  let v365 : BitVec 1 := Scalar.cmpi .ne v364 c0_i32_333
  v365

def k0_dev20 (d0 : Dev nD) : Nat :=
  let c0_i32_538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c1_i32_8 : BitVec 32 := 1#32
  let v20 : BitVec 32 := Scalar.subi v5 c1_i32_8
  let c8_i32_9 : BitVec 32 := 8#32
  let c0_i32_10 : BitVec 32 := 0#32
  let v21 : BitVec 1 := Scalar.cmpi .eq c8_i32_9 c0_i32_10
  let c1_i32_11 : BitVec 32 := 1#32
  let v22 : BitVec 32 := Scalar.select v21 c1_i32_11 c8_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c4_i32_15 : BitVec 32 := 4#32
  let v31 : BitVec 1 := Scalar.cmpi .slt v30 c4_i32_15
  let c11_i32_16 : BitVec 32 := 11#32
  let v32 : BitVec 32 := Scalar.subi c11_i32_16 v30
  let v33 : BitVec 32 := Scalar.select v31 v30 v32
  let c1_i32_537 : BitVec 32 := 1#32
  let v552 : BitVec 32 := Scalar.muli v33 c1_i32_537
  let v553 : BitVec 32 := Scalar.addi c0_i32_538 v552
  v553.toNat
def k0_dev21 (d0 : Dev nD) : Nat :=
  let c0_i32_542 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi v5 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_22 : BitVec 32 := 0#32
  let v44 : BitVec 1 := Scalar.cmpi .eq v43 c0_i32_22
  let c3_i32 : BitVec 32 := 3#32
  let v46 : BitVec 32 := Scalar.addi v5 c3_i32
  let c3_i32_23 : BitVec 32 := 3#32
  let v47 : BitVec 32 := Scalar.subi v5 c3_i32_23
  let v48 : BitVec 32 := Scalar.select v44 v46 v47
  let c8_i32_24 : BitVec 32 := 8#32
  let c0_i32_25 : BitVec 32 := 0#32
  let v49 : BitVec 1 := Scalar.cmpi .eq c8_i32_24 c0_i32_25
  let c1_i32_26 : BitVec 32 := 1#32
  let v50 : BitVec 32 := Scalar.select v49 c1_i32_26 c8_i32_24
  let v51 : BitVec 32 := Scalar.remsi v48 v50
  let c0_i32_28 : BitVec 32 := 0#32
  let v53 : BitVec 1 := Scalar.cmpi .slt v51 c0_i32_28
  let c0_i32_29 : BitVec 32 := 0#32
  let v54 : BitVec 1 := Scalar.cmpi .slt v50 c0_i32_29
  let v55 : BitVec 1 := Scalar.xori v53 v54
  let c0_i32_27 : BitVec 32 := 0#32
  let v52 : BitVec 1 := Scalar.cmpi .ne v51 c0_i32_27
  let v56 : BitVec 1 := Scalar.andi v55 v52
  let v57 : BitVec 32 := Scalar.addi v51 v50
  let v58 : BitVec 32 := Scalar.select v56 v57 v51
  let c4_i32_30 : BitVec 32 := 4#32
  let v59 : BitVec 1 := Scalar.cmpi .slt v58 c4_i32_30
  let c11_i32_31 : BitVec 32 := 11#32
  let v60 : BitVec 32 := Scalar.subi c11_i32_31 v58
  let v61 : BitVec 32 := Scalar.select v59 v58 v60
  let c1_i32_541 : BitVec 32 := 1#32
  let v560 : BitVec 32 := Scalar.muli v61 c1_i32_541
  let v561 : BitVec 32 := Scalar.addi c0_i32_542 v560
  v561.toNat
def k0_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi v5 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_22 : BitVec 32 := 0#32
  let v44 : BitVec 1 := Scalar.cmpi .eq v43 c0_i32_22
  let v_true : BitVec 1 := 1#1
  let v45 : BitVec 1 := Scalar.xori v44 v_true
  let v366 : BitVec 32 := Scalar.extui v45
  let c0_i32_337 : BitVec 32 := 0#32
  let v367 : BitVec 1 := Scalar.cmpi .ne v366 c0_i32_337
  v367

def k0_dev22 (d0 : Dev nD) : Nat :=
  let c0_i32_538 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi v5 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_22 : BitVec 32 := 0#32
  let v44 : BitVec 1 := Scalar.cmpi .eq v43 c0_i32_22
  let c3_i32 : BitVec 32 := 3#32
  let v46 : BitVec 32 := Scalar.addi v5 c3_i32
  let c3_i32_23 : BitVec 32 := 3#32
  let v47 : BitVec 32 := Scalar.subi v5 c3_i32_23
  let v48 : BitVec 32 := Scalar.select v44 v46 v47
  let c8_i32_24 : BitVec 32 := 8#32
  let c0_i32_25 : BitVec 32 := 0#32
  let v49 : BitVec 1 := Scalar.cmpi .eq c8_i32_24 c0_i32_25
  let c1_i32_26 : BitVec 32 := 1#32
  let v50 : BitVec 32 := Scalar.select v49 c1_i32_26 c8_i32_24
  let v51 : BitVec 32 := Scalar.remsi v48 v50
  let c0_i32_28 : BitVec 32 := 0#32
  let v53 : BitVec 1 := Scalar.cmpi .slt v51 c0_i32_28
  let c0_i32_29 : BitVec 32 := 0#32
  let v54 : BitVec 1 := Scalar.cmpi .slt v50 c0_i32_29
  let v55 : BitVec 1 := Scalar.xori v53 v54
  let c0_i32_27 : BitVec 32 := 0#32
  let v52 : BitVec 1 := Scalar.cmpi .ne v51 c0_i32_27
  let v56 : BitVec 1 := Scalar.andi v55 v52
  let v57 : BitVec 32 := Scalar.addi v51 v50
  let v58 : BitVec 32 := Scalar.select v56 v57 v51
  let c4_i32_30 : BitVec 32 := 4#32
  let v59 : BitVec 1 := Scalar.cmpi .slt v58 c4_i32_30
  let c11_i32_31 : BitVec 32 := 11#32
  let v60 : BitVec 32 := Scalar.subi c11_i32_31 v58
  let v61 : BitVec 32 := Scalar.select v59 v58 v60
  let c1_i32_537 : BitVec 32 := 1#32
  let v552 : BitVec 32 := Scalar.muli v61 c1_i32_537
  let v553 : BitVec 32 := Scalar.addi c0_i32_538 v552
  v553.toNat
def k0_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi v5 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_22 : BitVec 32 := 0#32
  let v44 : BitVec 1 := Scalar.cmpi .eq v43 c0_i32_22
  let v418 : BitVec 32 := Scalar.extui v44
  let c0_i32_376 : BitVec 32 := 0#32
  let v419 : BitVec 1 := Scalar.cmpi .ne v418 c0_i32_376
  v419

def k0_off9 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_545 : BitVec 32 := 4#32
  let v560 : BitVec 32 := Scalar.addi v5 c4_i32_545
  let c8_i32_546 : BitVec 32 := 8#32
  let c0_i32_547 : BitVec 32 := 0#32
  let v561 : BitVec 1 := Scalar.cmpi .eq c8_i32_546 c0_i32_547
  let c1_i32_548 : BitVec 32 := 1#32
  let v562 : BitVec 32 := Scalar.select v561 c1_i32_548 c8_i32_546
  let v563 : BitVec 32 := Scalar.remsi v560 v562
  let c0_i32_550 : BitVec 32 := 0#32
  let v565 : BitVec 1 := Scalar.cmpi .slt v563 c0_i32_550
  let c0_i32_551 : BitVec 32 := 0#32
  let v566 : BitVec 1 := Scalar.cmpi .slt v562 c0_i32_551
  let v567 : BitVec 1 := Scalar.xori v565 v566
  let c0_i32_549 : BitVec 32 := 0#32
  let v564 : BitVec 1 := Scalar.cmpi .ne v563 c0_i32_549
  let v568 : BitVec 1 := Scalar.andi v567 v564
  let v569 : BitVec 32 := Scalar.addi v563 v562
  let v570 : BitVec 32 := Scalar.select v568 v569 v563
  let c4_i32_552 : BitVec 32 := 4#32
  let v571 : BitVec 1 := Scalar.cmpi .slt v570 c4_i32_552
  let c11_i32_553 : BitVec 32 := 11#32
  let v572 : BitVec 32 := Scalar.subi c11_i32_553 v570
  let v573 : BitVec 32 := Scalar.select v571 v570 v572
  let c256_i32_557 : BitVec 32 := 256#32
  let v579 : BitVec 32 := Scalar.muli v573 c256_i32_557
  let c128_i32_558 : BitVec 32 := 128#32
  let v580 : BitVec 32 := Scalar.addi v579 c128_i32_558
  let v581 : Index := Scalar.indexCast v580
  let c0_559 : Index := 0#32
  ![v581.toNat, 0]
def k0_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi v5 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_22 : BitVec 32 := 0#32
  let v44 : BitVec 1 := Scalar.cmpi .eq v43 c0_i32_22
  let v_true : BitVec 1 := 1#1
  let v45 : BitVec 1 := Scalar.xori v44 v_true
  let v420 : BitVec 32 := Scalar.extui v45
  let c0_i32_380 : BitVec 32 := 0#32
  let v421 : BitVec 1 := Scalar.cmpi .ne v420 c0_i32_380
  v421

def k0_off10 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c4_i32_545 : BitVec 32 := 4#32
  let v560 : BitVec 32 := Scalar.addi v5 c4_i32_545
  let c8_i32_546 : BitVec 32 := 8#32
  let c0_i32_547 : BitVec 32 := 0#32
  let v561 : BitVec 1 := Scalar.cmpi .eq c8_i32_546 c0_i32_547
  let c1_i32_548 : BitVec 32 := 1#32
  let v562 : BitVec 32 := Scalar.select v561 c1_i32_548 c8_i32_546
  let v563 : BitVec 32 := Scalar.remsi v560 v562
  let c0_i32_550 : BitVec 32 := 0#32
  let v565 : BitVec 1 := Scalar.cmpi .slt v563 c0_i32_550
  let c0_i32_551 : BitVec 32 := 0#32
  let v566 : BitVec 1 := Scalar.cmpi .slt v562 c0_i32_551
  let v567 : BitVec 1 := Scalar.xori v565 v566
  let c0_i32_549 : BitVec 32 := 0#32
  let v564 : BitVec 1 := Scalar.cmpi .ne v563 c0_i32_549
  let v568 : BitVec 1 := Scalar.andi v567 v564
  let v569 : BitVec 32 := Scalar.addi v563 v562
  let v570 : BitVec 32 := Scalar.select v568 v569 v563
  let c4_i32_552 : BitVec 32 := 4#32
  let v571 : BitVec 1 := Scalar.cmpi .slt v570 c4_i32_552
  let c11_i32_553 : BitVec 32 := 11#32
  let v572 : BitVec 32 := Scalar.subi c11_i32_553 v570
  let v573 : BitVec 32 := Scalar.select v571 v570 v572
  let c256_i32_557 : BitVec 32 := 256#32
  let v579 : BitVec 32 := Scalar.muli v573 c256_i32_557
  let c0_i32_558 : BitVec 32 := 0#32
  let v580 : BitVec 32 := Scalar.addi v579 c0_i32_558
  let v581 : Index := Scalar.indexCast v580
  let c0_559 : Index := 0#32
  ![v581.toNat, 0]
def k0_off11 (d0 : Dev nD) (c0_i32_404 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi v5 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_22 : BitVec 32 := 0#32
  let v44 : BitVec 1 := Scalar.cmpi .eq v43 c0_i32_22
  let c3_i32_381 : BitVec 32 := 3#32
  let v422 : BitVec 32 := Scalar.subi v5 c3_i32_381
  let c3_i32_382 : BitVec 32 := 3#32
  let v423 : BitVec 32 := Scalar.addi v5 c3_i32_382
  let v424 : BitVec 32 := Scalar.select v44 v422 v423
  let c8_i32_383 : BitVec 32 := 8#32
  let c0_i32_384 : BitVec 32 := 0#32
  let v425 : BitVec 1 := Scalar.cmpi .eq c8_i32_383 c0_i32_384
  let c1_i32_385 : BitVec 32 := 1#32
  let v426 : BitVec 32 := Scalar.select v425 c1_i32_385 c8_i32_383
  let v427 : BitVec 32 := Scalar.remsi v424 v426
  let c0_i32_387 : BitVec 32 := 0#32
  let v429 : BitVec 1 := Scalar.cmpi .slt v427 c0_i32_387
  let c0_i32_388 : BitVec 32 := 0#32
  let v430 : BitVec 1 := Scalar.cmpi .slt v426 c0_i32_388
  let v431 : BitVec 1 := Scalar.xori v429 v430
  let c0_i32_386 : BitVec 32 := 0#32
  let v428 : BitVec 1 := Scalar.cmpi .ne v427 c0_i32_386
  let v432 : BitVec 1 := Scalar.andi v431 v428
  let v433 : BitVec 32 := Scalar.addi v427 v426
  let v434 : BitVec 32 := Scalar.select v432 v433 v427
  let c4_i32_389 : BitVec 32 := 4#32
  let v435 : BitVec 1 := Scalar.cmpi .slt v434 c4_i32_389
  let c11_i32_390 : BitVec 32 := 11#32
  let v436 : BitVec 32 := Scalar.subi c11_i32_390 v434
  let v437 : BitVec 32 := Scalar.select v435 v434 v436
  let c256_i32_403 : BitVec 32 := 256#32
  let v450 : BitVec 32 := Scalar.muli v437 c256_i32_403
  let v451 : BitVec 32 := Scalar.addi v450 c0_i32_404
  let v452 : Index := Scalar.indexCast v451
  let c0_405 : Index := 0#32
  ![v452.toNat, 0]
def k0_off12 (d0 : Dev nD) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v3 : BitVec 1 := Scalar.cmpi .slt v2 c4_i32
  let c11_i32 : BitVec 32 := 11#32
  let v4 : BitVec 32 := Scalar.subi c11_i32 v2
  let v5 : BitVec 32 := Scalar.select v3 v2 v4
  let c2_i32 : BitVec 32 := 2#32
  let c0_i32_17 : BitVec 32 := 0#32
  let v34 : BitVec 1 := Scalar.cmpi .eq c2_i32 c0_i32_17
  let c1_i32_18 : BitVec 32 := 1#32
  let v35 : BitVec 32 := Scalar.select v34 c1_i32_18 c2_i32
  let v36 : BitVec 32 := Scalar.remsi v5 v35
  let c0_i32_20 : BitVec 32 := 0#32
  let v38 : BitVec 1 := Scalar.cmpi .slt v36 c0_i32_20
  let c0_i32_21 : BitVec 32 := 0#32
  let v39 : BitVec 1 := Scalar.cmpi .slt v35 c0_i32_21
  let v40 : BitVec 1 := Scalar.xori v38 v39
  let c0_i32_19 : BitVec 32 := 0#32
  let v37 : BitVec 1 := Scalar.cmpi .ne v36 c0_i32_19
  let v41 : BitVec 1 := Scalar.andi v40 v37
  let v42 : BitVec 32 := Scalar.addi v36 v35
  let v43 : BitVec 32 := Scalar.select v41 v42 v36
  let c0_i32_22 : BitVec 32 := 0#32
  let v44 : BitVec 1 := Scalar.cmpi .eq v43 c0_i32_22
  let c3_i32_381 : BitVec 32 := 3#32
  let v422 : BitVec 32 := Scalar.subi v5 c3_i32_381
  let c3_i32_382 : BitVec 32 := 3#32
  let v423 : BitVec 32 := Scalar.addi v5 c3_i32_382
  let v424 : BitVec 32 := Scalar.select v44 v422 v423
  let c8_i32_383 : BitVec 32 := 8#32
  let c0_i32_384 : BitVec 32 := 0#32
  let v425 : BitVec 1 := Scalar.cmpi .eq c8_i32_383 c0_i32_384
  let c1_i32_385 : BitVec 32 := 1#32
  let v426 : BitVec 32 := Scalar.select v425 c1_i32_385 c8_i32_383
  let v427 : BitVec 32 := Scalar.remsi v424 v426
  let c0_i32_387 : BitVec 32 := 0#32
  let v429 : BitVec 1 := Scalar.cmpi .slt v427 c0_i32_387
  let c0_i32_388 : BitVec 32 := 0#32
  let v430 : BitVec 1 := Scalar.cmpi .slt v426 c0_i32_388
  let v431 : BitVec 1 := Scalar.xori v429 v430
  let c0_i32_386 : BitVec 32 := 0#32
  let v428 : BitVec 1 := Scalar.cmpi .ne v427 c0_i32_386
  let v432 : BitVec 1 := Scalar.andi v431 v428
  let v433 : BitVec 32 := Scalar.addi v427 v426
  let v434 : BitVec 32 := Scalar.select v432 v433 v427
  let c4_i32_389 : BitVec 32 := 4#32
  let v435 : BitVec 1 := Scalar.cmpi .slt v434 c4_i32_389
  let c11_i32_390 : BitVec 32 := 11#32
  let v436 : BitVec 32 := Scalar.subi c11_i32_390 v434
  let v437 : BitVec 32 := Scalar.select v435 v434 v436
  let c256_i32_417 : BitVec 32 := 256#32
  let v466 : BitVec 32 := Scalar.muli v437 c256_i32_417
  let c88_i32_418 : BitVec 32 := 88#32
  let v467 : BitVec 32 := Scalar.addi v466 c88_i32_418
  let v468 : Index := Scalar.indexCast v467
  let c0_419 : Index := 0#32
  ![v468.toNat, 0]
abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2048x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S2048x2048 : Shape := ⟨2, ![2048, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S2048x2048, .f32⟩
  | .hbm, ⟨1, _⟩ => ⟨S2048x2048, .f32⟩
  | .hbm, ⟨2, _⟩ => ⟨S2048x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S2048x2048, .f32⟩
  | .hbm, ⟨7, _⟩ => ⟨S2048x2048, .f32⟩
  | .hbm, ⟨8, _⟩ => ⟨S_, .f32⟩
  | .hbm, ⟨9, _⟩ => ⟨S2048x2048, .f32⟩
  | .hbm, ⟨10, _⟩ => ⟨S2048x2048, .f32⟩
  | .hbm, ⟨11, _⟩ => ⟨S2048x2048, .f32⟩
  | .hbm, ⟨12, _⟩ => ⟨S2048x2048, .f32⟩
  | .hbm, ⟨13, _⟩ => ⟨S_, .f32⟩
  | .hbm, ⟨14, _⟩ => ⟨S2048x2048, .f32⟩
  | .hbm, ⟨15, _⟩ => ⟨S2048x2048, .f32⟩
  | .hbm, ⟨16, _⟩ => ⟨S2048x2048, .f32⟩
  | _, _ => ⟨S2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Base.lean ====
/-
# Places on the ring, pieces of the buffers, and what each piece holds

The eight devices stand on a ring; device `c` has the place `c` for `c < 4` and `11 - c` otherwise.
This file names the devices at a given distance on that ring, the contents every buffer comes to
hold, and the pieces (ranges of rows, at a share) in which the buffers are handed about.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueLayout
public import Idealize.ShloMosaic.Lib.Pointwise.Index
public import Idealize.ShloMosaic.Lib.Pipeline.Value

@[expose] public section

noncomputable section

namespace Cert.RingProof

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The ghost state of the semaphore rounds, up to three duties to a round. -/
abbrev UB : Type := URounds (GSem nD τ sig) (Fin 3)
/-- The ghost state: the pipeline's, and the rounds'. -/
abbrev UU : Type := UR sig nD τ × UB

local notation "𝕄" => MT nD τ sig Unit (Elt F) ℕ UU ℕ

/-- The pipeline's ghost state sits on the left. -/
abbrev EP : Emb (UR sig nD τ) (MT nD τ sig Unit (Elt F) ℕ UU ℕ) := embL
/-- The rounds' ghost state sits on the right. -/
abbrev ER : Emb UB (MT nD τ sig Unit (Elt F) ℕ UU ℕ) := embR

variable (m : (ℓ : Loc nD τ sig) → Buf (Elt F) ℓ) (ρ : Dev nD → PrngReg)

/-- The memory at launch: arbitrary contents, every semaphore counter zero. -/
def s₀ : MemSt nD τ sig (Elt F) := ⟨m, fun _ => 0, ρ⟩

/-! ## The ring -/

/-- The place of a device on the ring, and the device at a place: one involution. -/
def plc (c : Dev nD) : ℕ := if c.val < 4 then c.val else 11 - c.val
/-- A place is below 8. -/
theorem plc_lt (c : Dev nD) : plc c < 8 := by unfold plc; have := c.isLt; revert c; decide
set_option backward.proofsInPublic true in
/-- The device `n` places after `c`. -/
def rel (c : Dev nD) (n : ℕ) : Dev nD :=
  ⟨if (plc c + n) % 8 < 4 then (plc c + n) % 8 else 11 - (plc c + n) % 8, by
    have : (plc c + n) % 8 < 8 := Nat.mod_lt _ (by decide)
    show _ < 8
    split <;> omega⟩
/-- Whether `c`'s place is even. -/
def ev (c : Dev nD) : Bool := plc c % 2 == 0

/-- The right neighbour on the ring. -/
abbrev rgt (c : Dev nD) : Dev nD := rel c 1
/-- The left neighbour on the ring. -/
abbrev lft (c : Dev nD) : Dev nD := rel c 7
/-- The partner: three places after an even place, three before an odd one. -/
def ptn (c : Dev nD) : Dev nD := rel c (if ev c then 3 else 5)
/-- The eighth device, three places before an even place, three after an odd one. -/
def far (c : Dev nD) : Dev nD := rel c (if ev c then 5 else 3)

/-- The left neighbour of the right neighbour is the device itself. -/
theorem lft_rgt (c : Dev nD) : lft (rgt c) = c := by revert c; decide
/-- The right neighbour of the left neighbour is the device itself. -/
theorem rgt_lft (c : Dev nD) : rgt (lft c) = c := by revert c; decide
/-- The partner of the partner is the device itself. -/
theorem ptn_ptn (c : Dev nD) : ptn (ptn c) = c := by revert c; decide
/-- The right neighbour's place has the other parity. -/
theorem ev_rgt (c : Dev nD) : ev (rgt c) = !ev c := by revert c; decide
/-- The left neighbour's place has the other parity. -/
theorem ev_lft (c : Dev nD) : ev (lft c) = !ev c := by revert c; decide
/-- The partner's place has the other parity. -/
theorem ev_ptn (c : Dev nD) : ev (ptn c) = !ev c := by revert c; decide

/-! ## Contents -/

/-- The block of `x` device `c` starts with. -/
def X (c : Dev nD) : S256x2048.Idx → Elt F .f32 :=
  (win0_0.blk t0_0).view.read (Elt F) ((s₀ m ρ).mem ((c : Thread nD τ).loc main_arg0))
/-- The block of `w` device `c` starts with. -/
def Wc (c : Dev nD) : S2048x256.Idx → Elt F .f32 :=
  (win0_1.blk t0_0).view.read (Elt F) ((s₀ m ρ).mem ((c : Thread nD τ).loc main_arg1))

/-- Rows `a` onwards of a block, `n` of them (read modulo 256, which no use reaches). -/
def rows (Y : S256x2048.Idx → Elt F .f32) (a n : ℕ) : (⟨2, ![n, 2048]⟩ : Shape).Idx → Elt F .f32 :=
  fun j => Y (ix2 ⟨(a + (j 0).val) % 256, Nat.mod_lt _ (by decide)⟩ (j 1))

/-- Two blocks stacked in a pair of slots. -/
def pair (Y Z : S256x2048.Idx → Elt F .f32) : S2x256x2048.Idx → Elt F .f32 :=
  fun i => if (i 0).val = 0 then Y (ix2 (i 1) (i 2)) else Z (ix2 (i 1) (i 2))

/-- What device `c`'s forward slots come to hold: the blocks of the devices one and two before. -/
def FW (c : Dev nD) : S2x256x2048.Idx → Elt F .f32 := pair (X m ρ (rel c 7)) (X m ρ (rel c 6))
/-- The backward slots: the blocks of the devices one and two after. -/
def BW (c : Dev nD) : S2x256x2048.Idx → Elt F .f32 := pair (X m ρ (rel c 1)) (X m ρ (rel c 2))
/-- The far pieces, as buffers of their own. -/
def F1 (c : Dev nD) : S88x2048.Idx → Elt F .f32 := rows (X m ρ (far c)) 0 88
/-- Rows 88 to 168 of the eighth device's block. -/
def F2 (c : Dev nD) : S80x2048.Idx → Elt F .f32 := rows (X m ρ (far c)) 88 80
/-- Rows 168 to 256 of the eighth device's block. -/
def F3 (c : Dev nD) : S88x2048.Idx → Elt F .f32 := rows (X m ρ (far c)) 168 88

/-! ## Row ranges of the buffers -/

/-- Rows `a ≤ r < b` of slot `s` of a pair of slots. -/
def R3 (s a b : ℕ) : Finset S2x256x2048.Idx := Finset.univ.filter fun i => (i 0).val = s ∧ a ≤ (i 1).val ∧ (i 1).val < b
/-- Rows `a ≤ r < b` of a block. -/
def R2 (a b : ℕ) : Finset S256x2048.Idx := Finset.univ.filter fun i => a ≤ (i 0).val ∧ (i 0).val < b

/-- An index is in `R3 s a b` when it is in slot `s` and its row is from `a` up to `b`. -/
theorem mem_R3 (s a b : ℕ) (i : S2x256x2048.Idx) : i ∈ R3 s a b ↔ (i 0).val = s ∧ a ≤ (i 1).val ∧ (i 1).val < b := by
  unfold R3; rw [Finset.mem_filter]; exact ⟨fun h => h.2, fun h => ⟨Finset.mem_univ _, h⟩⟩
/-- An index is in `R2 a b` when its row is from `a` up to `b`. -/
theorem mem_R2 (a b : ℕ) (i : S256x2048.Idx) : i ∈ R2 a b ↔ a ≤ (i 0).val ∧ (i 0).val < b := by
  unfold R2; rw [Finset.mem_filter]; exact ⟨fun h => h.2, fun h => ⟨Finset.mem_univ _, h⟩⟩

/-- Rows `a` to `b` of a slot are rows `a` to `k` and rows `k` to `b`. -/
theorem R3_mem (s a k b : ℕ) (h₁ : a ≤ k) (h₂ : k ≤ b) (i : S2x256x2048.Idx) : i ∈ R3 s a b ↔ i ∈ R3 s a k ∨ i ∈ R3 s k b := by
  rw [mem_R3, mem_R3, mem_R3]; omega
/-- Rows `a` to `k` and rows `k` to `b` of a slot share no index. -/
theorem R3_not (s a k b : ℕ) (i : S2x256x2048.Idx) (h : i ∈ R3 s a k) (h' : i ∈ R3 s k b) : False := by
  rw [mem_R3] at h h'; omega
/-- Rows `a` to `b` are rows `a` to `k` and rows `k` to `b`. -/
theorem R2_mem (a k b : ℕ) (h₁ : a ≤ k) (h₂ : k ≤ b) (i : S256x2048.Idx) : i ∈ R2 a b ↔ i ∈ R2 a k ∨ i ∈ R2 k b := by
  rw [mem_R2, mem_R2, mem_R2]; omega
/-- Rows `a` to `k` and rows `k` to `b` share no index. -/
theorem R2_not (a k b : ℕ) (i : S256x2048.Idx) (h : i ∈ R2 a k) (h' : i ∈ R2 k b) : False := by
  rw [mem_R2] at h h'; omega
/-- Every index of a two-slot buffer is in one slot or the other. -/
theorem R3_all (i : S2x256x2048.Idx) : i ∈ R3 0 0 256 ∨ i ∈ R3 1 0 256 := by
  rw [mem_R3, mem_R3]
  have h0 : (i 0).val < 2 := (i 0).isLt
  have h1 : (i 1).val < 256 := (i 1).isLt
  omega
/-- No index is in both slots. -/
theorem R3_sep (i : S2x256x2048.Idx) (h : i ∈ R3 0 0 256) (h' : i ∈ R3 1 0 256) : False := by
  rw [mem_R3] at h h'; omega
/-- Every index of a 256-row buffer is among rows 0 to 256. -/
theorem R2_all (i : S256x2048.Idx) : i ∈ R2 0 256 := by
  rw [mem_R2]
  have h1 : (i 0).val < 256 := (i 0).isLt
  omega

/-- The rectangle of `n` rows from `a` in slot `s`, as a row range. -/
theorem set_rect3 (s a n : ℕ) (inb) :
    (Rect.unit (s := S2x256x2048) ![s, a, 0] (⟨3, ![1, n, 2048]⟩ : Shape).size inb).set = R3 s a (a + n) := by
  ext i
  rw [mem_R3, Rect.mem_set_unit]
  constructor
  · intro h
    have h0 := h 0; have h1 := h 1
    change s ≤ (i 0).val ∧ (i 0).val < s + 1 at h0
    change a ≤ (i 1).val ∧ (i 1).val < a + n at h1
    omega
  · rintro ⟨h0, h1, h2⟩ ax
    have h3 : (i 2).val < 2048 := (i 2).isLt
    match ax with
    | ⟨0, _⟩ => exact (show s ≤ (i 0).val ∧ (i 0).val < s + 1 by omega)
    | ⟨1, _⟩ => exact (show a ≤ (i 1).val ∧ (i 1).val < a + n by omega)
    | ⟨2, _⟩ => exact (show 0 ≤ (i 2).val ∧ (i 2).val < 0 + 2048 by omega)
/-- The rectangle of `n` rows from `a` in a block, as a row range. -/
theorem set_rect2 (a n : ℕ) (inb) :
    (Rect.unit (s := S256x2048) ![a, 0] (⟨2, ![n, 2048]⟩ : Shape).size inb).set = R2 a (a + n) := by
  ext i
  rw [mem_R2, Rect.mem_set_unit]
  constructor
  · intro h
    exact h 0
  · rintro ⟨h1, h2⟩ ax
    have h3 : (i 1).val < 2048 := (i 1).isLt
    match ax with
    | ⟨0, _⟩ => exact (show a ≤ (i 0).val ∧ (i 0).val < a + n by omega)
    | ⟨1, _⟩ => exact (show 0 ≤ (i 1).val ∧ (i 1).val < 0 + 2048 by omega)

/-! ## Views of row ranges -/

omit [FloatOps F] in
/-- A squeezed slice of `n` rows from `a` in slot `s` of a pair of slots reads those rows. -/
theorem read_sq3 (M : Memref sig .tc .vmem S2x256x2048 .f32) (s a n : ℕ) (hs : s < 2) (inb : ∀ x, (![s, a, 0] : Fin 3 → ℕ) x + (⟨3, ![1, n, 2048]⟩ : Shape).size x ≤ S2x256x2048.size x) (hr : ∀ x, (Rect.unit (s := S2x256x2048) ![s, a, 0] (⟨3, ![1, n, 2048]⟩ : Shape).size inb).stride x = 1)
    (hq : (Rect.unit (s := S2x256x2048) ![s, a, 0] (⟨3, ![1, n, 2048]⟩ : Shape).size inb).shape.Squeezes (⟨2, ![n, 2048]⟩ : Shape))
    (f : M.view.ty.Contents (Elt F)) (j : (⟨2, ![n, 2048]⟩ : Shape).Idx) (ha : a + (j 0).val < 256) :
    ((M.slice (Rect.unit (s := S2x256x2048) ![s, a, 0] (⟨3, ![1, n, 2048]⟩ : Shape).size inb) hr).squeeze (⟨2, ![n, 2048]⟩ : Shape) hq).view.read (Elt F) f j
      = M.view.read (Elt F) f (ix3 ⟨s, hs⟩ ⟨a + (j 0).val, ha⟩ (j 1)) := by
  have hc : (⟨3, ![1, n, 2048]⟩ : Shape).ShapeCasts ⟨2, ![n, 2048]⟩ := by
    unfold Shape.ShapeCasts; exact hq.numel_eq
  have h := ValueIdx.shapeCast_1ab_ab_apply (M.view.readAt (Elt F) (Rect.unit (s := S2x256x2048) ![s, a, 0] (⟨3, ![1, n, 2048]⟩ : Shape).size inb).toLoadRect f) hc (j 0) (j 1)
  refine ((congrArg _ (eq_ix2 (n0 := n) (n1 := 2048) j)).trans h).trans ?_
  refine congrArg (M.view.read (Elt F) f) (funext fun ax => Fin.ext ?_)
  match ax with
  | ⟨0, _⟩ => show s + 1 * 0 = s; omega
  | ⟨1, _⟩ => show a + 1 * (j 0).val = a + (j 0).val; omega
  | ⟨2, _⟩ => show 0 + 1 * (j 1).val = (j 1).val; omega

omit [FloatOps F] in
/-- A slice of `n` rows from `a` of a block reads those rows. -/
theorem read_sl2 (M : Memref sig .tc .vmem S256x2048 .f32) (a n : ℕ) (inb : ∀ x, (![a, 0] : Fin 2 → ℕ) x + (⟨2, ![n, 2048]⟩ : Shape).size x ≤ S256x2048.size x) (hr : ∀ x, (Rect.unit (s := S256x2048) ![a, 0] (⟨2, ![n, 2048]⟩ : Shape).size inb).stride x = 1)
    (f : M.view.ty.Contents (Elt F)) (j : (⟨2, ![n, 2048]⟩ : Shape).Idx) (ha : a + (j 0).val < 256) :
    (M.slice (Rect.unit (s := S256x2048) ![a, 0] (⟨2, ![n, 2048]⟩ : Shape).size inb) hr).view.read (Elt F) f j
      = M.view.read (Elt F) f (ix2 ⟨a + (j 0).val, ha⟩ (j 1)) := by
  refine congrArg (M.view.read (Elt F) f) (funext fun ax => Fin.ext ?_)
  match ax with
  | ⟨0, _⟩ => show a + 1 * (j 0).val = a + (j 0).val; omega
  | ⟨1, _⟩ => show 0 + 1 * (j 1).val = (j 1).val; omega

omit [FloatOps F] in
/-- Row `r` of the rows cut out of `Y` from `a` is row `a + r` of `Y`. -/
theorem rows_apply (Y : S256x2048.Idx → Elt F .f32) (a n : ℕ) (j : (⟨2, ![n, 2048]⟩ : Shape).Idx) (ha : a + (j 0).val < 256) :
    rows Y a n j = Y (ix2 ⟨a + (j 0).val, ha⟩ (j 1)) := by
  unfold rows; exact congrArg Y (congrArg (ix2 · (j 1)) (Fin.ext (Nat.mod_eq_of_lt ha)))

/-- The forward ring's two-slot buffer. -/
abbrev mFW : Memref sig .tc .vmem S2x256x2048 .f32 := Memref.whole cc0_scratch0
/-- The backward ring's two-slot buffer. -/
abbrev mBW : Memref sig .tc .vmem S2x256x2048 .f32 := Memref.whole cc0_scratch1
/-- The buffer for the block that is four places away. -/
abbrev mAN : Memref sig .tc .vmem S256x2048 .f32 := Memref.whole cc0_scratch2
/-- The buffer for the partner's block. -/
abbrev mCH : Memref sig .tc .vmem S256x2048 .f32 := Memref.whole cc0_scratch3
/-- The buffer for the first 88 rows of the eighth device's block. -/
abbrev mF1 : Memref sig .tc .vmem S88x2048 .f32 := Memref.whole cc0_scratch4
/-- The buffer for the middle 80 rows of the eighth device's block. -/
abbrev mF2 : Memref sig .tc .vmem S80x2048 .f32 := Memref.whole cc0_scratch5
/-- The buffer for the last 88 rows of the eighth device's block. -/
abbrev mF3 : Memref sig .tc .vmem S88x2048 .f32 := Memref.whole cc0_scratch6
/-- The window on the device's block of `x`. -/
abbrev mX : Memref sig .tc .vmem S256x2048 .f32 := Memref.whole cc0_stg0_0
/-- The window on the device's columns of `w`. -/
abbrev mW : Memref sig .tc .vmem S2048x256 .f32 := Memref.whole cc0_stg1_0
/-- The window on the device's columns of the result. -/
abbrev mO : Memref sig .tc .vmem S2048x256 .f32 := Memref.whole cc0_stg2_0

/-- `n` rows from `a` in slot `s` of a pair of slots. -/
abbrev v3 (M : Memref sig .tc .vmem S2x256x2048 .f32) (s a n : ℕ) (inb : ∀ x, (![s, a, 0] : Fin 3 → ℕ) x + (⟨3, ![1, n, 2048]⟩ : Shape).size x ≤ S2x256x2048.size x) (hr : ∀ x, (Rect.unit (s := S2x256x2048) ![s, a, 0] (⟨3, ![1, n, 2048]⟩ : Shape).size inb).stride x = 1)
    (hq : (Rect.unit (s := S2x256x2048) ![s, a, 0] (⟨3, ![1, n, 2048]⟩ : Shape).size inb).shape.Squeezes (⟨2, ![n, 2048]⟩ : Shape)) : Memref sig .tc .vmem ⟨2, ![n, 2048]⟩ .f32 :=
  (M.slice (Rect.unit (s := S2x256x2048) ![s, a, 0] (⟨3, ![1, n, 2048]⟩ : Shape).size inb) hr).squeeze (⟨2, ![n, 2048]⟩ : Shape) hq
/-- `n` rows from `a` of a block. -/
abbrev v2 (M : Memref sig .tc .vmem S256x2048 .f32) (a n : ℕ) (inb : ∀ x, (![a, 0] : Fin 2 → ℕ) x + (⟨2, ![n, 2048]⟩ : Shape).size x ≤ S256x2048.size x) (hr : ∀ x, (Rect.unit (s := S256x2048) ![a, 0] (⟨2, ![n, 2048]⟩ : Shape).size inb).stride x = 1) : Memref sig .tc .vmem ⟨2, ![n, 2048]⟩ .f32 :=
  M.slice (Rect.unit (s := S256x2048) ![a, 0] (⟨2, ![n, 2048]⟩ : Shape).size inb) hr

/-- The view of `n` rows from `a` in slot `s` of the forward buffer covers rows `a` to `a + n` of that slot. -/
theorem set_v3F (s a n : ℕ) (inb : ∀ x, (![s, a, 0] : Fin 3 → ℕ) x + (⟨3, ![1, n, 2048]⟩ : Shape).size x ≤ S2x256x2048.size x) (hr : ∀ x, (Rect.unit (s := S2x256x2048) ![s, a, 0] (⟨3, ![1, n, 2048]⟩ : Shape).size inb).stride x = 1)
    (hq : (Rect.unit (s := S2x256x2048) ![s, a, 0] (⟨3, ![1, n, 2048]⟩ : Shape).size inb).shape.Squeezes (⟨2, ![n, 2048]⟩ : Shape)) : (v3 mFW s a n inb hr hq).view.set = R3 s a (a + n) :=
  (View.set_reshape _ _).trans ((View.set_slice_whole _ _).trans (set_rect3 s a n inb))
/-- The view of `n` rows from `a` in slot `s` of the backward buffer covers rows `a` to `a + n` of that slot. -/
theorem set_v3B (s a n : ℕ) (inb : ∀ x, (![s, a, 0] : Fin 3 → ℕ) x + (⟨3, ![1, n, 2048]⟩ : Shape).size x ≤ S2x256x2048.size x) (hr : ∀ x, (Rect.unit (s := S2x256x2048) ![s, a, 0] (⟨3, ![1, n, 2048]⟩ : Shape).size inb).stride x = 1)
    (hq : (Rect.unit (s := S2x256x2048) ![s, a, 0] (⟨3, ![1, n, 2048]⟩ : Shape).size inb).shape.Squeezes (⟨2, ![n, 2048]⟩ : Shape)) : (v3 mBW s a n inb hr hq).view.set = R3 s a (a + n) :=
  (View.set_reshape _ _).trans ((View.set_slice_whole _ _).trans (set_rect3 s a n inb))
/-- The view of `n` rows from `a` in the `mAN` buffer covers rows `a` to `a + n`. -/
theorem set_v2A (a n : ℕ) (inb : ∀ x, (![a, 0] : Fin 2 → ℕ) x + (⟨2, ![n, 2048]⟩ : Shape).size x ≤ S256x2048.size x) (hr : ∀ x, (Rect.unit (s := S256x2048) ![a, 0] (⟨2, ![n, 2048]⟩ : Shape).size inb).stride x = 1) : (v2 mAN a n inb hr).view.set = R2 a (a + n) :=
  (View.set_slice_whole _ _).trans (set_rect2 a n inb)
/-- The view of `n` rows from `a` in the window on `x` covers rows `a` to `a + n`. -/
theorem set_v2X (a n : ℕ) (inb : ∀ x, (![a, 0] : Fin 2 → ℕ) x + (⟨2, ![n, 2048]⟩ : Shape).size x ≤ S256x2048.size x) (hr : ∀ x, (Rect.unit (s := S256x2048) ![a, 0] (⟨2, ![n, 2048]⟩ : Shape).size inb).stride x = 1) : (v2 mX a n inb hr).view.set = R2 a (a + n) :=
  (View.set_slice_whole _ _).trans (set_rect2 a n inb)

omit [FloatOps F] in
/-- With `Y` and `Z` in the two slots, the view of rows of slot `s` reads those rows of `Y` or of `Z`. -/
theorem read_pair (M : Memref sig .tc .vmem S2x256x2048 .f32) (Y Z : S256x2048.Idx → Elt F .f32) (f : M.view.ty.Contents (Elt F))
    (hf : M.view.read (Elt F) f = pair Y Z) (s a n : ℕ) (hs : s < 2) (hn : a + n ≤ 256) (inb : ∀ x, (![s, a, 0] : Fin 3 → ℕ) x + (⟨3, ![1, n, 2048]⟩ : Shape).size x ≤ S2x256x2048.size x) (hr : ∀ x, (Rect.unit (s := S2x256x2048) ![s, a, 0] (⟨3, ![1, n, 2048]⟩ : Shape).size inb).stride x = 1)
    (hq : (Rect.unit (s := S2x256x2048) ![s, a, 0] (⟨3, ![1, n, 2048]⟩ : Shape).size inb).shape.Squeezes (⟨2, ![n, 2048]⟩ : Shape)) :
    (v3 M s a n inb hr hq).view.read (Elt F) f = rows (if s = 0 then Y else Z) a n := by
  funext j
  have hj : (j 0).val < n := (j 0).isLt
  have ha : a + (j 0).val < 256 := by omega
  rw [read_sq3 M s a n hs inb hr hq f j ha, hf, rows_apply _ a n j ha]
  unfold pair
  show (if s = 0 then _ else _) = _
  by_cases h : s = 0
  · rw [if_pos h, if_pos h]; rfl
  · rw [if_neg h, if_neg h]; rfl
/-- With `Y` in the buffer, the view of rows from `a` reads those rows of `Y`. -/
theorem read_v2 (M : Memref sig .tc .vmem S256x2048 .f32) (Y : S256x2048.Idx → Elt F .f32) (f : M.view.ty.Contents (Elt F))
    (hf : M.view.read (Elt F) f = Y) (a n : ℕ) (hn : a + n ≤ 256) (inb : ∀ x, (![a, 0] : Fin 2 → ℕ) x + (⟨2, ![n, 2048]⟩ : Shape).size x ≤ S256x2048.size x) (hr : ∀ x, (Rect.unit (s := S256x2048) ![a, 0] (⟨2, ![n, 2048]⟩ : Shape).size inb).stride x = 1) :
    (v2 M a n inb hr).view.read (Elt F) f = rows Y a n := by
  funext j
  have hj : (j 0).val < n := (j 0).isLt
  have ha : a + (j 0).val < 256 := by omega
  rw [read_sl2 M a n inb hr f j ha, hf, rows_apply _ a n j ha]

omit [FloatOps F] in
/-- What lands on a view is whatever contents read there as what was sent. -/
theorem land (c : Dev nD) {s : Shape} (M : Memref sig .tc .vmem s .f32) (fd g : Buf (Elt F) (M.view.loc (c : Thread nD τ)))
    (w : s.Idx → Elt F .f32) (h : M.view.read (Elt F) g = w) :
    (M.view.loc (c : Thread nD τ) ↦[M.view.set]{fullShare} (M.view.write (Elt F) fd w Finset.univ) : sProp 𝕄)
      = (M.view.loc (c : Thread nD τ) ↦[M.view.set]{fullShare} g) := by
  refine pointsTo_congr fun i hi => ?_
  obtain ⟨j, rfl⟩ := View.exists_emb_of_mem_set _ hi
  subst h
  exact (View.write_emb_of_mem _ _ (Finset.mem_univ j)).trans (by rw [View.read_apply]; simp)

end Cert.RingProof

end
-- ==== Proof.Schedule.lean ====
/-
# The protocol: fourteen copies per device, a barrier, and who waits for what

Every device sends fourteen copies: five to the device after it, five to the device before it, four to
its partner. Each copy has a send cell (which hands the source rows back to the sender) and a receive
cell (which hands the landed rows to the receiver). The barrier cell collects one unit from each of the
three neighbours, each unit carrying that neighbour's landing rows.
-/
module

public import proofs.«01_k».proof.Proof.Base

@[expose] public section

noncomputable section

namespace Cert.RingProof

open Cert.KernelIdeal Cert.KernelIdeal.Gen
open Idealize.ShloMosaic
open Idealize.ShloMosaic.TcCoe Idealize.ShloMosaic.RefSig
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## Pieces of the buffers -/

/-- The whole share. -/
abbrev fq : PosShare TreeShare := fullShare

/-- Share `q` of the entries `S` of the window on `x`, holding `f`. -/
abbrev ptX (c : Dev nD) (q : PosShare TreeShare) (S : Finset S256x2048.Idx) (f : S256x2048.Idx → Elt F .f32) : sProp 𝕄 :=
  ((c : Thread nD τ).loc cc0_stg0_0) ↦[S]{q} f
/-- Share `q` of the entries `S` of the forward buffer, holding `f`. -/
abbrev ptF (c : Dev nD) (q : PosShare TreeShare) (S : Finset S2x256x2048.Idx) (f : S2x256x2048.Idx → Elt F .f32) : sProp 𝕄 :=
  ((c : Thread nD τ).loc cc0_scratch0) ↦[S]{q} f
/-- Share `q` of the entries `S` of the backward buffer, holding `f`. -/
abbrev ptB (c : Dev nD) (q : PosShare TreeShare) (S : Finset S2x256x2048.Idx) (f : S2x256x2048.Idx → Elt F .f32) : sProp 𝕄 :=
  ((c : Thread nD τ).loc cc0_scratch1) ↦[S]{q} f
/-- Share `q` of the entries `S` of the `mAN` buffer, holding `f`. -/
abbrev ptA (c : Dev nD) (q : PosShare TreeShare) (S : Finset S256x2048.Idx) (f : S256x2048.Idx → Elt F .f32) : sProp 𝕄 :=
  ((c : Thread nD τ).loc cc0_scratch2) ↦[S]{q} f
/-- The partner's buffer, holding `f`. -/
abbrev ptC (c : Dev nD) (f : S256x2048.Idx → Elt F .f32) : sProp 𝕄 := ((c : Thread nD τ).loc cc0_scratch3) ↦{fq} f
/-- The first buffer of the eighth device's block, holding `f`. -/
abbrev pt1 (c : Dev nD) (f : S88x2048.Idx → Elt F .f32) : sProp 𝕄 := ((c : Thread nD τ).loc cc0_scratch4) ↦{fq} f
/-- The second buffer of the eighth device's block, holding `f`. -/
abbrev pt2 (c : Dev nD) (f : S80x2048.Idx → Elt F .f32) : sProp 𝕄 := ((c : Thread nD τ).loc cc0_scratch5) ↦{fq} f
/-- The third buffer of the eighth device's block, holding `f`. -/
abbrev pt3 (c : Dev nD) (f : S88x2048.Idx → Elt F .f32) : sProp 𝕄 := ((c : Thread nD τ).loc cc0_scratch6) ↦{fq} f

/-- Contents for the seven landing buffers of a device. -/
structure Cont (F : FTy → Type) where
  fw : S2x256x2048.Idx → Elt F .f32
  bw : S2x256x2048.Idx → Elt F .f32
  an : S256x2048.Idx → Elt F .f32
  ch : S256x2048.Idx → Elt F .f32
  f1 : S88x2048.Idx → Elt F .f32
  f2 : S80x2048.Idx → Elt F .f32
  f3 : S88x2048.Idx → Elt F .f32

/-- What device `c`'s landing buffers come to hold. -/
def cont (c : Dev nD) : Cont F :=
  ⟨FW m ρ c, BW m ρ c, X m ρ (rel c 4), X m ρ (ptn c), F1 m ρ c, F2 m ρ c, F3 m ρ c⟩

/-- The rows copy `k` into device `c` lands on, holding `C`. -/
def dst (k : Fin 14) (c : Dev nD) (C : Cont F) : sProp 𝕄 :=
  match k.val with
  | 0 => ptF c fq (R3 0 0 128) C.fw
  | 1 => ptF c fq (R3 0 128 256) C.fw
  | 2 => ptF c fq (R3 1 0 128) C.fw
  | 3 => ptF c fq (R3 1 128 256) C.fw
  | 4 => pt1 c C.f1
  | 5 => ptB c fq (R3 0 0 128) C.bw
  | 6 => ptB c fq (R3 0 128 256) C.bw
  | 7 => ptB c fq (R3 1 0 128) C.bw
  | 8 => ptB c fq (R3 1 128 256) C.bw
  | 9 => pt3 c C.f3
  | 10 => ptC c C.ch
  | 11 => ptA c fq (R2 0 128) C.an
  | 12 => ptA c fq (R2 128 256) C.an
  | _ => pt2 c C.f2

/-- Copy `k` landed: its rows hold what they are to hold. -/
def dstPay (k : Fin 14) (c : Dev nD) : sProp 𝕄 := dst k c (cont m ρ c)
/-- The rows of copy `k` before it lands: any contents. -/
def dstAny (k : Fin 14) (c : Dev nD) : sProp 𝕄 := iprop(∃ C, dst (F := F) k c C)

/-- The rows device `c` sends as copy `k`, at the share it lends them. -/
def srcPay (k : Fin 14) (c : Dev nD) : sProp 𝕄 :=
  match k.val with
  | 0 => ptX c fq.right.left (R2 0 128) (X m ρ c)
  | 1 => ptX c fq.right.left (R2 128 256) (X m ρ c)
  | 2 => ptF c fq.right.left (R3 0 0 128) (FW m ρ c)
  | 3 => ptF c fq.right.left (R3 0 128 256) (FW m ρ c)
  | 4 => if ev c then ptA c fq.right (R2 0 88) (X m ρ (rel c 4)) else ptF c fq.right (R3 1 0 88) (FW m ρ c)
  | 5 => ptX c fq.right.right.left (R2 0 128) (X m ρ c)
  | 6 => ptX c fq.right.right.left (R2 128 256) (X m ρ c)
  | 7 => ptB c fq.right.left (R3 0 0 128) (BW m ρ c)
  | 8 => ptB c fq.right.left (R3 0 128 256) (BW m ρ c)
  | 9 => if ev c then ptB c fq.right (R3 1 168 256) (BW m ρ c) else ptA c fq.right (R2 168 256) (X m ρ (rel c 4))
  | 10 => ptX c fq.right.right.right (R2 0 256) (X m ρ c)
  | 11 => if ev c then ptF c fq.right.right (R3 0 0 128) (FW m ρ c) else ptB c fq.right.right (R3 0 0 128) (BW m ρ c)
  | 12 => if ev c then ptF c fq.right.right (R3 0 128 256) (FW m ρ c) else ptB c fq.right.right (R3 0 128 256) (BW m ρ c)
  | _ => if ev c then ptF c fq.right (R3 1 88 168) (FW m ρ c) else ptB c fq.right (R3 1 88 168) (BW m ρ c)

/-- The rows a copy lands in can be kept in an invariant. -/
instance dst_storable (k : Fin 14) (c : Dev nD) (C : Cont F) : BI.Storable (upEmb : UEmb _ 𝕄) (dst (F := F) k c C) := by
  unfold dst; split <;> infer_instance
/-- The rows a copy has landed in can be kept in an invariant. -/
instance dstPay_storable (k : Fin 14) (c : Dev nD) : BI.Storable (upEmb : UEmb _ 𝕄) (dstPay m ρ k c) := by
  unfold dstPay; infer_instance
/-- The rows of a copy yet to land can be kept in an invariant. -/
instance dstAny_storable (k : Fin 14) (c : Dev nD) : BI.Storable (upEmb : UEmb _ 𝕄) (dstAny (F := F) k c) := by
  unfold dstAny; infer_instance
/-- The rows a copy is sent from can be kept in an invariant. -/
instance srcPay_storable (k : Fin 14) (c : Dev nD) : BI.Storable (upEmb : UEmb _ 𝕄) (srcPay m ρ k c) := by
  unfold srcPay; (repeat' split) <;> infer_instance

/-! ## Cells -/

/-- The device copy `k` goes to. -/
def dd (k : Fin 14) (c : Dev nD) : Dev nD := if k.val < 5 then rgt c else if k.val < 10 then lft c else ptn c
/-- The device copy `k` comes from. -/
def ss (k : Fin 14) (c : Dev nD) : Dev nD := if k.val < 5 then lft c else if k.val < 10 then rgt c else ptn c
/-- The device that copy `k` goes to from its sender at `c` is `c`. -/
theorem dd_ss (k : Fin 14) (c : Dev nD) : dd k (ss k c) = c := by revert k c; decide
/-- The sender of copy `k` to the device that `c` sends it to is `c`. -/
theorem ss_dd (k : Fin 14) (c : Dev nD) : ss k (dd k c) = c := by revert k c; decide

/-- The send semaphore of copy `k`. -/
def sS (k : Fin 14) : DmaSem sig :=
  (⟨if k.val < 5 then 3 + k.val else if k.val < 10 then 8 + k.val else 13 + k.val, by
    have := k.isLt; show _ < 31; split <;> [skip; split] <;> omega⟩ : Fin 31)
/-- The receive semaphore of copy `k`. -/
def sR (k : Fin 14) : DmaSem sig :=
  (⟨if k.val < 5 then 8 + k.val else if k.val < 10 then 13 + k.val else 17 + k.val, by
    have := k.isLt; show _ < 31; split <;> [skip; split] <;> omega⟩ : Fin 31)
/-- The copy a semaphore belongs to. -/
def kOf (q : DmaSem sig) : Fin 14 :=
  let v := q.val
  if v < 8 then ⟨(v - 3) % 14, Nat.mod_lt _ (by decide)⟩ else if v < 18 then ⟨(v - 8) % 14, Nat.mod_lt _ (by decide)⟩
  else if v < 27 then ⟨(v - 13) % 14, Nat.mod_lt _ (by decide)⟩ else ⟨(v - 17) % 14, Nat.mod_lt _ (by decide)⟩
/-- Whether a semaphore is a receive semaphore. -/
def isR (q : DmaSem sig) : Bool := (8 ≤ q.val && q.val < 13) || (18 ≤ q.val && q.val < 23) || (27 ≤ q.val)

/-- The copy that the send semaphore of copy `k` belongs to is `k`. -/
theorem kOf_sS (k : Fin 14) : kOf (sS k) = k := by revert k; decide
/-- The copy that the receive semaphore of copy `k` belongs to is `k`. -/
theorem kOf_sR (k : Fin 14) : kOf (sR k) = k := by revert k; decide
/-- A send semaphore is not a receive semaphore. -/
theorem isR_sS (k : Fin 14) : isR (sS k) = false := by revert k; decide
/-- A receive semaphore is one. -/
theorem isR_sR (k : Fin 14) : isR (sR k) = true := by revert k; decide
/-- The send semaphores come after the three staging semaphores. -/
theorem sS_ge (k : Fin 14) : 3 ≤ (sS k).val := by revert k; decide
/-- The receive semaphores come after the three staging semaphores. -/
theorem sR_ge (k : Fin 14) : 3 ≤ (sR k).val := by revert k; decide

/-- The barrier semaphore. -/
abbrev barS : Sem sig := (SemArray.scalar (sig.barrier 0 rfl) : Sems sig S_).sem
/-- Device `c`'s barrier cell. -/
abbrev barCell (c : Dev nD) : GSem nD τ sig := ((c : Thread nD τ), .reg barS)
/-- Device `c`'s send cell of copy `k`. -/
abbrev scell (c : Dev nD) (k : Fin 14) : GSem nD τ sig := ((c : Thread nD τ), .dma (sS k))
/-- Device `c`'s receive cell of copy `k`. -/
abbrev rcell (c : Dev nD) (k : Fin 14) : GSem nD τ sig := ((c : Thread nD τ), .dma (sR k))

/-- The credit of a copy of `n` rows. -/
def cr (n : ℕ) : ℕ := tileCredit (⟨2, ![n, 2048]⟩ : Shape) .f32
/-- The credit of copy `k`. -/
def N (k : Fin 14) : ℕ := match k.val with
  | 4 => cr 88 | 9 => cr 88 | 10 => cr 256 | 13 => cr 80 | _ => cr 128
/-- A copy of at least one row brings a positive credit. -/
theorem cr_pos (n : ℕ) (h : 0 < n) : 0 < cr n :=
  tileCredit_pos _ _ (by
    unfold Shape.numel
    exact Finset.prod_induction _ (0 < ·) (fun _ _ ha hb => Nat.mul_pos ha hb) Nat.one_pos fun a _ => by
      match a with
      | ⟨0, _⟩ => exact h
      | ⟨1, _⟩ => exact (by decide : 0 < 2048))
/-- Every copy brings a positive credit. -/
theorem N_pos (k : Fin 14) : 0 < N k := by unfold N; split <;> exact cr_pos _ (by decide)

/-! ## The schedule -/

/-- What a unit on `c`'s barrier cell brings: the landing rows of the neighbour it comes from. -/
def barPay (c : Dev nD) (d : Fin 3) : sProp 𝕄 :=
  match d with
  | 0 => iprop(dstAny (F := F) 0 (rgt c) ∗ dstAny (F := F) 1 (rgt c) ∗ dstAny (F := F) 2 (rgt c) ∗ dstAny (F := F) 3 (rgt c) ∗ dstAny (F := F) 4 (rgt c))
  | 1 => iprop(dstAny (F := F) 5 (lft c) ∗ dstAny (F := F) 6 (lft c) ∗ dstAny (F := F) 7 (lft c) ∗ dstAny (F := F) 8 (lft c) ∗ dstAny (F := F) 9 (lft c))
  | 2 => iprop(dstAny (F := F) 10 (ptn c) ∗ dstAny (F := F) 11 (ptn c) ∗ dstAny (F := F) 12 (ptn c) ∗ dstAny (F := F) 13 (ptn c))

/-- What a barrier unit carries can be kept in an invariant. -/
instance barPay_storable (c : Dev nD) (d : Fin 3) : BI.Storable (upEmb : UEmb _ 𝕄) (barPay (F := F) c d) := by
  unfold barPay; split <;> infer_instance

/-- One round: a barrier cell has three duties of one unit each, a send or receive cell one duty of the copy's credit. -/
def Rd : Rounds.Schedule (GSem nD τ sig) (Fin 3) 𝕄 where
  duties g r := if r = 0 ∧ g.1.2 = .tc then (match g.2 with | .reg _ => Finset.univ | .dma q => if 3 ≤ q.val then {0} else ∅) else ∅
  unitless _ := False
  amount g _ _ := match g.2 with | .reg _ => 1 | .dma q => N (kOf q)
  payload g _ d := match g.2 with
    | .reg _ => barPay g.1.1 d
    | .dma q => if isR q then dstPay m ρ (kOf q) g.1.1 else srcPay m ρ (kOf q) g.1.1
  amount_pos g _ _ _ := by
    split
    · exact Nat.one_pos
    · exact N_pos _

/-- What any duty carries can be kept in an invariant. -/
instance Rd_payload_storable (g : GSem nD τ sig) (r : ℕ) (d : Fin 3) :
    BI.Storable (upEmb : UEmb _ 𝕄) ((Rd (F := F) m ρ).payload g r d) := by
  show BI.Storable upEmb (match g.2 with
    | .reg _ => barPay g.1.1 d
    | .dma q => if isR q then dstPay m ρ (kOf q) g.1.1 else srcPay m ρ (kOf q) g.1.1)
  (repeat' split) <;> infer_instance

section Sched
variable (c : Dev nD) (k : Fin 14)

/-- A barrier's round has three duties. -/
theorem duties_bar : (Rd (F := F) m ρ).duties (barCell c) 0 = Finset.univ := by dsimp only [Rd]; exact if_pos ⟨rfl, rfl⟩
/-- A send cell's round has one duty. -/
theorem duties_send : (Rd (F := F) m ρ).duties (scell c k) 0 = {0} := by
  dsimp only [Rd]; exact (if_pos ⟨rfl, rfl⟩).trans (if_pos (sS_ge k))
/-- A receive cell's round has one duty. -/
theorem duties_recv : (Rd (F := F) m ρ).duties (rcell c k) 0 = {0} := by
  dsimp only [Rd]; exact (if_pos ⟨rfl, rfl⟩).trans (if_pos (sR_ge k))
/-- No cell has a second round. -/
theorem duties_later (g : GSem nD τ sig) : ∀ r, 1 ≤ r → (Rd (F := F) m ρ).duties g r = ∅ :=
  fun r hr => by dsimp only [Rd]; rw [if_neg fun h => by omega]
/-- Each duty of a barrier brings one unit. -/
theorem amount_bar (d : Fin 3) : (Rd (F := F) m ρ).amount (barCell c) 0 d = 1 := rfl
/-- The duty of a send cell brings the credit of its copy. -/
theorem amount_send (d : Fin 3) : (Rd (F := F) m ρ).amount (scell c k) 0 d = N k := by
  dsimp only [Rd]; exact congrArg N (kOf_sS k)
/-- The duty of a receive cell brings the credit of its copy. -/
theorem amount_recv (d : Fin 3) : (Rd (F := F) m ρ).amount (rcell c k) 0 d = N k := by
  dsimp only [Rd]; exact congrArg N (kOf_sR k)
/-- A barrier's round comes to three units. -/
theorem expect_bar : (Rd (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
/-- A send cell's round comes to the credit of its copy. -/
theorem expect_send : (Rd (F := F) m ρ).expect (scell c k) 0 = N k := by
  unfold Schedule.expect Schedule.amountOf; rw [duties_send, Finset.sum_singleton, amount_send]
/-- A receive cell's round comes to the credit of its copy. -/
theorem expect_recv : (Rd (F := F) m ρ).expect (rcell c k) 0 = N k := by
  unfold Schedule.expect Schedule.amountOf; rw [duties_recv, Finset.sum_singleton, amount_recv]
/-- A barrier's duty carries the rows that its sender opens. -/
theorem payload_bar (d : Fin 3) : (Rd (F := F) m ρ).payload (barCell c) 0 d = barPay c d := rfl
/-- A send cell's duty carries back the rows sent. -/
theorem payload_send (d : Fin 3) : (Rd (F := F) m ρ).payload (scell c k) 0 d = srcPay m ρ k c := by
  dsimp only [Rd]; rw [isR_sS, kOf_sS]; exact if_neg Bool.false_ne_true
/-- A receive cell's duty carries the rows landed. -/
theorem payload_recv (d : Fin 3) : (Rd (F := F) m ρ).payload (rcell c k) 0 d = dstPay m ρ k c := by
  dsimp only [Rd]; rw [isR_sR, kOf_sR]; exact if_pos rfl
/-- All that a barrier's round carries is what its three duties carry. -/
theorem rest_bar : bigSep ((Rd (F := F) m ρ).duties (barCell c) 0 \ ∅) (fun d => (Rd (F := F) m ρ).payload (barCell c) 0 d)
    = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
/-- All that a send cell's round carries is the rows sent. -/
theorem rest_send : bigSep ((Rd (F := F) m ρ).duties (scell c k) 0 \ ∅) (fun d => (Rd (F := F) m ρ).payload (scell c k) 0 d) = srcPay m ρ k c := by
  rw [Finset.sdiff_empty, duties_send, bigSep_singleton, payload_send]
/-- All that a receive cell's round carries is the rows landed. -/
theorem rest_recv : bigSep ((Rd (F := F) m ρ).duties (rcell c k) 0 \ ∅) (fun d => (Rd (F := F) m ρ).payload (rcell c k) 0 d) = dstPay m ρ k c := by
  rw [Finset.sdiff_empty, duties_recv, bigSep_singleton, payload_recv]

end Sched

/-! ## Levels, and what is owed -/

/-- The level of copy `k`'s receive cell. -/
def lvk (k : Fin 14) : ℕ := match k.val with
  | 0 | 1 | 5 | 6 | 10 => 2
  | 4 | 9 | 13 => 4
  | _ => 3

/-- The labels of a cell: one on a device's own thread, none elsewhere. -/
def L (g : GSem nD τ sig) : Finset Unit := if g.1.2 = .tc then {()} else ∅
/-- Staging and send cells at 0, barrier cells at 1, a receive cell at its copy's level. -/
def lv (g : GSem nD τ sig) (_ : Unit) : ℕ := match g.2 with
  | .reg _ => 1
  | .dma q => if isR q then lvk (kOf q) else 0

/-- A cell off the devices' own threads has no label. -/
theorem L_of_ne (g : GSem nD τ sig) (h : g.1.2 ≠ .tc) : L g = ∅ := if_neg h
/-- A cell of a device's own thread has its one label. -/
theorem L_tc (c : Dev nD) (sm : SemLoc sig) : L ((c : Thread nD τ), sm) = {()} := if_pos rfl
/-- A receive cell stands at the level of its copy. -/
theorem lv_recv (c : Dev nD) (k : Fin 14) (u : Unit) : lv (rcell c k) u = lvk k := by
  dsimp only [lv]; rw [isR_sR, kOf_sR]; exact if_pos rfl
/-- A send cell stands at level 0. -/
theorem lv_send (c : Dev nD) (k : Fin 14) (u : Unit) : lv (scell c k) u = 0 := by
  dsimp only [lv]; rw [isR_sS]; exact if_neg Bool.false_ne_true
/-- A barrier cell stands at level 1. -/
theorem lv_bar (c : Dev nD) (u : Unit) : lv (barCell c) u = 1 := rfl
/-- Every copy's level is above the barrier's. -/
theorem lvk_pos (k : Fin 14) : 1 < lvk k := by revert k; decide

/-- Device `c` owes the receive cells of the copies in `S`. -/
def owS (c : Dev nD) (S : Finset (Fin 14)) : CellTallies nD τ sig Unit := ∑ k ∈ S, tallyAt (rcell (dd k c) k) () (N k)
/-- What device `c` owes at launch: every copy, and one unit to each neighbour's barrier. -/
def O₀ (c : Dev nD) : CellTallies nD τ sig Unit :=
  owS c Finset.univ + tallyAt (barCell (ptn c)) () 1 + tallyAt (barCell (rgt c)) () 1 + tallyAt (barCell (lft c)) () 1

/-- What is owed for the copies in `S` is what is owed for the others and for copy `k`. -/
theorem owS_erase (c : Dev nD) (S : Finset (Fin 14)) (k : Fin 14) (h : k ∈ S) :
    owS c S = owS c (S.erase k) + tallyAt (rcell (dd k c) k) () (N k) := by
  unfold owS; exact (Finset.sum_erase_add S _ h).symm

/-- Only receive cells of the copies in `S` are owed. -/
theorem owS_pos {c : Dev nD} {S : Finset (Fin 14)} {g : GSem nD τ sig} {u : Unit} (h : 0 < owS c S g u) :
    ∃ k ∈ S, g = rcell (dd k c) k := by
  unfold owS at h
  rw [Finset.sum_apply, Finsupp.finset_sum_apply] at h
  obtain ⟨k, hk, hp⟩ := Finset.exists_ne_zero_of_sum_ne_zero (Nat.pos_iff_ne_zero.mp h)
  refine ⟨k, hk, ?_⟩
  rw [tallyAt_apply] at hp
  by_contra hn
  exact hp (if_neg fun h' => hn h'.1)

/-- At launch only receive cells and barrier cells are owed. -/
theorem O₀_pos {c : Dev nD} {g : GSem nD τ sig} {u : Unit} (h : 0 < O₀ c g u) :
    (∃ k, g = rcell (dd k c) k) ∨ (∃ d, g = barCell d) := by
  unfold O₀ at h
  rw [Pi.add_apply, Finsupp.add_apply, Pi.add_apply, Finsupp.add_apply, Pi.add_apply, Finsupp.add_apply, tallyAt_apply, tallyAt_apply, tallyAt_apply] at h
  by_contra hn
  rw [not_or] at hn
  rw [if_neg (fun h' => hn.2 ⟨_, h'.1⟩), if_neg (fun h' => hn.2 ⟨_, h'.1⟩), if_neg (fun h' => hn.2 ⟨_, h'.1⟩)] at h
  obtain ⟨k, _, hk⟩ := owS_pos (c := c) (S := Finset.univ) (g := g) (u := u) (by omega)
  exact hn.1 ⟨k, hk⟩

/-- Waiting at level `l` while owing only copies above it. -/
theorem mayWait_owS (c : Dev nD) (sm : SemLoc sig) (S : Finset (Fin 14)) (l : ℕ) (hl : lv ((c : Thread nD τ), sm) () ≤ l)
    (h : ∀ j ∈ S, l < lvk j) : (levAts L lv : sProp 𝕄) ⊢ MayWait (c : Thread nD τ) sm () (owS c S) :=
  MayOwe.of_cut (L := L) (lev := lv) l (fun p hp => by rw [Finset.mem_singleton.mp hp, L_tc]; exact Finset.mem_singleton_self _)
    (fun g u hg => by obtain ⟨k, _, rfl⟩ := owS_pos hg; rw [L_tc]; exact Finset.mem_singleton_self _)
    (fun p hp => by rw [Finset.mem_singleton.mp hp]; exact hl)
    (fun g u hg => by obtain ⟨k, hk, rfl⟩ := owS_pos hg; rw [lv_recv]; exact h k hk)

/-- A staging semaphore may be waited on at launch and at the end. -/
theorem mayWait_stage (c : Dev nD) (q : DmaSem sig) (hq : isR q = false) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases O₀_pos hg with ⟨k, rfl⟩ | ⟨d, rfl⟩ <;> (rw [L_tc]; exact Finset.mem_singleton_self _))
      (fun p hp => by rw [Finset.mem_singleton.mp hp]; dsimp only [lv]; rw [hq]; exact Nat.le_refl 0)
      (fun g u hg => by
        rcases O₀_pos hg with ⟨k, rfl⟩ | ⟨d, rfl⟩
        · rw [lv_recv]; exact lt_trans Nat.one_pos (lvk_pos k)
        · exact Nat.one_pos)
  · rw [MayWait_zero]; iintro -; iempintro

end Cert.RingProof

end
-- ==== Proof.Steps.lean ====
/-
# One step of the kernel's run at a time

The rules the run is made of: sending one copy, waiting for a copy to land, waiting for one to leave,
signalling a neighbour, and waiting at the barrier.
-/
module

public import proofs.«01_k».proof.Proof.Schedule

@[expose] public section

noncomputable section

namespace Cert.RingProof

open Cert.KernelIdeal Cert.KernelIdeal.Gen
open Idealize.ShloMosaic
open Idealize.ShloMosaic.TcCoe Idealize.ShloMosaic.RefSig
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-- There are no loop variants. -/
abbrev 𝒱₀ : Variants := Variants.none

/-- Running `p` on device `c` to the postcondition `Q`. -/
abbrev WP {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

/-! ## The cells' names and the facts every device shares -/

/-- The cells of a device: its barrier, its send cells, its receive cells. -/
abbrev Ci : Type := Option (Bool × Fin 14)
/-- The semaphore of a cell: the barrier's, or a copy's send or receive semaphore. -/
abbrev csem (i : Ci) : SemLoc sig := match i with
  | none => .reg barS
  | some (false, k) => .dma (sS k)
  | some (true, k) => .dma (sR k)
/-- Cell `i` of device `c`. -/
abbrev kcell (ci : Dev nD × Ci) : GSem nD τ sig := ((ci.1 : Thread nD τ), csem ci.2)

/-- Every cell's invariant, under the names `K`; that every cell has reached its round; the levels. -/
def recs (K : Dev nD × Ci → ℕ) : sProp 𝕄 :=
  iprop(bigSep Finset.univ (fun ci : Dev nD × Ci => iprop(cellInv ER (Rd m ρ) (K ci) (kcell ci) ∗ reached ER (kcell ci) 0)) ∗ levAts L lv)

/-- The records can be used any number of times. -/
instance recs_persistent (K : Dev nD × Ci → ℕ) : BI.Persistent (recs m ρ K) := by unfold recs; infer_instance

variable (K : Dev nD × Ci → ℕ)

/-- The records hold every cell's invariant and that its round is reached. -/
theorem recs_cell (ci : Dev nD × Ci) : recs m ρ K ⊢ iprop(cellInv ER (Rd m ρ) (K ci) (kcell ci) ∗ reached ER (kcell ci) 0) := by
  unfold recs
  iintro ⟨H, -⟩
  ihave H' := (show _ ⊢ iprop(cellInv ER (Rd m ρ) (K ci) (kcell ci) ∗ reached ER (kcell ci) 0) from
    bigSep_elim (Φ := fun ci : Dev nD × Ci => iprop(cellInv ER (Rd m ρ) (K ci) (kcell ci) ∗ reached ER (kcell ci) 0)) (Finset.mem_univ ci)) $$ H
  iexact H'
/-- The records hold the levels. -/
theorem recs_lev : recs m ρ K ⊢ levAts L lv := by unfold recs; iintro ⟨-, H⟩; iexact H

/-- What device `c` owes while the copies in `S` are still to be sent. -/
def OW (c : Dev nD) (S : Finset (Fin 14)) : sProp 𝕄 := iprop(∃ W, owes (c : Thread nD τ) (owS c S) W)

/-- The two tokens copy `k` is paid with, and the position at its send cell. -/
def toks (k : Fin 14) (c : Dev nD) : sProp 𝕄 :=
  iprop(dutyTok ER (scell c k) 0 0 ∗ dutyTok ER (rcell (dd k c) k) 0 0 ∗ atPos ER (scell c k) 0 ∅ 0)
/-- Copy `k` is on its way: the credit to wait for its departure. -/
def sent (k : Fin 14) (c : Dev nD) : sProp 𝕄 :=
  iprop(cred (tallyAt (scell c k) () (N k)) ∗ atPos ER (scell c k) 0 ∅ 0)
/-- The right to wait for copy `k` to land. -/
def rtok (k : Fin 14) (c : Dev nD) : sProp 𝕄 :=
  iprop(cred (tallyAt (rcell c k) () (N k)) ∗ atPos ER (rcell c k) 0 ∅ 0)

/-! ## Sending -/

/-- Sending copy `k`: its rows and the landing rows are handed over, and the device owes one landing less. -/
theorem send_step (k : Fin 14) (c n d : Dev nD) (hn : n = d) (hd : dd k c = d) {s : Shape} {src dst' : Memref sig .tc .vmem s .f32}
    {sA sB : DmaSem sig} (hA : sA = sS k) (hB : sB = sR k)
    {hsc : (dst' : Memref sig (Dev.tc n : Thread nD τ).2.kind .vmem s .f32).view.ref.isScScratch = false}
    {hsrc : src.view.WordExact} {hdst : dst'.view.WordExact}
    {hsem : DmaTarget.Typed .vmem (.dma sB) (.remote (Dev.tc n : Thread nD τ) dst' (.dma sA) hsc)}
    {α : Type} {Q : α → sProp 𝕄} {kt : PUnit → Prog (TpuEff nD τ sig (Elt F) Λ₀ .tc) α}
    (q : PosShare TreeShare) (fs : Buf (Elt F) (src.view.loc (c : Thread nD τ)))
    (fld : Cont F → Buf (Elt F) (dst'.view.loc (d : Thread nD τ)))
    (nk : ℕ) (hN : dst'.view.dmaCredit = nk) (hNk : N k = nk)
    (hS : srcPay m ρ k c = (src.view.loc (c : Thread nD τ) ↦[src.view.set]{q} fs))
    (hD : ∀ C : Cont F, dst k d C = (dst'.view.loc (d : Thread nD τ) ↦[dst'.view.set]{fq} fld C : sProp 𝕄))
    (hR : dst'.view.read (Elt F) (fld (cont m ρ d)) = src.view.read (Elt F) fs)
    (S S' : Finset (Fin 14)) (hk : k ∈ S) (hS' : S.erase k = S') :
    iprop(recs m ρ K ∗ srcPay m ρ k c ∗ dstAny (F := F) k d ∗ toks k c ∗ OW c S)
      ⊢ iprop(((sent k c ∗ OW c S') -∗ WP c (kt ⟨⟩) Q)
          -∗ WP c (.op (.enqueueDma src (.remote (Dev.tc n : Thread nD τ) dst' (.dma sA) hsc) (.dma sB) hsrc hdst hsem) kt) Q) := by
  subst hn hd hA hB hS'
  iintro ⟨#HR, HS, HD, HT, HO⟩ Hk
  unfold toks dstAny OW
  icases HD with ⟨%C, HD⟩
  icases HT with ⟨HtS, HtR, Hat⟩
  icases HO with ⟨%W, HO⟩
  ihave HIs := (recs_cell m ρ K (c, some (false, k))) $$ HR
  ihave HIr := (recs_cell m ρ K (dd k c, some (true, k))) $$ HR
  icases HIs with ⟨#HIs, #HrS⟩
  icases HIr with ⟨#HIr, #HrR⟩
  ihave HS' := (Entails.of_eq hS) $$ HS
  ihave HD' := (Entails.of_eq (hD C)) $$ HD
  iapply (Rounds.wp_send_pointsTo 𝒱₀ ER (Rd m ρ) (c : Thread nD τ) none (κ₁ := K (c, some (false, k))) (κ₂ := K (dd k c, some (true, k)))
    (r₁ := 0) (r₂ := 0) (d₁ := 0) (d₂ := 0) (fd := fld C)
    (by rw [duties_send]; exact Finset.mem_singleton_self _) (by rw [duties_recv]; exact Finset.mem_singleton_self _)
    () () (N k) (show dst'.view.amount (.dma (sR k)) = N k from hN.trans hNk.symm) (amount_send m ρ c k 0) (amount_recv m ρ (dd k c) k 0) (owS c (S.erase k)) (owS_erase c S k hk) (W := W)
    (by rw [payload_send, hS]) (by
      rw [payload_recv]; unfold dstPay; rw [hD]
      exact Entails.of_eq (land (dd k c) dst' _ _ _ hR))) $$ [HS' HD' HO HtS HtR]
  · isplitr; · iexact HIs
    isplitr; · iexact HIr
    isplitl [HS']; · iexact HS'
    isplitl [HD']; · iexact HD'
    isplitl [HO]; · iexact HO
    isplitl [HtS]; · iexact HtS
    isplitr; · iexact HrS
    isplitl [HtR]; · iexact HtR
    iexact HrR
  iintro ⟨Hc, HO⟩
  iapply Hk
  unfold sent
  isplitl [Hc Hat]
  · isplitl [Hc]; · iexact Hc
    iexact Hat
  iexists W; iexact HO

/-! ## Waiting -/

/-- Waiting for copy `k` to land brings its rows, and its cell back at zero. -/
theorem recv_step (k : Fin 14) (c : Dev nD) {sp sp' : Space} {s s' : Shape} {e e' : EltTy} {sm : DmaSem sig} (hsm : sm = sR k)
    {src : Memref sig .tc sp' s' e'} {dst' : Memref sig .tc sp s e} {hsrc : src.view.WordExact} {hdst : dst'.view.WordExact}
    {α : Type} {Q : α → sProp 𝕄} {kt : PUnit → Prog (TpuEff nD τ sig (Elt F) Λ₀ .tc) α}
    (hN : dst'.view.dmaCredit = N k) (S : Finset (Fin 14)) (hl : ∀ j ∈ S, lvk k < lvk j) :
    iprop(recs m ρ K ∗ rtok (F := F) k c ∗ OW c S)
      ⊢ iprop(((dstPay m ρ k c ∗ semVal (rcell c k) 0 ∗ OW c S) -∗ WP c (kt ⟨⟩) Q)
          -∗ WP c (.op (.waitDma2 sm src dst' hsrc hdst) kt) Q) := by
  subst hsm
  iintro ⟨#HR, HT, HO⟩ Hk
  unfold rtok OW
  icases HT with ⟨Hc, Hat⟩
  icases HO with ⟨%W, HO⟩
  ihave HI := (recs_cell m ρ K (c, some (true, k))) $$ HR
  icases HI with ⟨#HI, -⟩
  iapply (Rounds.wp_wait_rest_token 𝒱₀ ER (Rd m ρ) (c : Thread nD τ) none (κ := K (c, some (true, k)))
      (wpE_waitDma2_eq 𝒱₀ (c : Thread nD τ) none Set.univ) (Set.mem_univ _) () (O := owS c S) (W := W) (R := 0) (m := 0) (T := ∅)
      (by rw [Nat.zero_add, hN, expect_recv])) $$ [Hc HO Hat]
  · isplitr; · iexact HI
    isplitl [Hc]; · rw [hN]; iexact Hc
    isplitl [HO]; · iexact HO
    isplitr
    · iapply (mayWait_owS c (.dma (sR k)) S (lvk k) (le_of_eq (lv_recv c k ())) hl)
      iapply (recs_lev m ρ K); iexact HR
    iexact Hat
  iintro ⟨HO, Hat, -, Hpay⟩
  ihave Hpay := (Entails.of_eq (rest_recv m ρ c k)) $$ Hpay
  imod (Rounds.cell_close ER (Rd m ρ) (Set.mem_univ (K (c, some (true, k)))) (fun h => h) (R := 0 + 1) (duties_later m ρ (rcell c k))) $$ [Hat] with Hz
  · isplitr; · iexact HI
    iexact Hat
  iapply Hk
  isplitl [Hpay]; · iexact Hpay
  isplitl [Hz]; · iexact Hz
  iexists _; iexact HO

/-- Waiting for copy `k` to leave brings the source rows back, and its cell at zero. -/
theorem sendwait_step (k : Fin 14) (c : Dev nD) {sp sp' : Space} {s s' : Shape} {e e' : EltTy} {sm : DmaSem sig} (hsm : sm = sS k)
    {src : Memref sig .tc sp' s' e'} {dst' : Memref sig .tc sp s e} {hsrc : src.view.WordExact} {hdst : dst'.view.WordExact}
    {α : Type} {Q : α → sProp 𝕄} {kt : PUnit → Prog (TpuEff nD τ sig (Elt F) Λ₀ .tc) α}
    (hN : dst'.view.dmaCredit = N k) (S : Finset (Fin 14)) :
    iprop(recs m ρ K ∗ sent (F := F) k c ∗ OW c S)
      ⊢ iprop(((srcPay m ρ k c ∗ semVal (scell c k) 0 ∗ OW c S) -∗ WP c (kt ⟨⟩) Q)
          -∗ WP c (.op (.waitDma2 sm src dst' hsrc hdst) kt) Q) := by
  subst hsm
  iintro ⟨#HR, HT, HO⟩ Hk
  unfold sent OW
  icases HT with ⟨Hc, Hat⟩
  icases HO with ⟨%W, HO⟩
  ihave HI := (recs_cell m ρ K (c, some (false, k))) $$ HR
  icases HI with ⟨#HI, -⟩
  iapply (Rounds.wp_wait_rest_token 𝒱₀ ER (Rd m ρ) (c : Thread nD τ) none (κ := K (c, some (false, k)))
      (wpE_waitDma2_eq 𝒱₀ (c : Thread nD τ) none Set.univ) (Set.mem_univ _) () (O := owS c S) (W := W) (R := 0) (m := 0) (T := ∅)
      (by rw [Nat.zero_add, hN, expect_send])) $$ [Hc HO Hat]
  · isplitr; · iexact HI
    isplitl [Hc]; · rw [hN]; iexact Hc
    isplitl [HO]; · iexact HO
    isplitr
    · iapply (mayWait_owS c (.dma (sS k)) S 0 (le_of_eq (lv_send c k ())) (fun j _ => lt_trans Nat.one_pos (lvk_pos j)))
      iapply (recs_lev m ρ K); iexact HR
    iexact Hat
  iintro ⟨HO, Hat, -, Hpay⟩
  ihave Hpay := (Entails.of_eq (rest_send m ρ c k)) $$ Hpay
  imod (Rounds.cell_close ER (Rd m ρ) (Set.mem_univ (K (c, some (false, k)))) (fun h => h) (R := 0 + 1) (duties_later m ρ (scell c k))) $$ [Hat] with Hz
  · isplitr; · iexact HI
    iexact Hat
  iapply Hk
  isplitl [Hpay]; · iexact Hpay
  isplitl [Hz]; · iexact Hz
  iexists _; iexact HO

/-- Signalling the barrier cell of `n` as its neighbour number `d`, handing over this device's landing rows. -/
theorem signal_step (c n : Dev nD) (d : Fin 3) (O₁ O₂ : CellTallies nD τ sig Unit) (hO : O₁ = O₂ + tallyAt (barCell n) () 1)
    {α : Type} {Q : α → sProp 𝕄} {kt : PUnit → Prog (TpuEff nD τ sig (Elt F) Λ₀ .tc) α} (W : Waits sig Unit) :
    iprop(recs m ρ K ∗ owes (c : Thread nD τ) O₁ W ∗ dutyTok ER (barCell n) 0 d ∗ barPay n d)
      ⊢ iprop((owes (c : Thread nD τ) O₂ W -∗ WP c (kt ⟨⟩) Q)
          -∗ WP c (.op (.semSignal (Dev.tc n : Thread nD τ) barS 1) kt) Q) := by
  iintro ⟨#HR, HO, Ht, Hp⟩ Hk
  ihave HI := (recs_cell m ρ K (n, none)) $$ HR
  icases HI with ⟨#HI, #Hr⟩
  iapply (Rounds.wp_signal 𝒱₀ ER (Rd m ρ) (c : Thread nD τ) none (dst := (n : Thread nD τ)) (κ := K (n, none))
      (d := d) (by rw [duties_bar]; exact Finset.mem_univ _) (amount_bar m ρ n d) () O₂ hO) $$ [HO Ht Hp]
  · isplitr; · iexact HI
    isplitl [HO]; · iexact HO
    isplitl [Ht]; · iexact Ht
    isplitl [Hp]; · rw [payload_bar]; iexact Hp
    iexact Hr
  iexact Hk

/-- Waiting for the three neighbours at the barrier brings their landing rows. -/
theorem barrier_step (c : Dev nD) {α : Type} {Q : α → sProp 𝕄} {kt : PUnit → Prog (TpuEff nD τ sig (Elt F) Λ₀ .tc) α} (W : Waits sig Unit) :
    iprop(recs m ρ K ∗ owes (c : Thread nD τ) (owS c Finset.univ) W ∗ cred (tallyAt (barCell c) () 3) ∗ atPos ER (barCell c) 0 ∅ 0)
      ⊢ iprop(((barPay c 0 ∗ barPay c 1 ∗ barPay c 2 ∗ semVal (barCell c) 0 ∗ OW c Finset.univ) -∗ WP c (kt ⟨⟩) Q)
          -∗ WP c (.op (.semWait barS 3) kt) Q) := by
  iintro ⟨#HR, HO, Hc, Hat⟩ Hk
  ihave HI := (recs_cell m ρ K (c, none)) $$ HR
  icases HI with ⟨#HI, -⟩
  iapply (Rounds.wp_wait_rest_token 𝒱₀ ER (Rd m ρ) (c : Thread nD τ) none (κ := K (c, none))
      (wpE_semWait_eq 𝒱₀ (c : Thread nD τ) none Set.univ) (Set.mem_univ _) () (O := owS c Finset.univ) (W := W) (R := 0) (m := 0) (T := ∅)
      (by rw [expect_bar])) $$ [Hc HO Hat]
  · isplitr; · iexact HI
    isplitl [Hc]; · iexact Hc
    isplitl [HO]; · iexact HO
    isplitr
    · iapply (mayWait_owS c (.reg barS) Finset.univ 1 (le_of_eq (lv_bar c ())) (fun j _ => lvk_pos j))
      iapply (recs_lev m ρ K); iexact HR
    iexact Hat
  iintro ⟨HO, Hat, -, Hpay⟩
  ihave Hpay := (Entails.of_eq (rest_bar m ρ c)) $$ Hpay
  imod (Rounds.cell_close ER (Rd m ρ) (Set.mem_univ (K (c, none))) (fun h => h) (R := 0 + 1) (duties_later m ρ (barCell c))) $$ [Hat] with Hz
  · isplitr; · iexact HI
    iexact Hat
  icases Hpay with ⟨H0, H1, H2⟩
  iapply Hk
  isplitl [H0]; · iexact H0
  isplitl [H1]; · iexact H1
  isplitl [H2]; · iexact H2
  isplitl [Hz]; · iexact Hz
  unfold OW; iexists _; iexact HO

end Cert.RingProof

end
-- ==== Proof.Devs.lean ====
/-
# The device words the program computes

Each printed device number, condition and row offset, in terms of the ring.
-/
module

public import proofs.«01_k».proof.Proof.Base

@[expose] public section

set_option maxRecDepth 65536

noncomputable section

namespace Cert.RingProof

open Cert.KernelIdeal Cert.KernelIdeal.Gen
open Idealize.ShloMosaic

/-- Device number 1 of the kernel is the left neighbour. -/
theorem dev1_eq (c : Dev nD) : k0_dev1 c = (lft c).val := by revert c; decide
/-- Device number 2 of the kernel is the right neighbour. -/
theorem dev2_eq (c : Dev nD) : k0_dev2 c = (rgt c).val := by revert c; decide
/-- Device number 3 of the kernel is the partner. -/
theorem dev3_eq (c : Dev nD) : k0_dev3 c = (ptn c).val := by revert c; decide
/-- Device number 4 of the kernel is the right neighbour. -/
theorem dev4_eq (c : Dev nD) : k0_dev4 c = (rgt c).val := by revert c; decide
/-- Device number 5 of the kernel is the right neighbour. -/
theorem dev5_eq (c : Dev nD) : k0_dev5 c = (rgt c).val := by revert c; decide
/-- Device number 6 of the kernel is the left neighbour. -/
theorem dev6_eq (c : Dev nD) : k0_dev6 c = (lft c).val := by revert c; decide
/-- Device number 7 of the kernel is the left neighbour. -/
theorem dev7_eq (c : Dev nD) : k0_dev7 c = (lft c).val := by revert c; decide
/-- Device number 8 of the kernel is the partner. -/
theorem dev8_eq (c : Dev nD) : k0_dev8 c = (ptn c).val := by revert c; decide
/-- Device number 9 of the kernel is the right neighbour. -/
theorem dev9_eq (c : Dev nD) : k0_dev9 c = (rgt c).val := by revert c; decide
/-- Device number 10 of the kernel is the left neighbour. -/
theorem dev10_eq (c : Dev nD) : k0_dev10 c = (lft c).val := by revert c; decide
/-- Device number 11 of the kernel is the partner. -/
theorem dev11_eq (c : Dev nD) : k0_dev11 c = (ptn c).val := by revert c; decide
/-- Device number 12 of the kernel is the right neighbour. -/
theorem dev12_eq (c : Dev nD) : k0_dev12 c = (rgt c).val := by revert c; decide
/-- Device number 13 of the kernel is the left neighbour. -/
theorem dev13_eq (c : Dev nD) : k0_dev13 c = (lft c).val := by revert c; decide
/-- Device number 14 of the kernel is the partner. -/
theorem dev14_eq (c : Dev nD) : k0_dev14 c = (ptn c).val := by revert c; decide
/-- Device number 15 of the kernel is the partner. -/
theorem dev15_eq (c : Dev nD) : k0_dev15 c = (ptn c).val := by revert c; decide
/-- Device number 16 of the kernel is the partner. -/
theorem dev16_eq (c : Dev nD) : k0_dev16 c = (ptn c).val := by revert c; decide
/-- Device number 17 of the kernel is the right neighbour. -/
theorem dev17_eq (c : Dev nD) : k0_dev17 c = (rgt c).val := by revert c; decide
/-- Device number 18 of the kernel is the right neighbour. -/
theorem dev18_eq (c : Dev nD) : k0_dev18 c = (rgt c).val := by revert c; decide
/-- Device number 19 of the kernel is the left neighbour. -/
theorem dev19_eq (c : Dev nD) : k0_dev19 c = (lft c).val := by revert c; decide
/-- Device number 20 of the kernel is the left neighbour. -/
theorem dev20_eq (c : Dev nD) : k0_dev20 c = (lft c).val := by revert c; decide
/-- Device number 21 of the kernel is the partner. -/
theorem dev21_eq (c : Dev nD) : k0_dev21 c = (ptn c).val := by revert c; decide
/-- Device number 22 of the kernel is the partner. -/
theorem dev22_eq (c : Dev nD) : k0_dev22 c = (ptn c).val := by revert c; decide

/-- Condition 1 of the kernel holds at the odd places. -/
theorem cond1_iff (c : Dev nD) : k0_cond1 c = 1#1 ↔ ev c = false := by revert c; decide
/-- Condition 2 of the kernel holds at the odd places. -/
theorem cond2_iff (c : Dev nD) : k0_cond2 c = 1#1 ↔ ev c = false := by revert c; decide
/-- Condition 3 of the kernel holds at the even places. -/
theorem cond3_iff (c : Dev nD) : k0_cond3 c = 1#1 ↔ ev c = true := by revert c; decide
/-- Condition 4 of the kernel holds at the odd places. -/
theorem cond4_iff (c : Dev nD) : k0_cond4 c = 1#1 ↔ ev c = false := by revert c; decide
/-- Condition 5 of the kernel holds at the even places. -/
theorem cond5_iff (c : Dev nD) : k0_cond5 c = 1#1 ↔ ev c = true := by revert c; decide
/-- Condition 6 of the kernel holds at the odd places. -/
theorem cond6_iff (c : Dev nD) : k0_cond6 c = 1#1 ↔ ev c = false := by revert c; decide
/-- Condition 7 of the kernel holds at the even places. -/
theorem cond7_iff (c : Dev nD) : k0_cond7 c = 1#1 ↔ ev c = true := by revert c; decide
/-- Condition 8 of the kernel holds at the odd places. -/
theorem cond8_iff (c : Dev nD) : k0_cond8 c = 1#1 ↔ ev c = false := by revert c; decide
/-- Condition 9 of the kernel holds at the even places. -/
theorem cond9_iff (c : Dev nD) : k0_cond9 c = 1#1 ↔ ev c = true := by revert c; decide
/-- Condition 10 of the kernel holds at the odd places. -/
theorem cond10_iff (c : Dev nD) : k0_cond10 c = 1#1 ↔ ev c = false := by revert c; decide

/-- Offset 1 of the kernel is row 0 of the result rows that the device itself gives. -/
theorem off1_eq (c : Dev nD) : k0_off1 c = ![256 * c.val + 0, 0] := by revert c; decide
/-- Offset 2 of the kernel is row 0 of the result rows that the device one place back gives. -/
theorem off2_eq (c : Dev nD) : k0_off2 c = ![256 * (rel c 7).val + 0, 0] := by revert c; decide
/-- Offset 3 of the kernel is row 0 of the result rows that the device one place on gives. -/
theorem off3_eq (c : Dev nD) : k0_off3 c = ![256 * (rel c 1).val + 0, 0] := by revert c; decide
/-- Offset 4 of the kernel is row 0 of the result rows that the partner gives. -/
theorem off4_eq (c : Dev nD) : k0_off4 c = ![256 * (ptn c).val + 0, 0] := by revert c; decide
/-- Offset 5 of the kernel is row 0 of the result rows that the device two places back gives. -/
theorem off5_eq0 (c : Dev nD) : k0_off5 c 0#32 = ![256 * (rel c 6).val + 0, 0] := by revert c; decide
/-- Offset 5 of the kernel is row 128 of the result rows that the device two places back gives. -/
theorem off5_eq1 (c : Dev nD) : k0_off5 c 128#32 = ![256 * (rel c 6).val + 128, 0] := by revert c; decide
/-- Offset 6 of the kernel is row 0 of the result rows that the device two places on gives. -/
theorem off6_eq0 (c : Dev nD) : k0_off6 c 0#32 = ![256 * (rel c 2).val + 0, 0] := by revert c; decide
/-- Offset 6 of the kernel is row 128 of the result rows that the device two places on gives. -/
theorem off6_eq1 (c : Dev nD) : k0_off6 c 128#32 = ![256 * (rel c 2).val + 128, 0] := by revert c; decide
/-- Offset 7 of the kernel is row 0 of the result rows that the device four places on gives. -/
theorem off7_eq (c : Dev nD) : k0_off7 c = ![256 * (rel c 4).val + 0, 0] := by revert c; decide
/-- Offset 8 of the kernel is row 128 of the result rows that the device four places on gives. -/
theorem off8_eq (c : Dev nD) : k0_off8 c = ![256 * (rel c 4).val + 128, 0] := by revert c; decide
/-- Offset 9 of the kernel is row 128 of the result rows that the device four places on gives. -/
theorem off9_eq (c : Dev nD) : k0_off9 c = ![256 * (rel c 4).val + 128, 0] := by revert c; decide
/-- Offset 10 of the kernel is row 0 of the result rows that the device four places on gives. -/
theorem off10_eq (c : Dev nD) : k0_off10 c = ![256 * (rel c 4).val + 0, 0] := by revert c; decide
/-- Offset 11 of the kernel is row 0 of the result rows that the eighth device gives. -/
theorem off11_eq0 (c : Dev nD) : k0_off11 c 0#32 = ![256 * (far c).val + 0, 0] := by revert c; decide
/-- Offset 11 of the kernel is row 168 of the result rows that the eighth device gives. -/
theorem off11_eq1 (c : Dev nD) : k0_off11 c 168#32 = ![256 * (far c).val + 168, 0] := by revert c; decide
/-- Offset 12 of the kernel is row 88 of the result rows that the eighth device gives. -/
theorem off12_eq (c : Dev nD) : k0_off12 c = ![256 * (far c).val + 88, 0] := by revert c; decide

end Cert.RingProof

end
-- ==== Proof.Mem.lean ====
/-
# Loads, stores and the splitting of pieces
-/
module

public import proofs.«01_k».proof.Proof.Steps
public import proofs.«01_k».proof.Proof.Devs

@[expose] public section

noncomputable section

namespace Cert.RingProof

open Cert.KernelIdeal Cert.KernelIdeal.Gen
open Idealize.ShloMosaic
open Idealize.ShloMosaic.TcCoe Idealize.ShloMosaic.RefSig
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## Splitting -/

/-- A share of some entries is its left half and its right half. -/
theorem share_eq {ℓ : Loc nD τ sig} (S : Finset (Idx ℓ)) (q : PosShare TreeShare) (f : Buf (Elt F) ℓ) :
    (ℓ ↦[S]{q} f : sProp 𝕄) = iprop((ℓ ↦[S]{q.left} f) ∗ (ℓ ↦[S]{q.right} f)) := by
  have h := pointsTo_share (Ix := Unit) (Name := ℕ) (U := UU) (Lvl := ℕ) (Val := Elt F) (ℓ := ℓ) (I := S) (f := f) (PosShare.mem_left_op_right q)
  exact BI.equiv_iff.mp ⟨h.1, h.2⟩
/-- Entries that are two parts with nothing in common are held as the two parts. -/
theorem union_eq {ℓ : Loc nD τ sig} {S I J : Finset (Idx ℓ)} (hS : ∀ i, i ∈ S ↔ i ∈ I ∨ i ∈ J) (h : ∀ i, i ∈ I → i ∈ J → False) (q : PosShare TreeShare) (f : Buf (Elt F) ℓ) :
    (ℓ ↦[S]{q} f : sProp 𝕄) = iprop((ℓ ↦[I]{q} f) ∗ (ℓ ↦[J]{q} f)) := by
  have e : S = I ∪ J := Finset.ext fun i => (hS i).trans Finset.mem_union.symm
  subst e
  have h := pointsTo_union (Ix := Unit) (Name := ℕ) (U := UU) (Lvl := ℕ) (Val := Elt F) (ℓ := ℓ) (q := q) (f := f) (Finset.disjoint_left.mpr fun i => h i)
  exact BI.equiv_iff.mp ⟨h.1, h.2⟩

/-- Rows of a slot, split at a row. -/
theorem rowsF (c : Dev nD) (q : PosShare TreeShare) (s a k b : ℕ) (h₁ : a ≤ k) (h₂ : k ≤ b) (f : S2x256x2048.Idx → Elt F .f32) :
    ptF c q (R3 s a b) f = iprop(ptF c q (R3 s a k) f ∗ ptF c q (R3 s k b) f) := by
  exact union_eq (ℓ := (c : Thread nD τ).loc cc0_scratch0) (R3_mem s a k b h₁ h₂) (R3_not s a k b) q f
/-- Rows of a slot of the backward buffer are cut in two at row `k`. -/
theorem rowsB (c : Dev nD) (q : PosShare TreeShare) (s a k b : ℕ) (h₁ : a ≤ k) (h₂ : k ≤ b) (f : S2x256x2048.Idx → Elt F .f32) :
    ptB c q (R3 s a b) f = iprop(ptB c q (R3 s a k) f ∗ ptB c q (R3 s k b) f) := by
  exact union_eq (ℓ := (c : Thread nD τ).loc cc0_scratch1) (R3_mem s a k b h₁ h₂) (R3_not s a k b) q f
/-- Rows of the `mAN` buffer are cut in two at row `k`. -/
theorem rowsA (c : Dev nD) (q : PosShare TreeShare) (a k b : ℕ) (h₁ : a ≤ k) (h₂ : k ≤ b) (f : S256x2048.Idx → Elt F .f32) :
    ptA c q (R2 a b) f = iprop(ptA c q (R2 a k) f ∗ ptA c q (R2 k b) f) := by
  exact union_eq (ℓ := (c : Thread nD τ).loc cc0_scratch2) (R2_mem a k b h₁ h₂) (R2_not a k b) q f
/-- Rows of the window on `x` are cut in two at row `k`. -/
theorem rowsX (c : Dev nD) (q : PosShare TreeShare) (a k b : ℕ) (h₁ : a ≤ k) (h₂ : k ≤ b) (f : S256x2048.Idx → Elt F .f32) :
    ptX c q (R2 a b) f = iprop(ptX c q (R2 a k) f ∗ ptX c q (R2 k b) f) := by
  exact union_eq (ℓ := (c : Thread nD τ).loc cc0_stg0_0) (R2_mem a k b h₁ h₂) (R2_not a k b) q f
/-- Two slots make the buffer. -/
theorem slotsF (c : Dev nD) (q : PosShare TreeShare) (f : S2x256x2048.Idx → Elt F .f32) :
    (((c : Thread nD τ).loc cc0_scratch0) ↦{q} f : sProp 𝕄) = iprop(ptF c q (R3 0 0 256) f ∗ ptF c q (R3 1 0 256) f) := by
  exact union_eq (ℓ := (c : Thread nD τ).loc cc0_scratch0) (fun i => iff_of_true (Finset.mem_univ i) (R3_all i)) R3_sep q f
/-- The backward buffer is its two slots. -/
theorem slotsB (c : Dev nD) (q : PosShare TreeShare) (f : S2x256x2048.Idx → Elt F .f32) :
    (((c : Thread nD τ).loc cc0_scratch1) ↦{q} f : sProp 𝕄) = iprop(ptB c q (R3 0 0 256) f ∗ ptB c q (R3 1 0 256) f) := by
  exact union_eq (ℓ := (c : Thread nD τ).loc cc0_scratch1) (fun i => iff_of_true (Finset.mem_univ i) (R3_all i)) R3_sep q f
/-- All the rows are the buffer. -/
theorem full_eq {ℓ : Loc nD τ sig} {S : Finset (Idx ℓ)} (h : ∀ i, i ∈ S) (q : PosShare TreeShare) (f : Buf (Elt F) ℓ) :
    (ℓ ↦{q} f : sProp 𝕄) = (ℓ ↦[S]{q} f) := by
  rw [show S = Finset.univ from Finset.eq_univ_iff_forall.mpr h]
/-- The `mAN` buffer is its 256 rows. -/
theorem univA (c : Dev nD) (q : PosShare TreeShare) (f : S256x2048.Idx → Elt F .f32) :
    (((c : Thread nD τ).loc cc0_scratch2) ↦{q} f : sProp 𝕄) = ptA c q (R2 0 256) f := by
  exact full_eq (ℓ := (c : Thread nD τ).loc cc0_scratch2) R2_all q f
/-- The window on `x` is its 256 rows. -/
theorem univX (c : Dev nD) (q : PosShare TreeShare) (f : S256x2048.Idx → Elt F .f32) :
    (((c : Thread nD τ).loc cc0_stg0_0) ↦{q} f : sProp 𝕄) = ptX c q (R2 0 256) f := by
  exact full_eq (ℓ := (c : Thread nD τ).loc cc0_stg0_0) R2_all q f

/-! ## Loads -/

section Loads
variable (c : Dev nD)

/-- The pair of zeros is zero everywhere. -/
theorem hz2 : (![0, 0] : Fin 2 → Nat) = fun _ => 0 := funext fun a => by fin_cases a <;> rfl

/-- A load, with what it reads. -/
theorem load_at {α : Type} {Q : α → sProp 𝕄} {cs : CoreSpace} {s : Shape} (M : Memref sig .tc cs s .f32)
    (r : LoadRect s) {hl : M.view.LoadsAt r}
    {kt : (r.shape.Idx → Elt F .f32) → Prog (TpuEff nD τ sig (Elt F) Λ₀ .tc) α} (q : PosShare TreeShare)
    (f : Buf (Elt F) (M.view.loc (c : Thread nD τ))) (g : r.shape.Idx → Elt F .f32) (S : Finset (Idx (M.view.loc (c : Thread nD τ))))
    (hS : M.view.setOn r.set ⊆ S)
    (hg : M.view.readAt (Elt F) r f = g) :
    (M.view.loc (c : Thread nD τ) ↦[S]{q} f) ⊢ iprop(((M.view.loc (c : Thread nD τ) ↦[S]{q} f) -∗ WP c (kt g) Q)
      -∗ WP c (.op (.load M r hl) kt) Q) := by
  subst hg
  exact wp_load 𝒱₀ (c : Thread nD τ) none Set.univ (m := M) hS

variable {α : Type} {Q : α → sProp (MT nD τ sig Unit (Elt F) ℕ UU ℕ)}

/-- Loading the whole block of `x`, any share of it. -/
theorem load_X {inb hl} {kt : (S256x2048.Idx → Elt F .f32) → Prog (TpuEff nD τ sig (Elt F) Λ₀ .tc) α} (q : PosShare TreeShare) (f : S256x2048.Idx → Elt F .f32) :
    ptX c q (R2 0 256) f ⊢ iprop((ptX c q (R2 0 256) f -∗ WP c (kt f) Q)
      -∗ WP c (.op (.load mX (Rect.unit (s := S256x2048) ![0, 0] S256x2048.size inb).toLoadRect hl) kt) Q) :=
  load_at c mX (Rect.unit (s := S256x2048) ![0, 0] S256x2048.size inb).toLoadRect q f f (R2 0 256)
    (fun i _ => R2_all i) (Memref.readAt_unit_zero (Elt F) cc0_stg0_0 hz2 _ f)

/-- The window on `w`, holding `f`. -/
abbrev ptW (c : Dev nD) (f : S2048x256.Idx → Elt F .f32) : sProp (MT nD τ sig Unit (Elt F) ℕ UU ℕ) := ((c : Thread nD τ).loc cc0_stg1_0) ↦{fq} f

/-- Loading the block of `w`. -/
theorem load_W {inb hl} {kt : (S2048x256.Idx → Elt F .f32) → Prog (TpuEff nD τ sig (Elt F) Λ₀ .tc) α} (f : S2048x256.Idx → Elt F .f32) :
    ptW c f ⊢ iprop((ptW c f -∗ WP c (kt f) Q)
      -∗ WP c (.op (.load mW (Rect.unit (s := S2048x256) ![0, 0] S2048x256.size inb).toLoadRect hl) kt) Q) :=
  load_at c mW (Rect.unit (s := S2048x256) ![0, 0] S2048x256.size inb).toLoadRect fq f f Finset.univ
    (Finset.subset_univ _) (Memref.readAt_unit_zero (Elt F) cc0_stg1_0 hz2 _ f)

/-- Loading the partner's block. -/
theorem load_C {inb hl} {kt : (S256x2048.Idx → Elt F .f32) → Prog (TpuEff nD τ sig (Elt F) Λ₀ .tc) α} (f : S256x2048.Idx → Elt F .f32) :
    ptC c f ⊢ iprop((ptC c f -∗ WP c (kt f) Q)
      -∗ WP c (.op (.load mCH (Rect.unit (s := S256x2048) ![0, 0] S256x2048.size inb).toLoadRect hl) kt) Q) :=
  load_at c mCH (Rect.unit (s := S256x2048) ![0, 0] S256x2048.size inb).toLoadRect fq f f Finset.univ
    (Finset.subset_univ _) (Memref.readAt_unit_zero (Elt F) cc0_scratch3 hz2 _ f)
/-- Loading the first buffer of the eighth device's block gives what it holds. -/
theorem load_1 {inb hl} {kt : (S88x2048.Idx → Elt F .f32) → Prog (TpuEff nD τ sig (Elt F) Λ₀ .tc) α} (f : S88x2048.Idx → Elt F .f32) :
    pt1 c f ⊢ iprop((pt1 c f -∗ WP c (kt f) Q)
      -∗ WP c (.op (.load mF1 (Rect.unit (s := S88x2048) ![0, 0] S88x2048.size inb).toLoadRect hl) kt) Q) :=
  load_at c mF1 (Rect.unit (s := S88x2048) ![0, 0] S88x2048.size inb).toLoadRect fq f f Finset.univ
    (Finset.subset_univ _) (Memref.readAt_unit_zero (Elt F) cc0_scratch4 hz2 _ f)
/-- Loading the second buffer of the eighth device's block gives what it holds. -/
theorem load_2 {inb hl} {kt : (S80x2048.Idx → Elt F .f32) → Prog (TpuEff nD τ sig (Elt F) Λ₀ .tc) α} (f : S80x2048.Idx → Elt F .f32) :
    pt2 c f ⊢ iprop((pt2 c f -∗ WP c (kt f) Q)
      -∗ WP c (.op (.load mF2 (Rect.unit (s := S80x2048) ![0, 0] S80x2048.size inb).toLoadRect hl) kt) Q) :=
  load_at c mF2 (Rect.unit (s := S80x2048) ![0, 0] S80x2048.size inb).toLoadRect fq f f Finset.univ
    (Finset.subset_univ _) (Memref.readAt_unit_zero (Elt F) cc0_scratch5 hz2 _ f)
/-- Loading the third buffer of the eighth device's block gives what it holds. -/
theorem load_3 {inb hl} {kt : (S88x2048.Idx → Elt F .f32) → Prog (TpuEff nD τ sig (Elt F) Λ₀ .tc) α} (f : S88x2048.Idx → Elt F .f32) :
    pt3 c f ⊢ iprop((pt3 c f -∗ WP c (kt f) Q)
      -∗ WP c (.op (.load mF3 (Rect.unit (s := S88x2048) ![0, 0] S88x2048.size inb).toLoadRect hl) kt) Q) :=
  load_at c mF3 (Rect.unit (s := S88x2048) ![0, 0] S88x2048.size inb).toLoadRect fq f f Finset.univ
    (Finset.subset_univ _) (Memref.readAt_unit_zero (Elt F) cc0_scratch6 hz2 _ f)

/-- Loading `n` rows from `a` of the antipode's block. -/
theorem load_A (a n : ℕ) (hn : a + n ≤ 256) (inb : ∀ x, (![a, 0] : Fin 2 → ℕ) x + (⟨2, ![n, 2048]⟩ : Shape).size x ≤ S256x2048.size x) {hl}
    {kt : ((⟨2, ![n, 2048]⟩ : Shape).Idx → Elt F .f32) → Prog (TpuEff nD τ sig (Elt F) Λ₀ .tc) α}
    (q : PosShare TreeShare) (f : S256x2048.Idx → Elt F .f32) :
    ptA c q (R2 a (a + n)) f ⊢ iprop((ptA c q (R2 a (a + n)) f -∗ WP c (kt (rows f a n)) Q)
      -∗ WP c (.op (.load mAN (Rect.unit (s := S256x2048) ![a, 0] (⟨2, ![n, 2048]⟩ : Shape).size inb).toLoadRect hl) kt) Q) :=
  load_at c mAN (Rect.unit (s := S256x2048) ![a, 0] (⟨2, ![n, 2048]⟩ : Shape).size inb).toLoadRect q f (rows f a n) (R2 a (a + n))
    (subset_of_eq (((View.set_slice (View.whole cc0_scratch2) (Rect.unit (s := S256x2048) ![a, 0] (⟨2, ![n, 2048]⟩ : Shape).size inb)).symm).trans (set_v2A a n inb (fun _ => rfl))))
    (read_v2 mAN f f rfl a n hn inb (fun _ => rfl))

/-- Loading `n` rows from `a` of slot `s`, to be used without its leading unit axis. -/
theorem load_F (s a n : ℕ) (hs : s < 2) (hn : a + n ≤ 256) (inb : ∀ x, (![s, a, 0] : Fin 3 → ℕ) x + (⟨3, ![1, n, 2048]⟩ : Shape).size x ≤ S2x256x2048.size x) {hl}
    {kt : ((⟨3, ![1, n, 2048]⟩ : Shape).Idx → Elt F .f32) → Prog (TpuEff nD τ sig (Elt F) Λ₀ .tc) α}
    (q : PosShare TreeShare) (Y Z : S256x2048.Idx → Elt F .f32) (hq : (⟨3, ![1, n, 2048]⟩ : Shape).Squeezes ⟨2, ![n, 2048]⟩) :
    ptF c q (R3 s a (a + n)) (pair Y Z) ⊢ iprop((∀ v, ⌜∀ hc, shapeCast (⟨2, ![n, 2048]⟩ : Shape) v hc = rows (if s = 0 then Y else Z) a n⌝
          -∗ ptF c q (R3 s a (a + n)) (pair Y Z) -∗ WP c (kt v) Q)
      -∗ WP c (.op (.load mFW (Rect.unit (s := S2x256x2048) ![s, a, 0] (⟨3, ![1, n, 2048]⟩ : Shape).size inb).toLoadRect hl) kt) Q) := by
  iintro H Hk
  iapply (load_at c mFW (Rect.unit (s := S2x256x2048) ![s, a, 0] (⟨3, ![1, n, 2048]⟩ : Shape).size inb).toLoadRect q (pair Y Z) _ (R3 s a (a + n))
    (subset_of_eq (((View.set_slice (View.whole cc0_scratch0) (Rect.unit (s := S2x256x2048) ![s, a, 0] (⟨3, ![1, n, 2048]⟩ : Shape).size inb)).symm).trans
      ((View.set_slice_whole _ _).trans (set_rect3 s a n inb)))) rfl) $$ H
  iintro H
  iapply Hk $$ [] H
  ipureintro
  intro hc
  exact read_pair mFW Y Z (pair Y Z) rfl s a n hs hn inb (fun _ => rfl) hq

/-- Loading rows of a slot of the backward buffer gives those rows of what the slot holds. -/
theorem load_B (s a n : ℕ) (hs : s < 2) (hn : a + n ≤ 256) (inb : ∀ x, (![s, a, 0] : Fin 3 → ℕ) x + (⟨3, ![1, n, 2048]⟩ : Shape).size x ≤ S2x256x2048.size x) {hl}
    {kt : ((⟨3, ![1, n, 2048]⟩ : Shape).Idx → Elt F .f32) → Prog (TpuEff nD τ sig (Elt F) Λ₀ .tc) α}
    (q : PosShare TreeShare) (Y Z : S256x2048.Idx → Elt F .f32) (hq : (⟨3, ![1, n, 2048]⟩ : Shape).Squeezes ⟨2, ![n, 2048]⟩) :
    ptB c q (R3 s a (a + n)) (pair Y Z) ⊢ iprop((∀ v, ⌜∀ hc, shapeCast (⟨2, ![n, 2048]⟩ : Shape) v hc = rows (if s = 0 then Y else Z) a n⌝
          -∗ ptB c q (R3 s a (a + n)) (pair Y Z) -∗ WP c (kt v) Q)
      -∗ WP c (.op (.load mBW (Rect.unit (s := S2x256x2048) ![s, a, 0] (⟨3, ![1, n, 2048]⟩ : Shape).size inb).toLoadRect hl) kt) Q) := by
  iintro H Hk
  iapply (load_at c mBW (Rect.unit (s := S2x256x2048) ![s, a, 0] (⟨3, ![1, n, 2048]⟩ : Shape).size inb).toLoadRect q (pair Y Z) _ (R3 s a (a + n))
    (subset_of_eq (((View.set_slice (View.whole cc0_scratch1) (Rect.unit (s := S2x256x2048) ![s, a, 0] (⟨3, ![1, n, 2048]⟩ : Shape).size inb)).symm).trans
      ((View.set_slice_whole _ _).trans (set_rect3 s a n inb)))) rfl) $$ H
  iintro H
  iapply Hk $$ [] H
  ipureintro
  intro hc
  exact read_pair mBW Y Z (pair Y Z) rfl s a n hs hn inb (fun _ => rfl) hq

end Loads

end Cert.RingProof

end
-- ==== Proof.Sends.lean ====
/-
# The fourteen copies, sent
-/
module

public import proofs.«01_k».proof.Proof.Mem

@[expose] public section

noncomputable section

namespace Cert.RingProof

open Cert.KernelIdeal Cert.KernelIdeal.Gen
open Idealize.ShloMosaic
open Idealize.ShloMosaic.TcCoe Idealize.ShloMosaic.RefSig
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

section Sends
variable (K : Dev nD × Ci → ℕ) (c n : Dev nD)
variable {α : Type} {Q : α → sProp (MT nD τ sig Unit (Elt F) ℕ UU ℕ)} {kt : PUnit → Prog (TpuEff nD τ sig (Elt F) Λ₀ .tc) α}

/-! ## What the views read -/

/-- A view of rows of the forward buffer reads rows of the block one or two places back. -/
theorem readF (s a k : ℕ) (hs : s < 2) (hk : a + k ≤ 256) (inb : ∀ x, (![s, a, 0] : Fin 3 → ℕ) x + (⟨3, ![1, k, 2048]⟩ : Shape).size x ≤ S2x256x2048.size x) (hr : ∀ x, (Rect.unit (s := S2x256x2048) ![s, a, 0] (⟨3, ![1, k, 2048]⟩ : Shape).size inb).stride x = 1) (hq : (Rect.unit (s := S2x256x2048) ![s, a, 0] (⟨3, ![1, k, 2048]⟩ : Shape).size inb).shape.Squeezes (⟨2, ![k, 2048]⟩ : Shape)) :
    (v3 mFW s a k inb hr hq).view.read (Elt F) (FW m ρ c) = rows (if s = 0 then X m ρ (rel c 7) else X m ρ (rel c 6)) a k :=
  read_pair mFW _ _ (FW m ρ c) rfl s a k hs hk inb hr hq
/-- A view of rows of the backward buffer reads rows of the block one or two places on. -/
theorem readB (s a k : ℕ) (hs : s < 2) (hk : a + k ≤ 256) (inb : ∀ x, (![s, a, 0] : Fin 3 → ℕ) x + (⟨3, ![1, k, 2048]⟩ : Shape).size x ≤ S2x256x2048.size x) (hr : ∀ x, (Rect.unit (s := S2x256x2048) ![s, a, 0] (⟨3, ![1, k, 2048]⟩ : Shape).size inb).stride x = 1) (hq : (Rect.unit (s := S2x256x2048) ![s, a, 0] (⟨3, ![1, k, 2048]⟩ : Shape).size inb).shape.Squeezes (⟨2, ![k, 2048]⟩ : Shape)) :
    (v3 mBW s a k inb hr hq).view.read (Elt F) (BW m ρ c) = rows (if s = 0 then X m ρ (rel c 1) else X m ρ (rel c 2)) a k :=
  read_pair mBW _ _ (BW m ρ c) rfl s a k hs hk inb hr hq
/-- A view of rows of the `mAN` buffer reads those rows of what it holds. -/
theorem readA (Y : S256x2048.Idx → Elt F .f32) (a k : ℕ) (hk : a + k ≤ 256) (inb : ∀ x, (![a, 0] : Fin 2 → ℕ) x + (⟨2, ![k, 2048]⟩ : Shape).size x ≤ S256x2048.size x) (hr : ∀ x, (Rect.unit (s := S256x2048) ![a, 0] (⟨2, ![k, 2048]⟩ : Shape).size inb).stride x = 1) :
    (v2 mAN a k inb hr).view.read (Elt F) Y = rows Y a k := read_v2 mAN Y Y rfl a k hk inb hr
/-- A view of rows of the window on `x` reads those rows of what it holds. -/
theorem readX (Y : S256x2048.Idx → Elt F .f32) (a k : ℕ) (hk : a + k ≤ 256) (inb : ∀ x, (![a, 0] : Fin 2 → ℕ) x + (⟨2, ![k, 2048]⟩ : Shape).size x ≤ S256x2048.size x) (hr : ∀ x, (Rect.unit (s := S256x2048) ![a, 0] (⟨2, ![k, 2048]⟩ : Shape).size inb).stride x = 1) :
    (v2 mX a k inb hr).view.read (Elt F) Y = rows Y a k := read_v2 mX Y Y rfl a k hk inb hr

/-- Rows of the block of the device a copy's contents come from, named from both ends. -/
theorem same {d e : Dev nD} (h : d = e) (a k : ℕ) : rows (X m ρ d) a k = rows (X m ρ e) a k := by rw [h]

/-- Two places back from the right neighbour is one place back. -/
theorem id2 : rel (rgt c) 6 = rel c 7 := by revert c; decide
/-- At an odd place, the right neighbour's eighth device is two places back. -/
theorem id4o (h : ev c = false) : far (rgt c) = rel c 6 := by revert c; decide
/-- At an even place, the right neighbour's eighth device is four places on. -/
theorem id4e (h : ev c = true) : far (rgt c) = rel c 4 := by revert c; decide
/-- Two places on from the left neighbour is one place on. -/
theorem id7 : rel (lft c) 2 = rel c 1 := by revert c; decide
/-- At an odd place, the left neighbour's eighth device is four places on. -/
theorem id9o (h : ev c = false) : far (lft c) = rel c 4 := by revert c; decide
/-- At an even place, the left neighbour's eighth device is two places on. -/
theorem id9e (h : ev c = true) : far (lft c) = rel c 2 := by revert c; decide
/-- At an odd place, four places on from the partner is one place on. -/
theorem id11o (h : ev c = false) : rel (ptn c) 4 = rel c 1 := by revert c; decide
/-- At an even place, four places on from the partner is one place back. -/
theorem id11e (h : ev c = true) : rel (ptn c) 4 = rel c 7 := by revert c; decide
/-- At an odd place, the partner's eighth device is two places on. -/
theorem id13o (h : ev c = false) : far (ptn c) = rel c 2 := by revert c; decide
/-- At an even place, the partner's eighth device is two places back. -/
theorem id13e (h : ev c = true) : far (ptn c) = rel c 6 := by revert c; decide

/-- At an odd place, a choice by parity is its second side. -/
theorem odd_if (h : ev c = false) {P P' : sProp (MT nD τ sig Unit (Elt F) ℕ UU ℕ)} : (if ev c then P else P') = P' := by rw [h]; rfl
/-- At an even place, a choice by parity is its first side. -/
theorem even_if (h : ev c = true) {P P' : sProp (MT nD τ sig Unit (Elt F) ℕ UU ℕ)} : (if ev c then P else P') = P := by rw [h]; rfl

/-! ## The copies -/

/-- Sending copy 0: the upper rows of `x`, to the right. -/
theorem send0 (hn : n.val = (rgt c).val) {inb₁ : ∀ x, (![0, 0] : Fin 2 → ℕ) x + (⟨2, ![128, 2048]⟩ : Shape).size x ≤ S256x2048.size x} {hr₁ : ∀ x, (Rect.unit (s := S256x2048) ![0, 0] (⟨2, ![128, 2048]⟩ : Shape).size inb₁).stride x = 1} {inb₂ : ∀ x, (![0, 0, 0] : Fin 3 → ℕ) x + (⟨3, ![1, 128, 2048]⟩ : Shape).size x ≤ S2x256x2048.size x} {hr₂ : ∀ x, (Rect.unit (s := S2x256x2048) ![0, 0, 0] (⟨3, ![1, 128, 2048]⟩ : Shape).size inb₂).stride x = 1} {hq₂ : (Rect.unit (s := S2x256x2048) ![0, 0, 0] (⟨3, ![1, 128, 2048]⟩ : Shape).size inb₂).shape.Squeezes (⟨2, ![128, 2048]⟩ : Shape)} {sA sB : DmaSem sig} (hA : sA = sS 0) (hB : sB = sR 0) {hsc hsrc hdst hsem}
    (S S' : Finset (Fin 14)) (hk : (0 : Fin 14) ∈ S) (hS' : S.erase 0 = S') :
    iprop(recs m ρ K ∗ srcPay m ρ 0 c ∗ dstAny (F := F) 0 (rgt c) ∗ toks 0 c ∗ OW c S)
      ⊢ iprop(((sent 0 c ∗ OW c S') -∗ WP c (kt ⟨⟩) Q)
          -∗ WP c (.op (.enqueueDma (v2 mX 0 128 inb₁ hr₁) (.remote (Dev.tc n : Thread nD τ) (v3 mFW 0 0 128 inb₂ hr₂ hq₂) (.dma sA) hsc) (.dma sB) hsrc hdst hsem) kt) Q) :=
  send_step m ρ K 0 c n (rgt c) (src := (v2 mX 0 128 inb₁ hr₁)) (dst' := (v3 mFW 0 0 128 inb₂ hr₂ hq₂)) (Fin.ext hn) (rfl : dd 0 c = (rgt c)) hA hB fq.right.left (X m ρ c) (fun C => C.fw) (cr 128) (rfl) (rfl)
    (congrArg (fun S => ptX c fq.right.left S (X m ρ c)) (set_v2X 0 128 inb₁ hr₁).symm)
    (fun C => (congrArg (fun S => ptF (rgt c) fq S C.fw) (set_v3F 0 0 128 inb₂ hr₂ hq₂).symm))
    ((readF m ρ (rgt c) 0 0 128 (by decide) (by decide) inb₂ hr₂ hq₂).trans ((same m ρ (lft_rgt c) 0 128).trans (readX (X m ρ c) 0 128 (by decide) inb₁ hr₁).symm)) S S' hk hS'

/-- Sending copy 1: the lower rows of `x`, to the right. -/
theorem send1 (hn : n.val = (rgt c).val) {inb₁ : ∀ x, (![128, 0] : Fin 2 → ℕ) x + (⟨2, ![128, 2048]⟩ : Shape).size x ≤ S256x2048.size x} {hr₁ : ∀ x, (Rect.unit (s := S256x2048) ![128, 0] (⟨2, ![128, 2048]⟩ : Shape).size inb₁).stride x = 1} {inb₂ : ∀ x, (![0, 128, 0] : Fin 3 → ℕ) x + (⟨3, ![1, 128, 2048]⟩ : Shape).size x ≤ S2x256x2048.size x} {hr₂ : ∀ x, (Rect.unit (s := S2x256x2048) ![0, 128, 0] (⟨3, ![1, 128, 2048]⟩ : Shape).size inb₂).stride x = 1} {hq₂ : (Rect.unit (s := S2x256x2048) ![0, 128, 0] (⟨3, ![1, 128, 2048]⟩ : Shape).size inb₂).shape.Squeezes (⟨2, ![128, 2048]⟩ : Shape)} {sA sB : DmaSem sig} (hA : sA = sS 1) (hB : sB = sR 1) {hsc hsrc hdst hsem}
    (S S' : Finset (Fin 14)) (hk : (1 : Fin 14) ∈ S) (hS' : S.erase 1 = S') :
    iprop(recs m ρ K ∗ srcPay m ρ 1 c ∗ dstAny (F := F) 1 (rgt c) ∗ toks 1 c ∗ OW c S)
      ⊢ iprop(((sent 1 c ∗ OW c S') -∗ WP c (kt ⟨⟩) Q)
          -∗ WP c (.op (.enqueueDma (v2 mX 128 128 inb₁ hr₁) (.remote (Dev.tc n : Thread nD τ) (v3 mFW 0 128 128 inb₂ hr₂ hq₂) (.dma sA) hsc) (.dma sB) hsrc hdst hsem) kt) Q) :=
  send_step m ρ K 1 c n (rgt c) (src := (v2 mX 128 128 inb₁ hr₁)) (dst' := (v3 mFW 0 128 128 inb₂ hr₂ hq₂)) (Fin.ext hn) (rfl : dd 1 c = (rgt c)) hA hB fq.right.left (X m ρ c) (fun C => C.fw) (cr 128) (rfl) (rfl)
    (congrArg (fun S => ptX c fq.right.left S (X m ρ c)) (set_v2X 128 128 inb₁ hr₁).symm)
    (fun C => (congrArg (fun S => ptF (rgt c) fq S C.fw) (set_v3F 0 128 128 inb₂ hr₂ hq₂).symm))
    ((readF m ρ (rgt c) 0 128 128 (by decide) (by decide) inb₂ hr₂ hq₂).trans ((same m ρ (lft_rgt c) 128 128).trans (readX (X m ρ c) 128 128 (by decide) inb₁ hr₁).symm)) S S' hk hS'

/-- Sending copy 2: the upper rows that came from the left, on to the right. -/
theorem send2 (hn : n.val = (rgt c).val) {inb₁ : ∀ x, (![0, 0, 0] : Fin 3 → ℕ) x + (⟨3, ![1, 128, 2048]⟩ : Shape).size x ≤ S2x256x2048.size x} {hr₁ : ∀ x, (Rect.unit (s := S2x256x2048) ![0, 0, 0] (⟨3, ![1, 128, 2048]⟩ : Shape).size inb₁).stride x = 1} {hq₁ : (Rect.unit (s := S2x256x2048) ![0, 0, 0] (⟨3, ![1, 128, 2048]⟩ : Shape).size inb₁).shape.Squeezes (⟨2, ![128, 2048]⟩ : Shape)} {inb₂ : ∀ x, (![1, 0, 0] : Fin 3 → ℕ) x + (⟨3, ![1, 128, 2048]⟩ : Shape).size x ≤ S2x256x2048.size x} {hr₂ : ∀ x, (Rect.unit (s := S2x256x2048) ![1, 0, 0] (⟨3, ![1, 128, 2048]⟩ : Shape).size inb₂).stride x = 1} {hq₂ : (Rect.unit (s := S2x256x2048) ![1, 0, 0] (⟨3, ![1, 128, 2048]⟩ : Shape).size inb₂).shape.Squeezes (⟨2, ![128, 2048]⟩ : Shape)} {sA sB : DmaSem sig} (hA : sA = sS 2) (hB : sB = sR 2) {hsc hsrc hdst hsem}
    (S S' : Finset (Fin 14)) (hk : (2 : Fin 14) ∈ S) (hS' : S.erase 2 = S') :
    iprop(recs m ρ K ∗ srcPay m ρ 2 c ∗ dstAny (F := F) 2 (rgt c) ∗ toks 2 c ∗ OW c S)
      ⊢ iprop(((sent 2 c ∗ OW c S') -∗ WP c (kt ⟨⟩) Q)
          -∗ WP c (.op (.enqueueDma (v3 mFW 0 0 128 inb₁ hr₁ hq₁) (.remote (Dev.tc n : Thread nD τ) (v3 mFW 1 0 128 inb₂ hr₂ hq₂) (.dma sA) hsc) (.dma sB) hsrc hdst hsem) kt) Q) :=
  send_step m ρ K 2 c n (rgt c) (src := (v3 mFW 0 0 128 inb₁ hr₁ hq₁)) (dst' := (v3 mFW 1 0 128 inb₂ hr₂ hq₂)) (Fin.ext hn) (rfl : dd 2 c = (rgt c)) hA hB fq.right.left (FW m ρ c) (fun C => C.fw) (cr 128) (rfl) (rfl)
    (congrArg (fun S => ptF c fq.right.left S (FW m ρ c)) (set_v3F 0 0 128 inb₁ hr₁ hq₁).symm)
    (fun C => (congrArg (fun S => ptF (rgt c) fq S C.fw) (set_v3F 1 0 128 inb₂ hr₂ hq₂).symm))
    ((readF m ρ (rgt c) 1 0 128 (by decide) (by decide) inb₂ hr₂ hq₂).trans ((same m ρ (id2 c) 0 128).trans (readF m ρ c 0 0 128 (by decide) (by decide) inb₁ hr₁ hq₁).symm)) S S' hk hS'

/-- Sending copy 3: the lower rows that came from the left, on to the right. -/
theorem send3 (hn : n.val = (rgt c).val) {inb₁ : ∀ x, (![0, 128, 0] : Fin 3 → ℕ) x + (⟨3, ![1, 128, 2048]⟩ : Shape).size x ≤ S2x256x2048.size x} {hr₁ : ∀ x, (Rect.unit (s := S2x256x2048) ![0, 128, 0] (⟨3, ![1, 128, 2048]⟩ : Shape).size inb₁).stride x = 1} {hq₁ : (Rect.unit (s := S2x256x2048) ![0, 128, 0] (⟨3, ![1, 128, 2048]⟩ : Shape).size inb₁).shape.Squeezes (⟨2, ![128, 2048]⟩ : Shape)} {inb₂ : ∀ x, (![1, 128, 0] : Fin 3 → ℕ) x + (⟨3, ![1, 128, 2048]⟩ : Shape).size x ≤ S2x256x2048.size x} {hr₂ : ∀ x, (Rect.unit (s := S2x256x2048) ![1, 128, 0] (⟨3, ![1, 128, 2048]⟩ : Shape).size inb₂).stride x = 1} {hq₂ : (Rect.unit (s := S2x256x2048) ![1, 128, 0] (⟨3, ![1, 128, 2048]⟩ : Shape).size inb₂).shape.Squeezes (⟨2, ![128, 2048]⟩ : Shape)} {sA sB : DmaSem sig} (hA : sA = sS 3) (hB : sB = sR 3) {hsc hsrc hdst hsem}
    (S S' : Finset (Fin 14)) (hk : (3 : Fin 14) ∈ S) (hS' : S.erase 3 = S') :
    iprop(recs m ρ K ∗ srcPay m ρ 3 c ∗ dstAny (F := F) 3 (rgt c) ∗ toks 3 c ∗ OW c S)
      ⊢ iprop(((sent 3 c ∗ OW c S') -∗ WP c (kt ⟨⟩) Q)
          -∗ WP c (.op (.enqueueDma (v3 mFW 0 128 128 inb₁ hr₁ hq₁) (.remote (Dev.tc n : Thread nD τ) (v3 mFW 1 128 128 inb₂ hr₂ hq₂) (.dma sA) hsc) (.dma sB) hsrc hdst hsem) kt) Q) :=
  send_step m ρ K 3 c n (rgt c) (src := (v3 mFW 0 128 128 inb₁ hr₁ hq₁)) (dst' := (v3 mFW 1 128 128 inb₂ hr₂ hq₂)) (Fin.ext hn) (rfl : dd 3 c = (rgt c)) hA hB fq.right.left (FW m ρ c) (fun C => C.fw) (cr 128) (rfl) (rfl)
    (congrArg (fun S => ptF c fq.right.left S (FW m ρ c)) (set_v3F 0 128 128 inb₁ hr₁ hq₁).symm)
    (fun C => (congrArg (fun S => ptF (rgt c) fq S C.fw) (set_v3F 1 128 128 inb₂ hr₂ hq₂).symm))
    ((readF m ρ (rgt c) 1 128 128 (by decide) (by decide) inb₂ hr₂ hq₂).trans ((same m ρ (id2 c) 128 128).trans (readF m ρ c 0 128 128 (by decide) (by decide) inb₁ hr₁ hq₁).symm)) S S' hk hS'

/-- Sending copy 5: the upper rows of `x`, to the left. -/
theorem send5 (hn : n.val = (lft c).val) {inb₁ : ∀ x, (![0, 0] : Fin 2 → ℕ) x + (⟨2, ![128, 2048]⟩ : Shape).size x ≤ S256x2048.size x} {hr₁ : ∀ x, (Rect.unit (s := S256x2048) ![0, 0] (⟨2, ![128, 2048]⟩ : Shape).size inb₁).stride x = 1} {inb₂ : ∀ x, (![0, 0, 0] : Fin 3 → ℕ) x + (⟨3, ![1, 128, 2048]⟩ : Shape).size x ≤ S2x256x2048.size x} {hr₂ : ∀ x, (Rect.unit (s := S2x256x2048) ![0, 0, 0] (⟨3, ![1, 128, 2048]⟩ : Shape).size inb₂).stride x = 1} {hq₂ : (Rect.unit (s := S2x256x2048) ![0, 0, 0] (⟨3, ![1, 128, 2048]⟩ : Shape).size inb₂).shape.Squeezes (⟨2, ![128, 2048]⟩ : Shape)} {sA sB : DmaSem sig} (hA : sA = sS 5) (hB : sB = sR 5) {hsc hsrc hdst hsem}
    (S S' : Finset (Fin 14)) (hk : (5 : Fin 14) ∈ S) (hS' : S.erase 5 = S') :
    iprop(recs m ρ K ∗ srcPay m ρ 5 c ∗ dstAny (F := F) 5 (lft c) ∗ toks 5 c ∗ OW c S)
      ⊢ iprop(((sent 5 c ∗ OW c S') -∗ WP c (kt ⟨⟩) Q)
          -∗ WP c (.op (.enqueueDma (v2 mX 0 128 inb₁ hr₁) (.remote (Dev.tc n : Thread nD τ) (v3 mBW 0 0 128 inb₂ hr₂ hq₂) (.dma sA) hsc) (.dma sB) hsrc hdst hsem) kt) Q) :=
  send_step m ρ K 5 c n (lft c) (src := (v2 mX 0 128 inb₁ hr₁)) (dst' := (v3 mBW 0 0 128 inb₂ hr₂ hq₂)) (Fin.ext hn) (rfl : dd 5 c = (lft c)) hA hB fq.right.right.left (X m ρ c) (fun C => C.bw) (cr 128) (rfl) (rfl)
    (congrArg (fun S => ptX c fq.right.right.left S (X m ρ c)) (set_v2X 0 128 inb₁ hr₁).symm)
    (fun C => (congrArg (fun S => ptB (lft c) fq S C.bw) (set_v3B 0 0 128 inb₂ hr₂ hq₂).symm))
    ((readB m ρ (lft c) 0 0 128 (by decide) (by decide) inb₂ hr₂ hq₂).trans ((same m ρ (rgt_lft c) 0 128).trans (readX (X m ρ c) 0 128 (by decide) inb₁ hr₁).symm)) S S' hk hS'

/-- Sending copy 6: the lower rows of `x`, to the left. -/
theorem send6 (hn : n.val = (lft c).val) {inb₁ : ∀ x, (![128, 0] : Fin 2 → ℕ) x + (⟨2, ![128, 2048]⟩ : Shape).size x ≤ S256x2048.size x} {hr₁ : ∀ x, (Rect.unit (s := S256x2048) ![128, 0] (⟨2, ![128, 2048]⟩ : Shape).size inb₁).stride x = 1} {inb₂ : ∀ x, (![0, 128, 0] : Fin 3 → ℕ) x + (⟨3, ![1, 128, 2048]⟩ : Shape).size x ≤ S2x256x2048.size x} {hr₂ : ∀ x, (Rect.unit (s := S2x256x2048) ![0, 128, 0] (⟨3, ![1, 128, 2048]⟩ : Shape).size inb₂).stride x = 1} {hq₂ : (Rect.unit (s := S2x256x2048) ![0, 128, 0] (⟨3, ![1, 128, 2048]⟩ : Shape).size inb₂).shape.Squeezes (⟨2, ![128, 2048]⟩ : Shape)} {sA sB : DmaSem sig} (hA : sA = sS 6) (hB : sB = sR 6) {hsc hsrc hdst hsem}
    (S S' : Finset (Fin 14)) (hk : (6 : Fin 14) ∈ S) (hS' : S.erase 6 = S') :
    iprop(recs m ρ K ∗ srcPay m ρ 6 c ∗ dstAny (F := F) 6 (lft c) ∗ toks 6 c ∗ OW c S)
      ⊢ iprop(((sent 6 c ∗ OW c S') -∗ WP c (kt ⟨⟩) Q)
          -∗ WP c (.op (.enqueueDma (v2 mX 128 128 inb₁ hr₁) (.remote (Dev.tc n : Thread nD τ) (v3 mBW 0 128 128 inb₂ hr₂ hq₂) (.dma sA) hsc) (.dma sB) hsrc hdst hsem) kt) Q) :=
  send_step m ρ K 6 c n (lft c) (src := (v2 mX 128 128 inb₁ hr₁)) (dst' := (v3 mBW 0 128 128 inb₂ hr₂ hq₂)) (Fin.ext hn) (rfl : dd 6 c = (lft c)) hA hB fq.right.right.left (X m ρ c) (fun C => C.bw) (cr 128) (rfl) (rfl)
    (congrArg (fun S => ptX c fq.right.right.left S (X m ρ c)) (set_v2X 128 128 inb₁ hr₁).symm)
    (fun C => (congrArg (fun S => ptB (lft c) fq S C.bw) (set_v3B 0 128 128 inb₂ hr₂ hq₂).symm))
    ((readB m ρ (lft c) 0 128 128 (by decide) (by decide) inb₂ hr₂ hq₂).trans ((same m ρ (rgt_lft c) 128 128).trans (readX (X m ρ c) 128 128 (by decide) inb₁ hr₁).symm)) S S' hk hS'

/-- Sending copy 7: the upper rows that came from the right, on to the left. -/
theorem send7 (hn : n.val = (lft c).val) {inb₁ : ∀ x, (![0, 0, 0] : Fin 3 → ℕ) x + (⟨3, ![1, 128, 2048]⟩ : Shape).size x ≤ S2x256x2048.size x} {hr₁ : ∀ x, (Rect.unit (s := S2x256x2048) ![0, 0, 0] (⟨3, ![1, 128, 2048]⟩ : Shape).size inb₁).stride x = 1} {hq₁ : (Rect.unit (s := S2x256x2048) ![0, 0, 0] (⟨3, ![1, 128, 2048]⟩ : Shape).size inb₁).shape.Squeezes (⟨2, ![128, 2048]⟩ : Shape)} {inb₂ : ∀ x, (![1, 0, 0] : Fin 3 → ℕ) x + (⟨3, ![1, 128, 2048]⟩ : Shape).size x ≤ S2x256x2048.size x} {hr₂ : ∀ x, (Rect.unit (s := S2x256x2048) ![1, 0, 0] (⟨3, ![1, 128, 2048]⟩ : Shape).size inb₂).stride x = 1} {hq₂ : (Rect.unit (s := S2x256x2048) ![1, 0, 0] (⟨3, ![1, 128, 2048]⟩ : Shape).size inb₂).shape.Squeezes (⟨2, ![128, 2048]⟩ : Shape)} {sA sB : DmaSem sig} (hA : sA = sS 7) (hB : sB = sR 7) {hsc hsrc hdst hsem}
    (S S' : Finset (Fin 14)) (hk : (7 : Fin 14) ∈ S) (hS' : S.erase 7 = S') :
    iprop(recs m ρ K ∗ srcPay m ρ 7 c ∗ dstAny (F := F) 7 (lft c) ∗ toks 7 c ∗ OW c S)
      ⊢ iprop(((sent 7 c ∗ OW c S') -∗ WP c (kt ⟨⟩) Q)
          -∗ WP c (.op (.enqueueDma (v3 mBW 0 0 128 inb₁ hr₁ hq₁) (.remote (Dev.tc n : Thread nD τ) (v3 mBW 1 0 128 inb₂ hr₂ hq₂) (.dma sA) hsc) (.dma sB) hsrc hdst hsem) kt) Q) :=
  send_step m ρ K 7 c n (lft c) (src := (v3 mBW 0 0 128 inb₁ hr₁ hq₁)) (dst' := (v3 mBW 1 0 128 inb₂ hr₂ hq₂)) (Fin.ext hn) (rfl : dd 7 c = (lft c)) hA hB fq.right.left (BW m ρ c) (fun C => C.bw) (cr 128) (rfl) (rfl)
    (congrArg (fun S => ptB c fq.right.left S (BW m ρ c)) (set_v3B 0 0 128 inb₁ hr₁ hq₁).symm)
    (fun C => (congrArg (fun S => ptB (lft c) fq S C.bw) (set_v3B 1 0 128 inb₂ hr₂ hq₂).symm))
    ((readB m ρ (lft c) 1 0 128 (by decide) (by decide) inb₂ hr₂ hq₂).trans ((same m ρ (id7 c) 0 128).trans (readB m ρ c 0 0 128 (by decide) (by decide) inb₁ hr₁ hq₁).symm)) S S' hk hS'

/-- Sending copy 8: the lower rows that came from the right, on to the left. -/
theorem send8 (hn : n.val = (lft c).val) {inb₁ : ∀ x, (![0, 128, 0] : Fin 3 → ℕ) x + (⟨3, ![1, 128, 2048]⟩ : Shape).size x ≤ S2x256x2048.size x} {hr₁ : ∀ x, (Rect.unit (s := S2x256x2048) ![0, 128, 0] (⟨3, ![1, 128, 2048]⟩ : Shape).size inb₁).stride x = 1} {hq₁ : (Rect.unit (s := S2x256x2048) ![0, 128, 0] (⟨3, ![1, 128, 2048]⟩ : Shape).size inb₁).shape.Squeezes (⟨2, ![128, 2048]⟩ : Shape)} {inb₂ : ∀ x, (![1, 128, 0] : Fin 3 → ℕ) x + (⟨3, ![1, 128, 2048]⟩ : Shape).size x ≤ S2x256x2048.size x} {hr₂ : ∀ x, (Rect.unit (s := S2x256x2048) ![1, 128, 0] (⟨3, ![1, 128, 2048]⟩ : Shape).size inb₂).stride x = 1} {hq₂ : (Rect.unit (s := S2x256x2048) ![1, 128, 0] (⟨3, ![1, 128, 2048]⟩ : Shape).size inb₂).shape.Squeezes (⟨2, ![128, 2048]⟩ : Shape)} {sA sB : DmaSem sig} (hA : sA = sS 8) (hB : sB = sR 8) {hsc hsrc hdst hsem}
    (S S' : Finset (Fin 14)) (hk : (8 : Fin 14) ∈ S) (hS' : S.erase 8 = S') :
    iprop(recs m ρ K ∗ srcPay m ρ 8 c ∗ dstAny (F := F) 8 (lft c) ∗ toks 8 c ∗ OW c S)
      ⊢ iprop(((sent 8 c ∗ OW c S') -∗ WP c (kt ⟨⟩) Q)
          -∗ WP c (.op (.enqueueDma (v3 mBW 0 128 128 inb₁ hr₁ hq₁) (.remote (Dev.tc n : Thread nD τ) (v3 mBW 1 128 128 inb₂ hr₂ hq₂) (.dma sA) hsc) (.dma sB) hsrc hdst hsem) kt) Q) :=
  send_step m ρ K 8 c n (lft c) (src := (v3 mBW 0 128 128 inb₁ hr₁ hq₁)) (dst' := (v3 mBW 1 128 128 inb₂ hr₂ hq₂)) (Fin.ext hn) (rfl : dd 8 c = (lft c)) hA hB fq.right.left (BW m ρ c) (fun C => C.bw) (cr 128) (rfl) (rfl)
    (congrArg (fun S => ptB c fq.right.left S (BW m ρ c)) (set_v3B 0 128 128 inb₁ hr₁ hq₁).symm)
    (fun C => (congrArg (fun S => ptB (lft c) fq S C.bw) (set_v3B 1 128 128 inb₂ hr₂ hq₂).symm))
    ((readB m ρ (lft c) 1 128 128 (by decide) (by decide) inb₂ hr₂ hq₂).trans ((same m ρ (id7 c) 128 128).trans (readB m ρ c 0 128 128 (by decide) (by decide) inb₁ hr₁ hq₁).symm)) S S' hk hS'

/-- Sending copy 4: the far upper rows, to the right, from an odd place. -/
theorem send4o (h : ev c = false) (hn : n.val = (rgt c).val) {inb₁ : ∀ x, (![1, 0, 0] : Fin 3 → ℕ) x + (⟨3, ![1, 88, 2048]⟩ : Shape).size x ≤ S2x256x2048.size x} {hr₁ : ∀ x, (Rect.unit (s := S2x256x2048) ![1, 0, 0] (⟨3, ![1, 88, 2048]⟩ : Shape).size inb₁).stride x = 1} {hq₁ : (Rect.unit (s := S2x256x2048) ![1, 0, 0] (⟨3, ![1, 88, 2048]⟩ : Shape).size inb₁).shape.Squeezes (⟨2, ![88, 2048]⟩ : Shape)}  {sA sB : DmaSem sig} (hA : sA = sS 4) (hB : sB = sR 4) {hsc hsrc hdst hsem}
    (S S' : Finset (Fin 14)) (hk : (4 : Fin 14) ∈ S) (hS' : S.erase 4 = S') :
    iprop(recs m ρ K ∗ srcPay m ρ 4 c ∗ dstAny (F := F) 4 (rgt c) ∗ toks 4 c ∗ OW c S)
      ⊢ iprop(((sent 4 c ∗ OW c S') -∗ WP c (kt ⟨⟩) Q)
          -∗ WP c (.op (.enqueueDma (v3 mFW 1 0 88 inb₁ hr₁ hq₁) (.remote (Dev.tc n : Thread nD τ) mF1 (.dma sA) hsc) (.dma sB) hsrc hdst hsem) kt) Q) :=
  send_step m ρ K 4 c n (rgt c) (src := (v3 mFW 1 0 88 inb₁ hr₁ hq₁)) (dst' := mF1) (Fin.ext hn) (rfl : dd 4 c = (rgt c)) hA hB fq.right (FW m ρ c) (fun C => C.f1) (cr 88) (rfl) (rfl)
    ((odd_if c h).trans (congrArg (fun S => ptF c fq.right S (FW m ρ c)) (set_v3F 1 0 88 inb₁ hr₁ hq₁).symm))
    (fun C => (congrArg (fun S => ((((rgt c) : Thread nD τ).loc cc0_scratch4) ↦[S]{fq} C.f1 : sProp (MT nD τ sig Unit (Elt F) ℕ UU ℕ))) (View.set_whole cc0_scratch4).symm))
    ((same m ρ (id4o c h) 0 88).trans (readF m ρ c 1 0 88 (by decide) (by decide) inb₁ hr₁ hq₁).symm) S S' hk hS'

/-- Sending copy 4: the far upper rows, to the right, from an even place. -/
theorem send4e (h : ev c = true) (hn : n.val = (rgt c).val) {inb₁ : ∀ x, (![0, 0] : Fin 2 → ℕ) x + (⟨2, ![88, 2048]⟩ : Shape).size x ≤ S256x2048.size x} {hr₁ : ∀ x, (Rect.unit (s := S256x2048) ![0, 0] (⟨2, ![88, 2048]⟩ : Shape).size inb₁).stride x = 1}  {sA sB : DmaSem sig} (hA : sA = sS 4) (hB : sB = sR 4) {hsc hsrc hdst hsem}
    (S S' : Finset (Fin 14)) (hk : (4 : Fin 14) ∈ S) (hS' : S.erase 4 = S') :
    iprop(recs m ρ K ∗ srcPay m ρ 4 c ∗ dstAny (F := F) 4 (rgt c) ∗ toks 4 c ∗ OW c S)
      ⊢ iprop(((sent 4 c ∗ OW c S') -∗ WP c (kt ⟨⟩) Q)
          -∗ WP c (.op (.enqueueDma (v2 mAN 0 88 inb₁ hr₁) (.remote (Dev.tc n : Thread nD τ) mF1 (.dma sA) hsc) (.dma sB) hsrc hdst hsem) kt) Q) :=
  send_step m ρ K 4 c n (rgt c) (src := (v2 mAN 0 88 inb₁ hr₁)) (dst' := mF1) (Fin.ext hn) (rfl : dd 4 c = (rgt c)) hA hB fq.right (X m ρ (rel c 4)) (fun C => C.f1) (cr 88) (rfl) (rfl)
    ((even_if c h).trans (congrArg (fun S => ptA c fq.right S (X m ρ (rel c 4))) (set_v2A 0 88 inb₁ hr₁).symm))
    (fun C => (congrArg (fun S => ((((rgt c) : Thread nD τ).loc cc0_scratch4) ↦[S]{fq} C.f1 : sProp (MT nD τ sig Unit (Elt F) ℕ UU ℕ))) (View.set_whole cc0_scratch4).symm))
    ((same m ρ (id4e c h) 0 88).trans (readA (X m ρ (rel c 4)) 0 88 (by decide) inb₁ hr₁).symm) S S' hk hS'

/-- Sending copy 9: the far lower rows, to the left, from an odd place. -/
theorem send9o (h : ev c = false) (hn : n.val = (lft c).val) {inb₁ : ∀ x, (![168, 0] : Fin 2 → ℕ) x + (⟨2, ![88, 2048]⟩ : Shape).size x ≤ S256x2048.size x} {hr₁ : ∀ x, (Rect.unit (s := S256x2048) ![168, 0] (⟨2, ![88, 2048]⟩ : Shape).size inb₁).stride x = 1}  {sA sB : DmaSem sig} (hA : sA = sS 9) (hB : sB = sR 9) {hsc hsrc hdst hsem}
    (S S' : Finset (Fin 14)) (hk : (9 : Fin 14) ∈ S) (hS' : S.erase 9 = S') :
    iprop(recs m ρ K ∗ srcPay m ρ 9 c ∗ dstAny (F := F) 9 (lft c) ∗ toks 9 c ∗ OW c S)
      ⊢ iprop(((sent 9 c ∗ OW c S') -∗ WP c (kt ⟨⟩) Q)
          -∗ WP c (.op (.enqueueDma (v2 mAN 168 88 inb₁ hr₁) (.remote (Dev.tc n : Thread nD τ) mF3 (.dma sA) hsc) (.dma sB) hsrc hdst hsem) kt) Q) :=
  send_step m ρ K 9 c n (lft c) (src := (v2 mAN 168 88 inb₁ hr₁)) (dst' := mF3) (Fin.ext hn) (rfl : dd 9 c = (lft c)) hA hB fq.right (X m ρ (rel c 4)) (fun C => C.f3) (cr 88) (rfl) (rfl)
    ((odd_if c h).trans (congrArg (fun S => ptA c fq.right S (X m ρ (rel c 4))) (set_v2A 168 88 inb₁ hr₁).symm))
    (fun C => (congrArg (fun S => ((((lft c) : Thread nD τ).loc cc0_scratch6) ↦[S]{fq} C.f3 : sProp (MT nD τ sig Unit (Elt F) ℕ UU ℕ))) (View.set_whole cc0_scratch6).symm))
    ((same m ρ (id9o c h) 168 88).trans (readA (X m ρ (rel c 4)) 168 88 (by decide) inb₁ hr₁).symm) S S' hk hS'

/-- Sending copy 9: the far lower rows, to the left, from an even place. -/
theorem send9e (h : ev c = true) (hn : n.val = (lft c).val) {inb₁ : ∀ x, (![1, 168, 0] : Fin 3 → ℕ) x + (⟨3, ![1, 88, 2048]⟩ : Shape).size x ≤ S2x256x2048.size x} {hr₁ : ∀ x, (Rect.unit (s := S2x256x2048) ![1, 168, 0] (⟨3, ![1, 88, 2048]⟩ : Shape).size inb₁).stride x = 1} {hq₁ : (Rect.unit (s := S2x256x2048) ![1, 168, 0] (⟨3, ![1, 88, 2048]⟩ : Shape).size inb₁).shape.Squeezes (⟨2, ![88, 2048]⟩ : Shape)}  {sA sB : DmaSem sig} (hA : sA = sS 9) (hB : sB = sR 9) {hsc hsrc hdst hsem}
    (S S' : Finset (Fin 14)) (hk : (9 : Fin 14) ∈ S) (hS' : S.erase 9 = S') :
    iprop(recs m ρ K ∗ srcPay m ρ 9 c ∗ dstAny (F := F) 9 (lft c) ∗ toks 9 c ∗ OW c S)
      ⊢ iprop(((sent 9 c ∗ OW c S') -∗ WP c (kt ⟨⟩) Q)
          -∗ WP c (.op (.enqueueDma (v3 mBW 1 168 88 inb₁ hr₁ hq₁) (.remote (Dev.tc n : Thread nD τ) mF3 (.dma sA) hsc) (.dma sB) hsrc hdst hsem) kt) Q) :=
  send_step m ρ K 9 c n (lft c) (src := (v3 mBW 1 168 88 inb₁ hr₁ hq₁)) (dst' := mF3) (Fin.ext hn) (rfl : dd 9 c = (lft c)) hA hB fq.right (BW m ρ c) (fun C => C.f3) (cr 88) (rfl) (rfl)
    ((even_if c h).trans (congrArg (fun S => ptB c fq.right S (BW m ρ c)) (set_v3B 1 168 88 inb₁ hr₁ hq₁).symm))
    (fun C => (congrArg (fun S => ((((lft c) : Thread nD τ).loc cc0_scratch6) ↦[S]{fq} C.f3 : sProp (MT nD τ sig Unit (Elt F) ℕ UU ℕ))) (View.set_whole cc0_scratch6).symm))
    ((same m ρ (id9e c h) 168 88).trans (readB m ρ c 1 168 88 (by decide) (by decide) inb₁ hr₁ hq₁).symm) S S' hk hS'

/-- Sending copy 11: the upper rows that came from the right, to the partner, from an odd place. -/
theorem send11o (h : ev c = false) (hn : n.val = (ptn c).val) {inb₁ : ∀ x, (![0, 0, 0] : Fin 3 → ℕ) x + (⟨3, ![1, 128, 2048]⟩ : Shape).size x ≤ S2x256x2048.size x} {hr₁ : ∀ x, (Rect.unit (s := S2x256x2048) ![0, 0, 0] (⟨3, ![1, 128, 2048]⟩ : Shape).size inb₁).stride x = 1} {hq₁ : (Rect.unit (s := S2x256x2048) ![0, 0, 0] (⟨3, ![1, 128, 2048]⟩ : Shape).size inb₁).shape.Squeezes (⟨2, ![128, 2048]⟩ : Shape)} {inb₂ : ∀ x, (![0, 0] : Fin 2 → ℕ) x + (⟨2, ![128, 2048]⟩ : Shape).size x ≤ S256x2048.size x} {hr₂ : ∀ x, (Rect.unit (s := S256x2048) ![0, 0] (⟨2, ![128, 2048]⟩ : Shape).size inb₂).stride x = 1} {sA sB : DmaSem sig} (hA : sA = sS 11) (hB : sB = sR 11) {hsc hsrc hdst hsem}
    (S S' : Finset (Fin 14)) (hk : (11 : Fin 14) ∈ S) (hS' : S.erase 11 = S') :
    iprop(recs m ρ K ∗ srcPay m ρ 11 c ∗ dstAny (F := F) 11 (ptn c) ∗ toks 11 c ∗ OW c S)
      ⊢ iprop(((sent 11 c ∗ OW c S') -∗ WP c (kt ⟨⟩) Q)
          -∗ WP c (.op (.enqueueDma (v3 mBW 0 0 128 inb₁ hr₁ hq₁) (.remote (Dev.tc n : Thread nD τ) (v2 mAN 0 128 inb₂ hr₂) (.dma sA) hsc) (.dma sB) hsrc hdst hsem) kt) Q) :=
  send_step m ρ K 11 c n (ptn c) (src := (v3 mBW 0 0 128 inb₁ hr₁ hq₁)) (dst' := (v2 mAN 0 128 inb₂ hr₂)) (Fin.ext hn) (rfl : dd 11 c = (ptn c)) hA hB fq.right.right (BW m ρ c) (fun C => C.an) (cr 128) (rfl) (rfl)
    ((odd_if c h).trans (congrArg (fun S => ptB c fq.right.right S (BW m ρ c)) (set_v3B 0 0 128 inb₁ hr₁ hq₁).symm))
    (fun C => (congrArg (fun S => ptA (ptn c) fq S C.an) (set_v2A 0 128 inb₂ hr₂).symm))
    ((readA (X m ρ (rel (ptn c) 4)) 0 128 (by decide) inb₂ hr₂).trans ((same m ρ (id11o c h) 0 128).trans (readB m ρ c 0 0 128 (by decide) (by decide) inb₁ hr₁ hq₁).symm)) S S' hk hS'

/-- Sending copy 11: the upper rows that came from the left, to the partner, from an even place. -/
theorem send11e (h : ev c = true) (hn : n.val = (ptn c).val) {inb₁ : ∀ x, (![0, 0, 0] : Fin 3 → ℕ) x + (⟨3, ![1, 128, 2048]⟩ : Shape).size x ≤ S2x256x2048.size x} {hr₁ : ∀ x, (Rect.unit (s := S2x256x2048) ![0, 0, 0] (⟨3, ![1, 128, 2048]⟩ : Shape).size inb₁).stride x = 1} {hq₁ : (Rect.unit (s := S2x256x2048) ![0, 0, 0] (⟨3, ![1, 128, 2048]⟩ : Shape).size inb₁).shape.Squeezes (⟨2, ![128, 2048]⟩ : Shape)} {inb₂ : ∀ x, (![0, 0] : Fin 2 → ℕ) x + (⟨2, ![128, 2048]⟩ : Shape).size x ≤ S256x2048.size x} {hr₂ : ∀ x, (Rect.unit (s := S256x2048) ![0, 0] (⟨2, ![128, 2048]⟩ : Shape).size inb₂).stride x = 1} {sA sB : DmaSem sig} (hA : sA = sS 11) (hB : sB = sR 11) {hsc hsrc hdst hsem}
    (S S' : Finset (Fin 14)) (hk : (11 : Fin 14) ∈ S) (hS' : S.erase 11 = S') :
    iprop(recs m ρ K ∗ srcPay m ρ 11 c ∗ dstAny (F := F) 11 (ptn c) ∗ toks 11 c ∗ OW c S)
      ⊢ iprop(((sent 11 c ∗ OW c S') -∗ WP c (kt ⟨⟩) Q)
          -∗ WP c (.op (.enqueueDma (v3 mFW 0 0 128 inb₁ hr₁ hq₁) (.remote (Dev.tc n : Thread nD τ) (v2 mAN 0 128 inb₂ hr₂) (.dma sA) hsc) (.dma sB) hsrc hdst hsem) kt) Q) :=
  send_step m ρ K 11 c n (ptn c) (src := (v3 mFW 0 0 128 inb₁ hr₁ hq₁)) (dst' := (v2 mAN 0 128 inb₂ hr₂)) (Fin.ext hn) (rfl : dd 11 c = (ptn c)) hA hB fq.right.right (FW m ρ c) (fun C => C.an) (cr 128) (rfl) (rfl)
    ((even_if c h).trans (congrArg (fun S => ptF c fq.right.right S (FW m ρ c)) (set_v3F 0 0 128 inb₁ hr₁ hq₁).symm))
    (fun C => (congrArg (fun S => ptA (ptn c) fq S C.an) (set_v2A 0 128 inb₂ hr₂).symm))
    ((readA (X m ρ (rel (ptn c) 4)) 0 128 (by decide) inb₂ hr₂).trans ((same m ρ (id11e c h) 0 128).trans (readF m ρ c 0 0 128 (by decide) (by decide) inb₁ hr₁ hq₁).symm)) S S' hk hS'

/-- Sending copy 12: the lower rows that came from the right, to the partner, from an odd place. -/
theorem send12o (h : ev c = false) (hn : n.val = (ptn c).val) {inb₁ : ∀ x, (![0, 128, 0] : Fin 3 → ℕ) x + (⟨3, ![1, 128, 2048]⟩ : Shape).size x ≤ S2x256x2048.size x} {hr₁ : ∀ x, (Rect.unit (s := S2x256x2048) ![0, 128, 0] (⟨3, ![1, 128, 2048]⟩ : Shape).size inb₁).stride x = 1} {hq₁ : (Rect.unit (s := S2x256x2048) ![0, 128, 0] (⟨3, ![1, 128, 2048]⟩ : Shape).size inb₁).shape.Squeezes (⟨2, ![128, 2048]⟩ : Shape)} {inb₂ : ∀ x, (![128, 0] : Fin 2 → ℕ) x + (⟨2, ![128, 2048]⟩ : Shape).size x ≤ S256x2048.size x} {hr₂ : ∀ x, (Rect.unit (s := S256x2048) ![128, 0] (⟨2, ![128, 2048]⟩ : Shape).size inb₂).stride x = 1} {sA sB : DmaSem sig} (hA : sA = sS 12) (hB : sB = sR 12) {hsc hsrc hdst hsem}
    (S S' : Finset (Fin 14)) (hk : (12 : Fin 14) ∈ S) (hS' : S.erase 12 = S') :
    iprop(recs m ρ K ∗ srcPay m ρ 12 c ∗ dstAny (F := F) 12 (ptn c) ∗ toks 12 c ∗ OW c S)
      ⊢ iprop(((sent 12 c ∗ OW c S') -∗ WP c (kt ⟨⟩) Q)
          -∗ WP c (.op (.enqueueDma (v3 mBW 0 128 128 inb₁ hr₁ hq₁) (.remote (Dev.tc n : Thread nD τ) (v2 mAN 128 128 inb₂ hr₂) (.dma sA) hsc) (.dma sB) hsrc hdst hsem) kt) Q) :=
  send_step m ρ K 12 c n (ptn c) (src := (v3 mBW 0 128 128 inb₁ hr₁ hq₁)) (dst' := (v2 mAN 128 128 inb₂ hr₂)) (Fin.ext hn) (rfl : dd 12 c = (ptn c)) hA hB fq.right.right (BW m ρ c) (fun C => C.an) (cr 128) (rfl) (rfl)
    ((odd_if c h).trans (congrArg (fun S => ptB c fq.right.right S (BW m ρ c)) (set_v3B 0 128 128 inb₁ hr₁ hq₁).symm))
    (fun C => (congrArg (fun S => ptA (ptn c) fq S C.an) (set_v2A 128 128 inb₂ hr₂).symm))
    ((readA (X m ρ (rel (ptn c) 4)) 128 128 (by decide) inb₂ hr₂).trans ((same m ρ (id11o c h) 128 128).trans (readB m ρ c 0 128 128 (by decide) (by decide) inb₁ hr₁ hq₁).symm)) S S' hk hS'

/-- Sending copy 12: the lower rows that came from the left, to the partner, from an even place. -/
theorem send12e (h : ev c = true) (hn : n.val = (ptn c).val) {inb₁ : ∀ x, (![0, 128, 0] : Fin 3 → ℕ) x + (⟨3, ![1, 128, 2048]⟩ : Shape).size x ≤ S2x256x2048.size x} {hr₁ : ∀ x, (Rect.unit (s := S2x256x2048) ![0, 128, 0] (⟨3, ![1, 128, 2048]⟩ : Shape).size inb₁).stride x = 1} {hq₁ : (Rect.unit (s := S2x256x2048) ![0, 128, 0] (⟨3, ![1, 128, 2048]⟩ : Shape).size inb₁).shape.Squeezes (⟨2, ![128, 2048]⟩ : Shape)} {inb₂ : ∀ x, (![128, 0] : Fin 2 → ℕ) x + (⟨2, ![128, 2048]⟩ : Shape).size x ≤ S256x2048.size x} {hr₂ : ∀ x, (Rect.unit (s := S256x2048) ![128, 0] (⟨2, ![128, 2048]⟩ : Shape).size inb₂).stride x = 1} {sA sB : DmaSem sig} (hA : sA = sS 12) (hB : sB = sR 12) {hsc hsrc hdst hsem}
    (S S' : Finset (Fin 14)) (hk : (12 : Fin 14) ∈ S) (hS' : S.erase 12 = S') :
    iprop(recs m ρ K ∗ srcPay m ρ 12 c ∗ dstAny (F := F) 12 (ptn c) ∗ toks 12 c ∗ OW c S)
      ⊢ iprop(((sent 12 c ∗ OW c S') -∗ WP c (kt ⟨⟩) Q)
          -∗ WP c (.op (.enqueueDma (v3 mFW 0 128 128 inb₁ hr₁ hq₁) (.remote (Dev.tc n : Thread nD τ) (v2 mAN 128 128 inb₂ hr₂) (.dma sA) hsc) (.dma sB) hsrc hdst hsem) kt) Q) :=
  send_step m ρ K 12 c n (ptn c) (src := (v3 mFW 0 128 128 inb₁ hr₁ hq₁)) (dst' := (v2 mAN 128 128 inb₂ hr₂)) (Fin.ext hn) (rfl : dd 12 c = (ptn c)) hA hB fq.right.right (FW m ρ c) (fun C => C.an) (cr 128) (rfl) (rfl)
    ((even_if c h).trans (congrArg (fun S => ptF c fq.right.right S (FW m ρ c)) (set_v3F 0 128 128 inb₁ hr₁ hq₁).symm))
    (fun C => (congrArg (fun S => ptA (ptn c) fq S C.an) (set_v2A 128 128 inb₂ hr₂).symm))
    ((readA (X m ρ (rel (ptn c) 4)) 128 128 (by decide) inb₂ hr₂).trans ((same m ρ (id11e c h) 128 128).trans (readF m ρ c 0 128 128 (by decide) (by decide) inb₁ hr₁ hq₁).symm)) S S' hk hS'

/-- Sending copy 13: the far middle rows, to the partner, from an odd place. -/
theorem send13o (h : ev c = false) (hn : n.val = (ptn c).val) {inb₁ : ∀ x, (![1, 88, 0] : Fin 3 → ℕ) x + (⟨3, ![1, 80, 2048]⟩ : Shape).size x ≤ S2x256x2048.size x} {hr₁ : ∀ x, (Rect.unit (s := S2x256x2048) ![1, 88, 0] (⟨3, ![1, 80, 2048]⟩ : Shape).size inb₁).stride x = 1} {hq₁ : (Rect.unit (s := S2x256x2048) ![1, 88, 0] (⟨3, ![1, 80, 2048]⟩ : Shape).size inb₁).shape.Squeezes (⟨2, ![80, 2048]⟩ : Shape)}  {sA sB : DmaSem sig} (hA : sA = sS 13) (hB : sB = sR 13) {hsc hsrc hdst hsem}
    (S S' : Finset (Fin 14)) (hk : (13 : Fin 14) ∈ S) (hS' : S.erase 13 = S') :
    iprop(recs m ρ K ∗ srcPay m ρ 13 c ∗ dstAny (F := F) 13 (ptn c) ∗ toks 13 c ∗ OW c S)
      ⊢ iprop(((sent 13 c ∗ OW c S') -∗ WP c (kt ⟨⟩) Q)
          -∗ WP c (.op (.enqueueDma (v3 mBW 1 88 80 inb₁ hr₁ hq₁) (.remote (Dev.tc n : Thread nD τ) mF2 (.dma sA) hsc) (.dma sB) hsrc hdst hsem) kt) Q) :=
  send_step m ρ K 13 c n (ptn c) (src := (v3 mBW 1 88 80 inb₁ hr₁ hq₁)) (dst' := mF2) (Fin.ext hn) (rfl : dd 13 c = (ptn c)) hA hB fq.right (BW m ρ c) (fun C => C.f2) (cr 80) (rfl) (rfl)
    ((odd_if c h).trans (congrArg (fun S => ptB c fq.right S (BW m ρ c)) (set_v3B 1 88 80 inb₁ hr₁ hq₁).symm))
    (fun C => (congrArg (fun S => ((((ptn c) : Thread nD τ).loc cc0_scratch5) ↦[S]{fq} C.f2 : sProp (MT nD τ sig Unit (Elt F) ℕ UU ℕ))) (View.set_whole cc0_scratch5).symm))
    ((same m ρ (id13o c h) 88 80).trans (readB m ρ c 1 88 80 (by decide) (by decide) inb₁ hr₁ hq₁).symm) S S' hk hS'

/-- Sending copy 13: the far middle rows, to the partner, from an even place. -/
theorem send13e (h : ev c = true) (hn : n.val = (ptn c).val) {inb₁ : ∀ x, (![1, 88, 0] : Fin 3 → ℕ) x + (⟨3, ![1, 80, 2048]⟩ : Shape).size x ≤ S2x256x2048.size x} {hr₁ : ∀ x, (Rect.unit (s := S2x256x2048) ![1, 88, 0] (⟨3, ![1, 80, 2048]⟩ : Shape).size inb₁).stride x = 1} {hq₁ : (Rect.unit (s := S2x256x2048) ![1, 88, 0] (⟨3, ![1, 80, 2048]⟩ : Shape).size inb₁).shape.Squeezes (⟨2, ![80, 2048]⟩ : Shape)}  {sA sB : DmaSem sig} (hA : sA = sS 13) (hB : sB = sR 13) {hsc hsrc hdst hsem}
    (S S' : Finset (Fin 14)) (hk : (13 : Fin 14) ∈ S) (hS' : S.erase 13 = S') :
    iprop(recs m ρ K ∗ srcPay m ρ 13 c ∗ dstAny (F := F) 13 (ptn c) ∗ toks 13 c ∗ OW c S)
      ⊢ iprop(((sent 13 c ∗ OW c S') -∗ WP c (kt ⟨⟩) Q)
          -∗ WP c (.op (.enqueueDma (v3 mFW 1 88 80 inb₁ hr₁ hq₁) (.remote (Dev.tc n : Thread nD τ) mF2 (.dma sA) hsc) (.dma sB) hsrc hdst hsem) kt) Q) :=
  send_step m ρ K 13 c n (ptn c) (src := (v3 mFW 1 88 80 inb₁ hr₁ hq₁)) (dst' := mF2) (Fin.ext hn) (rfl : dd 13 c = (ptn c)) hA hB fq.right (FW m ρ c) (fun C => C.f2) (cr 80) (rfl) (rfl)
    ((even_if c h).trans (congrArg (fun S => ptF c fq.right S (FW m ρ c)) (set_v3F 1 88 80 inb₁ hr₁ hq₁).symm))
    (fun C => (congrArg (fun S => ((((ptn c) : Thread nD τ).loc cc0_scratch5) ↦[S]{fq} C.f2 : sProp (MT nD τ sig Unit (Elt F) ℕ UU ℕ))) (View.set_whole cc0_scratch5).symm))
    ((same m ρ (id13e c h) 88 80).trans (readF m ρ c 1 88 80 (by decide) (by decide) inb₁ hr₁ hq₁).symm) S S' hk hS'

/-- Sending copy 10: the whole block of `x`, to the partner. -/
theorem send10 (hn : n.val = (ptn c).val) {sA sB : DmaSem sig} (hA : sA = sS 10) (hB : sB = sR 10) {hsc hsrc hdst hsem}
    (S S' : Finset (Fin 14)) (hk : (10 : Fin 14) ∈ S) (hS' : S.erase 10 = S') :
    iprop(recs m ρ K ∗ srcPay m ρ 10 c ∗ dstAny (F := F) 10 (ptn c) ∗ toks 10 c ∗ OW c S)
      ⊢ iprop(((sent 10 c ∗ OW c S') -∗ WP c (kt ⟨⟩) Q)
          -∗ WP c (.op (.enqueueDma mX (.remote (Dev.tc n : Thread nD τ) mCH (.dma sA) hsc) (.dma sB) hsrc hdst hsem) kt) Q) :=
  send_step m ρ K 10 c n (ptn c) (src := mX) (dst' := mCH) (Fin.ext hn) (rfl : dd 10 c = ptn c) hA hB fq.right.right.right (X m ρ c) (fun C => C.ch) (cr 256) rfl rfl
    (congrArg (fun S => ptX c fq.right.right.right S (X m ρ c)) ((Finset.eq_univ_iff_forall.mpr R2_all).trans (View.set_whole cc0_stg0_0).symm))
    (fun C => (congrArg (fun S => (((ptn c : Thread nD τ).loc cc0_scratch3) ↦[S]{fq} C.ch : sProp (MT nD τ sig Unit (Elt F) ℕ UU ℕ))) (View.set_whole cc0_scratch3).symm))
    (congrArg (X m ρ) (ptn_ptn c)) S S' hk hS'

end Sends

end Cert.RingProof

end
-- ==== Proof.Out.lean ====
/-
# What the result window comes to hold, and the stores that fill it
-/
module

public import proofs.«01_k».proof.Proof.Mem

@[expose] public section

noncomputable section

namespace Cert.RingProof

open Cert.KernelIdeal Cert.KernelIdeal.Gen
open Idealize.ShloMosaic
open Idealize.ShloMosaic.TcCoe Idealize.ShloMosaic.RefSig
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The result -/

/-- The activated product of 256, 128, 88 and 80 rows with the block of `w`. -/
abbrev blk256 (Y : S256x2048.Idx → Elt F .f32) (w : S2048x256.Idx → Elt F .f32) : S256x256.Idx → Elt F .f32 := k0_pay9 (k0_pay8 Y w)
/-- The piece of the result that 128 rows give. -/
abbrev blk128 (Y : S128x2048.Idx → Elt F .f32) (w : S2048x256.Idx → Elt F .f32) : S128x256.Idx → Elt F .f32 := k0_pay11 Y w
/-- The piece of the result that 88 rows give. -/
abbrev blk88 (Y : S88x2048.Idx → Elt F .f32) (w : S2048x256.Idx → Elt F .f32) : S88x256.Idx → Elt F .f32 := k0_pay19 Y w
/-- The piece of the result that 80 rows give. -/
abbrev blk80 (Y : S80x2048.Idx → Elt F .f32) (w : S2048x256.Idx → Elt F .f32) : S80x256.Idx → Elt F .f32 := k0_pay20 Y w

/-- Row `r` (of the 256 that come from device `o`) and column `j` of device `c`'s result. -/
def OUT' (c o : Dev nD) (r : Fin 256) (j : Fin 256) : Elt F .f32 :=
  if o = c ∨ o = rel c 7 ∨ o = rel c 1 ∨ o = ptn c then blk256 (X m ρ o) (Wc m ρ c) (ix2 r j)
  else if o = far c then
    if h : r.val < 88 then blk88 (rows (X m ρ o) 0 88) (Wc m ρ c) (ix2 ⟨r.val, h⟩ j)
    else if h' : r.val < 168 then blk80 (rows (X m ρ o) 88 80) (Wc m ρ c) (ix2 ⟨r.val - 88, by omega⟩ j)
    else blk88 (rows (X m ρ o) 168 88) (Wc m ρ c) (ix2 ⟨r.val - 168, by have := r.isLt; omega⟩ j)
  else if h : r.val < 128 then blk128 (rows (X m ρ o) 0 128) (Wc m ρ c) (ix2 ⟨r.val, h⟩ j)
  else blk128 (rows (X m ρ o) 128 128) (Wc m ρ c) (ix2 ⟨r.val - 128, by have := r.isLt; omega⟩ j)

/-- Device `c`'s result. -/
def OUT (c : Dev nD) : S2048x256.Idx → Elt F .f32 := fun i =>
  OUT' m ρ c ⟨(i 0).val / 256, by have h : (i 0).val < 2048 := (i 0).isLt; show _ < 8; omega⟩ ⟨(i 0).val % 256, Nat.mod_lt _ (by decide)⟩ (i 1)

/-- The result at row `256 * o + r` is what device `o`'s row `r` gives. -/
theorem OUT_eq (c o : Dev nD) (i : S2048x256.Idx) (r : Fin 256) (j : Fin 256) (h0 : (i 0).val = 256 * o.val + r.val) (h1 : (i 1).val = j.val) :
    OUT m ρ c i = OUT' m ρ c o r j := by
  unfold OUT
  have hr := r.isLt
  rw [show (⟨(i 0).val / 256, by have h : (i 0).val < 2048 := (i 0).isLt; show _ < 8; omega⟩ : Dev nD) = o from Fin.ext (by show (i 0).val / 256 = o.val; omega),
    show (⟨(i 0).val % 256, Nat.mod_lt _ (by decide)⟩ : Fin 256) = r from Fin.ext (by show (i 0).val % 256 = r.val; omega),
    show i 1 = j from Fin.ext h1]

/-- A stored piece `p` of `n` rows from `a` among device `o`'s rows agrees with the result. -/
def Agrees (c o : Dev nD) (a n : ℕ) (p : (⟨2, ![n, 256]⟩ : Shape).Idx → Elt F .f32) : Prop :=
  ∀ (r : Fin 256) (j : Fin 256) (h : r.val - a < n), a ≤ r.val → p (ix2 ⟨r.val - a, h⟩ j) = OUT' m ρ c o r j

/-- The pieces that are made whole, of 256 rows, agree with the result. -/
theorem agrees_256 (c o : Dev nD) (ho : o = c ∨ o = rel c 7 ∨ o = rel c 1 ∨ o = ptn c) : Agrees m ρ c o 0 256 (blk256 (X m ρ o) (Wc m ρ c)) := by
  intro r j h _
  unfold OUT'
  rw [if_pos ho]; rfl
/-- The eighth device is none of those whose piece is made whole. -/
theorem far_ne (c : Dev nD) : ¬ (far c = c ∨ far c = rel c 7 ∨ far c = rel c 1 ∨ far c = ptn c) := by revert c; decide
/-- The devices whose pieces are made in two halves are none of those made whole, and none is the eighth. -/
theorem six_ne (c o : Dev nD) (ho : o = rel c 6 ∨ o = rel c 2 ∨ o = rel c 4) : ¬ (o = c ∨ o = rel c 7 ∨ o = rel c 1 ∨ o = ptn c) ∧ o ≠ far c := by
  revert c o; decide
/-- The piece from the eighth device's first 88 rows agrees with the result. -/
theorem agrees_88a (c : Dev nD) : Agrees m ρ c (far c) 0 88 (blk88 (rows (X m ρ (far c)) 0 88) (Wc m ρ c)) := by
  intro r j h _
  unfold OUT'
  rw [if_neg (far_ne c), if_pos rfl, dif_pos (show r.val < 88 by omega)]; rfl
/-- The piece from the eighth device's middle 80 rows agrees with the result. -/
theorem agrees_80 (c : Dev nD) : Agrees m ρ c (far c) 88 80 (blk80 (rows (X m ρ (far c)) 88 80) (Wc m ρ c)) := by
  intro r j h h'
  unfold OUT'
  rw [if_neg (far_ne c), if_pos rfl, dif_neg (show ¬ r.val < 88 by omega), dif_pos (show r.val < 168 by omega)]
/-- The piece from the eighth device's last 88 rows agrees with the result. -/
theorem agrees_88b (c : Dev nD) : Agrees m ρ c (far c) 168 88 (blk88 (rows (X m ρ (far c)) 168 88) (Wc m ρ c)) := by
  intro r j h h'
  unfold OUT'
  rw [if_neg (far_ne c), if_pos rfl, dif_neg (show ¬ r.val < 88 by omega), dif_neg (show ¬ r.val < 168 by omega)]
/-- The pieces from first halves agree with the result. -/
theorem agrees_128a (c o : Dev nD) (ho : o = rel c 6 ∨ o = rel c 2 ∨ o = rel c 4) : Agrees m ρ c o 0 128 (blk128 (rows (X m ρ o) 0 128) (Wc m ρ c)) := by
  intro r j h _
  unfold OUT'
  rw [if_neg (six_ne c o ho).1, if_neg (six_ne c o ho).2, dif_pos (show r.val < 128 by omega)]; rfl
/-- The pieces from second halves agree with the result. -/
theorem agrees_128b (c o : Dev nD) (ho : o = rel c 6 ∨ o = rel c 2 ∨ o = rel c 4) : Agrees m ρ c o 128 128 (blk128 (rows (X m ρ o) 128 128) (Wc m ρ c)) := by
  intro r j h h'
  unfold OUT'
  rw [if_neg (six_ne c o ho).1, if_neg (six_ne c o ho).2, dif_neg (show ¬ r.val < 128 by omega)]

/-! ## The result window while it fills -/

/-- The rows of `s = (o, a, n)`: `n` of them from row `256 * o + a`. -/
abbrev inSeg (s : Dev nD × ℕ × ℕ) (i : S2048x256.Idx) : Prop := 256 * s.1.val + s.2.1 ≤ (i 0).val ∧ (i 0).val < 256 * s.1.val + s.2.1 + s.2.2

/-- The result window, right on the rows listed in `Ls`. -/
def outP (c : Dev nD) (Ls : List (Dev nD × ℕ × ℕ)) : sProp 𝕄 :=
  iprop(∃ f : S2048x256.Idx → Elt F .f32, ⌜∀ s ∈ Ls, ∀ i, inSeg s i → f i = OUT m ρ c i⌝ ∗ (((c : Thread nD τ).loc cc0_stg2_0) ↦{fq} f))

/-- A window right on some rows is right on fewer. -/
theorem outP_mono (c : Dev nD) (Ls Ls' : List (Dev nD × ℕ × ℕ)) (h : ∀ s ∈ Ls', s ∈ Ls) : outP m ρ c Ls ⊢ outP m ρ c Ls' := by
  unfold outP
  iintro ⟨%f, %hf, H⟩
  iexists f
  isplitr
  · ipureintro; exact fun s hs => hf s (h s hs)
  iexact H

/-- Reading the rows about to be overwritten, and overwriting them with a piece of the result. -/
theorem gemm_step (c o : Dev nD) (a n : ℕ) (han : a + n ≤ 256) {off : Fin 2 → ℕ} (hoff : off = ![256 * o.val + a, 0])
    {inb inb' : ∀ x, off x + (⟨2, ![n, 256]⟩ : Shape).size x ≤ S2048x256.size x} {hl hx hm}
    (p : (⟨2, ![n, 256]⟩ : Shape).Idx → Elt F .f32) (hp : Agrees m ρ c o a n p) (Ls : List (Dev nD × ℕ × ℕ))
    {α : Type} {Q : α → sProp 𝕄} {kt : PUnit → Prog (TpuEff nD τ sig (Elt F) Λ₀ .tc) α} :
    outP m ρ c Ls ⊢ iprop((outP m ρ c ((o, a, n) :: Ls) -∗ WP c (kt ⟨⟩) Q)
      -∗ WP c (.op (.load mO (Rect.unit (s := S2048x256) off (⟨2, ![n, 256]⟩ : Shape).size inb).toLoadRect hl)
          (fun _ => .op (.store mO (Rect.unit (s := S2048x256) off (⟨2, ![n, 256]⟩ : Shape).size inb') p Finset.univ hx hm) kt)) Q) := by
  subst hoff
  unfold outP
  iintro ⟨%f, %hf, H⟩ Hk
  iapply (load_at c mO (Rect.unit (s := S2048x256) ![256 * o.val + a, 0] (⟨2, ![n, 256]⟩ : Shape).size inb).toLoadRect fq f _ Finset.univ (Finset.subset_univ _) rfl) $$ H
  iintro H
  iapply (wp_store 𝒱₀ (c : Thread nD τ) none Set.univ (m := mO) (r := Rect.unit (s := S2048x256) ![256 * o.val + a, 0] (⟨2, ![n, 256]⟩ : Shape).size inb') (Mk := Finset.univ)
    (f := f) (S := Finset.univ) (Finset.subset_univ _)) $$ H
  iintro H
  iapply Hk
  iexists _
  isplitr
  rotate_left
  · iexact H
  ipureintro
  intro s hs i hi
  have emb : ∀ j : (⟨2, ![n, 256]⟩ : Shape).Idx,
      (((mO.access (Rect.unit (s := S2048x256) ![256 * o.val + a, 0] (⟨2, ![n, 256]⟩ : Shape).size inb')).emb j : S2048x256.Idx) 0).val = 256 * o.val + a + (j 0).val
      ∧ (((mO.access (Rect.unit (s := S2048x256) ![256 * o.val + a, 0] (⟨2, ![n, 256]⟩ : Shape).size inb')).emb j : S2048x256.Idx) 1).val = (j 1).val := by
    intro j
    constructor
    · show 256 * o.val + a + 1 * (j 0).val = _; omega
    · show 0 + 1 * (j 1).val = _; omega
  by_cases hin : inSeg (o, a, n) i
  · obtain ⟨h0, h1⟩ := hin
    change 256 * o.val + a ≤ (i 0).val at h0
    change (i 0).val < 256 * o.val + a + n at h1
    let r : Fin 256 := ⟨(i 0).val - 256 * o.val, by omega⟩
    have hr : r.val - a < n := by show (i 0).val - 256 * o.val - a < n; omega
    let j : (⟨2, ![n, 256]⟩ : Shape).Idx := ix2 ⟨r.val - a, hr⟩ (i 1)
    have hj : (mO.access (Rect.unit (s := S2048x256) ![256 * o.val + a, 0] (⟨2, ![n, 256]⟩ : Shape).size inb')).emb j = i := by
      funext ax; refine Fin.ext ?_
      match ax with
      | ⟨0, _⟩ => exact (emb j).1.trans (show 256 * o.val + a + ((i 0).val - 256 * o.val - a) = (i 0).val by omega)
      | ⟨1, _⟩ => exact (emb j).2
    refine Eq.trans (congrArg _ hj.symm) ?_
    refine (View.write_emb_of_mem (v := (mO.access (Rect.unit (s := S2048x256) ![256 * o.val + a, 0] (⟨2, ![n, 256]⟩ : Shape).size inb'))) f p (Finset.mem_univ j)).trans ?_
    refine Eq.trans ?_ ((hp r (i 1) hr (by show a ≤ (i 0).val - 256 * o.val; omega)).trans (OUT_eq m ρ c o i r (i 1) (by show (i 0).val = 256 * o.val + ((i 0).val - 256 * o.val); omega) rfl).symm)
    rfl
  · rcases List.mem_cons.mp hs with rfl | hs
    · exact absurd hi hin
    · refine Eq.trans (View.write_of_not_mem (v := (mO.access (Rect.unit (s := S2048x256) ![256 * o.val + a, 0] (⟨2, ![n, 256]⟩ : Shape).size inb'))) (M := Finset.univ) f p ?_) (hf s hs i hi)
      intro hmem
      obtain ⟨j, hj, hij⟩ := Finset.mem_map.mp hmem
      have hj' : (j 0).val < n := (j 0).isLt
      apply hin
      have e := (emb j).1
      rw [hij] at e
      exact ⟨by show 256 * o.val + a ≤ (i 0).val; omega, by show (i 0).val < 256 * o.val + a + n; omega⟩

end Cert.RingProof

end
-- ==== Proof.Part5.lean ====
/-
# The kernel's parts, run one by one: the barrier and the first copies
-/
module

public import proofs.«01_k».proof.Proof.Sends
public import proofs.«01_k».proof.Proof.Out

@[expose] public section

noncomputable section

namespace Cert.RingProof

open Cert.KernelIdeal Cert.KernelIdeal.Gen
open Idealize.ShloMosaic
open Idealize.ShloMosaic.TcCoe Idealize.ShloMosaic.RefSig
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
section Parts
variable (K : Dev nD × Ci → ℕ) (c : Dev nD)

/-! ## The copies still to be sent, as they are sent -/

/-- The copies still to send, once copy 0 is sent. -/
abbrev left1 : Finset (Fin 14) := {1, 2, 3, 4, 5, 6, 7, 8, 9, 10, 11, 12, 13}
/-- The copies still to send, once copies 0, 1 are sent. -/
abbrev left2 : Finset (Fin 14) := {2, 3, 4, 5, 6, 7, 8, 9, 10, 11, 12, 13}
/-- The copies still to send, once copies 0, 1, 5 are sent. -/
abbrev left3 : Finset (Fin 14) := {2, 3, 4, 6, 7, 8, 9, 10, 11, 12, 13}
/-- The copies still to send, once copies 0, 1, 5, 6 are sent. -/
abbrev left4 : Finset (Fin 14) := {2, 3, 4, 7, 8, 9, 10, 11, 12, 13}
/-- The copies still to send, once copies 0, 1, 5, 6, 10 are sent. -/
abbrev left5 : Finset (Fin 14) := {2, 3, 4, 7, 8, 9, 11, 12, 13}
/-- The copies still to send, once copies 0, 1, 2, 5, 6, 10 are sent. -/
abbrev left6 : Finset (Fin 14) := {3, 4, 7, 8, 9, 11, 12, 13}
/-- The copies still to send, once copies 0 to 2, 5 to 7, 10 are sent. -/
abbrev left7 : Finset (Fin 14) := {3, 4, 8, 9, 11, 12, 13}
/-- The copies still to send, once copies 0 to 3, 5 to 7, 10 are sent. -/
abbrev left8e : Finset (Fin 14) := {4, 8, 9, 11, 12, 13}
/-- The copies still to send, once copies 0 to 3, 5 to 8, 10 are sent. -/
abbrev left8e' : Finset (Fin 14) := {4, 9, 11, 12, 13}
/-- The copies still to send, once copies 0 to 3, 5 to 8, 10, 12 are sent. -/
abbrev left8e'' : Finset (Fin 14) := {4, 9, 11, 13}
/-- The copies still to send, once copies 0 to 2, 5 to 7, 10, 11 are sent. -/
abbrev left7o : Finset (Fin 14) := {3, 4, 8, 9, 12, 13}
/-- The copies still to send, once copies 0 to 3, 5 to 7, 10, 11 are sent. -/
abbrev left8o : Finset (Fin 14) := {4, 8, 9, 12, 13}
/-- The copies still to send, once copies 0 to 3, 5 to 8, 10, 11 are sent. -/
abbrev left8o' : Finset (Fin 14) := {4, 9, 12, 13}
/-- The copies still to send, once copies 0 to 3, 5 to 8, 10 to 12 are sent. -/
abbrev left9 : Finset (Fin 14) := {4, 9, 13}
/-- The copies still to send, once copies 0 to 8, 10 to 12 are sent. -/
abbrev left14 : Finset (Fin 14) := {9, 13}
/-- The copies still to send, once copies 0 to 12 are sent. -/
abbrev left15 : Finset (Fin 14) := {13}

/-- The credit of a copy onto `n` rows. -/
theorem credit_eq {n : ℕ} (M : Memref sig .tc .vmem ⟨2, ![n, 2048]⟩ .f32) : M.view.dmaCredit = cr n := rfl

/-- Waiting for copy `k`, of `n` rows, to land. -/
theorem recvN (k : Fin 14) (n : ℕ) (hNk : cr n = N k) {sp' : Space} {s' : Shape} {e' : EltTy} {sm : DmaSem sig} (hsm : sm = sR k)
    {src : Memref sig .tc sp' s' e'} {M : Memref sig .tc .vmem ⟨2, ![n, 2048]⟩ .f32} {hsrc : src.view.WordExact} {hdst : M.view.WordExact}
    {α : Type} {Q : α → sProp 𝕄} {kt : PUnit → Prog (TpuEff nD τ sig (Elt F) Λ₀ .tc) α} (S : Finset (Fin 14)) (hl : ∀ j ∈ S, lvk k < lvk j) :
    iprop(recs m ρ K ∗ rtok (F := F) k c ∗ OW c S)
      ⊢ iprop(((dstPay m ρ k c ∗ semVal (rcell c k) 0 ∗ OW c S) -∗ WP c (kt ⟨⟩) Q)
          -∗ WP c (.op (.waitDma2 sm src M hsrc hdst) kt) Q) :=
  recv_step m ρ K k c hsm ((credit_eq M).trans hNk) S hl

/-- Waiting for copy `k`, of `n` rows, to leave. -/
theorem leftN (k : Fin 14) (n : ℕ) (hNk : cr n = N k) {sp' : Space} {s' : Shape} {e' : EltTy} {sm : DmaSem sig} (hsm : sm = sS k)
    {src : Memref sig .tc sp' s' e'} {M : Memref sig .tc .vmem ⟨2, ![n, 2048]⟩ .f32} {hsrc : src.view.WordExact} {hdst : M.view.WordExact}
    {α : Type} {Q : α → sProp 𝕄} {kt : PUnit → Prog (TpuEff nD τ sig (Elt F) Λ₀ .tc) α} (S : Finset (Fin 14)) :
    iprop(recs m ρ K ∗ sent (F := F) k c ∗ OW c S)
      ⊢ iprop(((srcPay m ρ k c ∗ semVal (scell c k) 0 ∗ OW c S) -∗ WP c (kt ⟨⟩) Q)
          -∗ WP c (.op (.waitDma2 sm src M hsrc hdst) kt) Q) :=
  sendwait_step m ρ K k c hsm ((credit_eq M).trans hNk) S

/-- The end of a part. -/
theorem ret_step {α : Type} {Q : α → sProp 𝕄} (a : α) : Q a ⊢ WP c (.ret a) Q := by
  show Q a ⊢ iprop(|={Set.univ}[frame]=> Q a)
  iintro H; imodintro; iexact H

/-- The first part names the device. -/
theorem part3 {Q : _ → sProp 𝕄} :
    iprop(∀ r, Q ⟨c, r⟩) ⊢ WP c (k0_part3_skel (F := F) mX (Memref.isWhole_whole _) mW (Memref.isWhole_whole _) mO (Memref.isWhole_whole _) mFW (Memref.isWhole_whole _) mBW (Memref.isWhole_whole _) mAN (Memref.isWhole_whole _) mCH (Memref.isWhole_whole _) mF1 (Memref.isWhole_whole _) mF2 (Memref.isWhole_whole _) mF3 (Memref.isWhole_whole _) cc0_scratch7 cc0_scratch8 cc0_scratch9 cc0_scratch10 cc0_scratch11 cc0_scratch12) Q := by
  unfold k0_part3_skel
  simp only [Prog.lift, Prog.bind_op, Prog.bind_ret, Prog.pure_eq_ret, wp_deviceId]
  iintro Hk
  iapply (ret_step c)
  iapply Hk

/-- Signalling the neighbours on either side. -/
theorem part4 (w₁ w₂ w₃ w₄ : BitVec 32) (w₅ : BitVec 1) (W : Waits sig Unit) {Q : _ → sProp 𝕄} :
    iprop(recs m ρ K ∗ owes (c : Thread nD τ) (O₀ c) W ∗ (dutyTok ER (barCell (lft c)) 0 0 ∗ barPay (lft c) 0) ∗ (dutyTok ER (barCell (rgt c)) 0 1 ∗ barPay (rgt c) 1))
      ⊢ iprop((∀ r, ⌜r.2.2.2.1 = SemArray.scalar (sig.barrier 0 rfl)⌝ -∗ owes (c : Thread nD τ) (owS c Finset.univ + tallyAt (barCell (ptn c)) () 1) W -∗ Q r)
        -∗ WP c (k0_part4_skel (F := F) mX (Memref.isWhole_whole _) mW (Memref.isWhole_whole _) mO (Memref.isWhole_whole _) mFW (Memref.isWhole_whole _) mBW (Memref.isWhole_whole _) mAN (Memref.isWhole_whole _) mCH (Memref.isWhole_whole _) mF1 (Memref.isWhole_whole _) mF2 (Memref.isWhole_whole _) mF3 (Memref.isWhole_whole _) cc0_scratch7 cc0_scratch8 cc0_scratch9 cc0_scratch10 cc0_scratch11 cc0_scratch12 c w₁ w₂ w₃ w₄ w₅) Q) := by
  unfold k0_part4_skel
  simp only [semSignalWord, Prog.lift, Prog.bind_op, Prog.bind_ret, Prog.pure_eq_ret]
  iintro ⟨#HR, HO, ⟨Ht0, Hp0⟩, ⟨Ht1, Hp1⟩⟩ Hk
  simp only [dev1_eq c, dev2_eq c]
  iapply (signal_step m ρ K c (lft c) 0 (O₀ c) (owS c Finset.univ + tallyAt (barCell (ptn c)) () 1 + tallyAt (barCell (rgt c)) () 1) rfl W) $$ [HO Ht0 Hp0]
  · isplitr; · iexact HR
    isplitl [HO]; · iexact HO
    isplitl [Ht0]; · iexact Ht0
    iexact Hp0
  iintro HO
  iapply (signal_step m ρ K c (rgt c) 1 _ (owS c Finset.univ + tallyAt (barCell (ptn c)) () 1) rfl W) $$ [HO Ht1 Hp1]
  · isplitr; · iexact HR
    isplitl [HO]; · iexact HO
    isplitl [Ht1]; · iexact Ht1
    iexact Hp1
  iintro HO
  iapply (ret_step c)
  iapply Hk $$ [] HO
  ipureintro; rfl

/-- Signalling the partner, waiting for all three neighbours, and sending copies 0 and 1. -/
theorem part5 (w₁ w₂ w₄ w₅ : BitVec 32) (v : Sems sig S_) (hv : v = SemArray.scalar (sig.barrier 0 rfl)) (W : Waits sig Unit) {Q : _ → sProp 𝕄} :
    iprop(recs m ρ K ∗ owes (c : Thread nD τ) (owS c Finset.univ + tallyAt (barCell (ptn c)) () 1) W ∗ (dutyTok ER (barCell (ptn c)) 0 2 ∗ barPay (ptn c) 2)
        ∗ (cred (tallyAt (barCell c) () 3) ∗ atPos ER (barCell c) 0 ∅ 0) ∗ srcPay m ρ 0 c ∗ toks 0 c ∗ srcPay m ρ 1 c ∗ toks 1 c)
      ⊢ iprop((∀ r, (semVal (barCell c) 0 ∗ (dstAny (F := F) 2 (rgt c) ∗ dstAny (F := F) 3 (rgt c) ∗ dstAny (F := F) 4 (rgt c)) ∗ barPay (F := F) c 1 ∗ barPay (F := F) c 2
            ∗ sent 0 c ∗ sent 1 c ∗ OW c left2) -∗ Q r)
        -∗ WP c (k0_part5_skel (F := F) mX (Memref.isWhole_whole _) mW (Memref.isWhole_whole _) mO (Memref.isWhole_whole _) mFW (Memref.isWhole_whole _) mBW (Memref.isWhole_whole _) mAN (Memref.isWhole_whole _) mCH (Memref.isWhole_whole _) mF1 (Memref.isWhole_whole _) mF2 (Memref.isWhole_whole _) mF3 (Memref.isWhole_whole _) cc0_scratch7 cc0_scratch8 cc0_scratch9 cc0_scratch10 cc0_scratch11 cc0_scratch12 c w₁ w₂ v w₄ w₅) Q) := by
  subst hv
  unfold k0_part5_skel
  simp only [semSignalWord, semWaitWord, Prog.lift, Prog.bind_op, Prog.bind_ret, Prog.pure_eq_ret]
  iintro ⟨#HR, HO, ⟨Ht2, Hp2⟩, ⟨Hc, Hat⟩, Hs0, Hk0, Hs1, Hk1⟩ Hk
  simp only [dev3_eq c]
  iapply (signal_step m ρ K c (ptn c) 2 _ (owS c Finset.univ) rfl W) $$ [HO Ht2 Hp2]
  · isplitr; · iexact HR
    isplitl [HO]; · iexact HO
    isplitl [Ht2]; · iexact Ht2
    iexact Hp2
  iintro HO
  iapply (barrier_step m ρ K c W) $$ [HO Hc Hat]
  · isplitr; · iexact HR
    isplitl [HO]; · iexact HO
    isplitl [Hc]; · iexact Hc
    iexact Hat
  iintro ⟨HP0, HP1, HP2, Hz, HO⟩
  ihave HP0 := (show barPay (F := F) c 0 ⊢ iprop(dstAny (F := F) 0 (rgt c) ∗ dstAny (F := F) 1 (rgt c) ∗ dstAny (F := F) 2 (rgt c) ∗ dstAny (F := F) 3 (rgt c) ∗ dstAny (F := F) 4 (rgt c)) from Entails.of_eq rfl) $$ HP0
  icases HP0 with ⟨Hd0, Hd1, Hd234⟩
  iapply (send0 m ρ K c _ (dev4_eq c) rfl rfl (Finset.univ) left1 (by decide) (by decide)) $$ [Hs0 Hd0 Hk0 HO]
  · isplitr; · iexact HR
    isplitl [Hs0]; · iexact Hs0
    isplitl [Hd0]; · iexact Hd0
    isplitl [Hk0]; · iexact Hk0
    iexact HO
  iintro ⟨Hn0, HO⟩
  iapply (send1 m ρ K c _ (dev5_eq c) rfl rfl left1 left2 (by decide) (by decide)) $$ [Hs1 Hd1 Hk1 HO]
  · isplitr; · iexact HR
    isplitl [Hs1]; · iexact Hs1
    isplitl [Hd1]; · iexact Hd1
    isplitl [Hk1]; · iexact Hk1
    iexact HO
  iintro ⟨Hn1, HO⟩
  iapply (ret_step c)
  iapply Hk
  isplitl [Hz]; · iexact Hz
  isplitl [Hd234]; · iexact Hd234
  isplitl [HP1]; · iexact HP1
  isplitl [HP2]; · iexact HP2
  isplitl [Hn0]; · iexact Hn0
  isplitl [Hn1]; · iexact Hn1
  iexact HO

end Parts

end Cert.RingProof

end
-- ==== Proof.Pieces.lean ====
/-
# How landed rows are divided, and how they come together again
-/
module

public import proofs.«01_k».proof.Proof.Mem

@[expose] public section

noncomputable section

namespace Cert.RingProof

open Cert.KernelIdeal Cert.KernelIdeal.Gen
open Idealize.ShloMosaic
open Idealize.ShloMosaic.TcCoe Idealize.ShloMosaic.RefSig
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

section Pieces
variable (c : Dev nD)

/-- The rows copy `k` would send from a place of the other parity. -/
def spr (k : Fin 14) (c : Dev nD) : sProp 𝕄 :=
  match k.val with
  | 4 => if ev c then ptF c fq.right (R3 1 0 88) (FW m ρ c) else ptA c fq.right (R2 0 88) (X m ρ (rel c 4))
  | 9 => if ev c then ptA c fq.right (R2 168 256) (X m ρ (rel c 4)) else ptB c fq.right (R3 1 168 256) (BW m ρ c)
  | 11 => if ev c then ptB c fq.right.right (R3 0 0 128) (BW m ρ c) else ptF c fq.right.right (R3 0 0 128) (FW m ρ c)
  | 12 => if ev c then ptB c fq.right.right (R3 0 128 256) (BW m ρ c) else ptF c fq.right.right (R3 0 128 256) (FW m ρ c)
  | _ => if ev c then ptB c fq.right (R3 1 88 168) (BW m ρ c) else ptF c fq.right (R3 1 88 168) (FW m ρ c)

/-- A full share is a half and two quarters. -/
theorem thirds {ℓ : Loc nD τ sig} (S : Finset (Idx ℓ)) (q : PosShare TreeShare) (f : Buf (Elt F) ℓ) :
    (ℓ ↦[S]{q} f : sProp 𝕄) = iprop((ℓ ↦[S]{q.left} f) ∗ (ℓ ↦[S]{q.right.left} f) ∗ (ℓ ↦[S]{q.right.right} f)) := by
  rw [share_eq S q f, share_eq S q.right f]

/-- Copy 0 landed, cut: the half share read, the rows that copy 2 sends on, and a spare share. -/
theorem got0 : dstPay m ρ 0 c = iprop(ptF c fq.left (R3 0 0 128) (FW m ρ c) ∗ srcPay m ρ 2 c ∗ ptF c fq.right.right (R3 0 0 128) (FW m ρ c)) :=
  thirds (ℓ := (c : Thread nD τ).loc cc0_scratch0) (R3 0 0 128) fq (FW m ρ c)
/-- Copy 1 landed, cut: the half share read, the rows that copy 3 sends on, and a spare share. -/
theorem got1 : dstPay m ρ 1 c = iprop(ptF c fq.left (R3 0 128 256) (FW m ρ c) ∗ srcPay m ρ 3 c ∗ ptF c fq.right.right (R3 0 128 256) (FW m ρ c)) :=
  thirds (ℓ := (c : Thread nD τ).loc cc0_scratch0) (R3 0 128 256) fq (FW m ρ c)
/-- Copy 5 landed, cut: the half share read, the rows that copy 7 sends on, and a spare share. -/
theorem got5 : dstPay m ρ 5 c = iprop(ptB c fq.left (R3 0 0 128) (BW m ρ c) ∗ srcPay m ρ 7 c ∗ ptB c fq.right.right (R3 0 0 128) (BW m ρ c)) :=
  thirds (ℓ := (c : Thread nD τ).loc cc0_scratch1) (R3 0 0 128) fq (BW m ρ c)
/-- Copy 6 landed, cut: the half share read, the rows that copy 8 sends on, and a spare share. -/
theorem got6 : dstPay m ρ 6 c = iprop(ptB c fq.left (R3 0 128 256) (BW m ρ c) ∗ srcPay m ρ 8 c ∗ ptB c fq.right.right (R3 0 128 256) (BW m ρ c)) :=
  thirds (ℓ := (c : Thread nD τ).loc cc0_scratch1) (R3 0 128 256) fq (BW m ρ c)

/-- The spare quarters of the upper rows from both sides: one is copy 11's source, the other stays. -/
theorem both11 : iprop(ptF c fq.right.right (R3 0 0 128) (FW m ρ c) ∗ ptB c fq.right.right (R3 0 0 128) (BW m ρ c)) ⊣⊢ iprop(srcPay m ρ 11 c ∗ spr m ρ 11 c) := by
  show _ ⊣⊢ iprop((if ev c then _ else _) ∗ (if ev c then _ else _))
  cases ev c
  · exact sep_comm
  · exact .rfl
/-- The same for the lower rows and copy 12. -/
theorem both12 : iprop(ptF c fq.right.right (R3 0 128 256) (FW m ρ c) ∗ ptB c fq.right.right (R3 0 128 256) (BW m ρ c)) ⊣⊢ iprop(srcPay m ρ 12 c ∗ spr m ρ 12 c) := by
  show _ ⊣⊢ iprop((if ev c then _ else _) ∗ (if ev c then _ else _))
  cases ev c
  · exact sep_comm
  · exact .rfl
/-- Copies 4, 9 and 13: of the two pieces one is sent, the other stays. -/
theorem both4 : iprop(ptF c fq.right (R3 1 0 88) (FW m ρ c) ∗ ptA c fq.right (R2 0 88) (X m ρ (rel c 4))) ⊣⊢ iprop(srcPay m ρ 4 c ∗ spr m ρ 4 c) := by
  show _ ⊣⊢ iprop((if ev c then _ else _) ∗ (if ev c then _ else _))
  cases ev c
  · exact .rfl
  · exact sep_comm
/-- The rows that copy 9 may send, at either parity: those it sends here and those it spares. -/
theorem both9 : iprop(ptB c fq.right (R3 1 168 256) (BW m ρ c) ∗ ptA c fq.right (R2 168 256) (X m ρ (rel c 4))) ⊣⊢ iprop(srcPay m ρ 9 c ∗ spr m ρ 9 c) := by
  show _ ⊣⊢ iprop((if ev c then _ else _) ∗ (if ev c then _ else _))
  cases ev c
  · exact sep_comm
  · exact .rfl
/-- The rows that copy 13 may send, at either parity: those it sends here and those it spares. -/
theorem both13 : iprop(ptF c fq.right (R3 1 88 168) (FW m ρ c) ∗ ptB c fq.right (R3 1 88 168) (BW m ρ c)) ⊣⊢ iprop(srcPay m ρ 13 c ∗ spr m ρ 13 c) := by
  show _ ⊣⊢ iprop((if ev c then _ else _) ∗ (if ev c then _ else _))
  cases ev c
  · exact sep_comm
  · exact .rfl

/-- Landed rows: half the share is kept, the other half is cut at a row. -/
theorem cutF (s a k b : ℕ) (h₁ : a ≤ k) (h₂ : k ≤ b) (f : S2x256x2048.Idx → Elt F .f32) :
    ptF c fq (R3 s a b) f = iprop(ptF c fq.left (R3 s a b) f ∗ ptF c fq.right (R3 s a k) f ∗ ptF c fq.right (R3 s k b) f) := by
  rw [← rowsF c fq.right s a k b h₁ h₂ f]
  exact share_eq (ℓ := (c : Thread nD τ).loc cc0_scratch0) (R3 s a b) fq f
/-- Rows of the backward buffer cut to a half share of all and a half share on each side of row `k`. -/
theorem cutB (s a k b : ℕ) (h₁ : a ≤ k) (h₂ : k ≤ b) (f : S2x256x2048.Idx → Elt F .f32) :
    ptB c fq (R3 s a b) f = iprop(ptB c fq.left (R3 s a b) f ∗ ptB c fq.right (R3 s a k) f ∗ ptB c fq.right (R3 s k b) f) := by
  rw [← rowsB c fq.right s a k b h₁ h₂ f]
  exact share_eq (ℓ := (c : Thread nD τ).loc cc0_scratch1) (R3 s a b) fq f
/-- Rows of the `mAN` buffer cut to a half share of all and a half share on each side of row `k`. -/
theorem cutA (a k b : ℕ) (h₁ : a ≤ k) (h₂ : k ≤ b) (f : S256x2048.Idx → Elt F .f32) :
    ptA c fq (R2 a b) f = iprop(ptA c fq.left (R2 a b) f ∗ ptA c fq.right (R2 a k) f ∗ ptA c fq.right (R2 k b) f) := by
  rw [← rowsA c fq.right a k b h₁ h₂ f]
  exact share_eq (ℓ := (c : Thread nD τ).loc cc0_scratch2) (R2 a b) fq f

/-- Copy 2 landed, cut at row 88. -/
theorem got2 : dstPay m ρ 2 c = iprop(ptF c fq.left (R3 1 0 128) (FW m ρ c) ∗ ptF c fq.right (R3 1 0 88) (FW m ρ c) ∗ ptF c fq.right (R3 1 88 128) (FW m ρ c)) :=
  cutF c 1 0 88 128 (by decide) (by decide) (FW m ρ c)
/-- Copy 3 landed, cut at row 168. -/
theorem got3 : dstPay m ρ 3 c = iprop(ptF c fq.left (R3 1 128 256) (FW m ρ c) ∗ ptF c fq.right (R3 1 128 168) (FW m ρ c) ∗ ptF c fq.right (R3 1 168 256) (FW m ρ c)) :=
  cutF c 1 128 168 256 (by decide) (by decide) (FW m ρ c)
/-- Copy 7 landed, cut at row 88. -/
theorem got7 : dstPay m ρ 7 c = iprop(ptB c fq.left (R3 1 0 128) (BW m ρ c) ∗ ptB c fq.right (R3 1 0 88) (BW m ρ c) ∗ ptB c fq.right (R3 1 88 128) (BW m ρ c)) :=
  cutB c 1 0 88 128 (by decide) (by decide) (BW m ρ c)
/-- Copy 8 landed, cut at row 168. -/
theorem got8 : dstPay m ρ 8 c = iprop(ptB c fq.left (R3 1 128 256) (BW m ρ c) ∗ ptB c fq.right (R3 1 128 168) (BW m ρ c) ∗ ptB c fq.right (R3 1 168 256) (BW m ρ c)) :=
  cutB c 1 128 168 256 (by decide) (by decide) (BW m ρ c)
/-- Copy 11 landed, cut at row 88. -/
theorem got11 : dstPay m ρ 11 c = iprop(ptA c fq.left (R2 0 128) (X m ρ (rel c 4)) ∗ ptA c fq.right (R2 0 88) (X m ρ (rel c 4)) ∗ ptA c fq.right (R2 88 128) (X m ρ (rel c 4))) :=
  cutA c 0 88 128 (by decide) (by decide) (X m ρ (rel c 4))
/-- Copy 12 landed, cut at row 168. -/
theorem got12 : dstPay m ρ 12 c = iprop(ptA c fq.left (R2 128 256) (X m ρ (rel c 4)) ∗ ptA c fq.right (R2 128 168) (X m ρ (rel c 4)) ∗ ptA c fq.right (R2 168 256) (X m ρ (rel c 4))) :=
  cutA c 128 168 256 (by decide) (by decide) (X m ρ (rel c 4))

/-- The block of `x`, divided among a kept half and the five copies that read it. -/
theorem split_x : (((c : Thread nD τ).loc cc0_stg0_0) ↦{fq} X m ρ c : sProp 𝕄)
    = iprop(ptX c fq.left (R2 0 256) (X m ρ c) ∗ (srcPay m ρ 0 c ∗ srcPay m ρ 1 c) ∗ (srcPay m ρ 5 c ∗ srcPay m ρ 6 c) ∗ srcPay m ρ 10 c) := by
  have e1 := thirds (ℓ := (c : Thread nD τ).loc cc0_stg0_0) (R2 0 256) fq (X m ρ c)
  have e2 := share_eq (ℓ := (c : Thread nD τ).loc cc0_stg0_0) (R2 0 256) fq.right.right (X m ρ c)
  have e3 := rowsX c fq.right.left 0 128 256 (by decide) (by decide) (X m ρ c)
  have e4 := rowsX c fq.right.right.left 0 128 256 (by decide) (by decide) (X m ρ c)
  rw [univX, show ptX c fq (R2 0 256) (X m ρ c) = _ from e1, e2]
  show iprop(_ ∗ ptX c fq.right.left (R2 0 256) (X m ρ c) ∗ ptX c fq.right.right.left (R2 0 256) (X m ρ c) ∗ _) = _
  rw [e3, e4]; rfl

/-- The forward slots, put together from the kept half and the pieces of the other half. -/
theorem join_F : iprop(ptF c fq.left (R3 0 0 256) (FW m ρ c) ∗ (srcPay m ρ 2 c ∗ srcPay m ρ 3 c) ∗ (ptF c fq.right.right (R3 0 0 128) (FW m ρ c) ∗ ptF c fq.right.right (R3 0 128 256) (FW m ρ c))
      ∗ ptF c fq.left (R3 1 0 256) (FW m ρ c) ∗ ptF c fq.right (R3 1 0 88) (FW m ρ c) ∗ ptF c fq.right (R3 1 88 168) (FW m ρ c) ∗ ptF c fq.right (R3 1 168 256) (FW m ρ c))
    ⊢ (((c : Thread nD τ).loc cc0_scratch0) ↦{fq} FW m ρ c : sProp 𝕄) := by
  have a1 : ptF c fq (R3 0 0 256) (FW m ρ c) = iprop(ptF c fq.left (R3 0 0 256) (FW m ρ c) ∗ ptF c fq.right.left (R3 0 0 256) (FW m ρ c) ∗ ptF c fq.right.right (R3 0 0 256) (FW m ρ c)) :=
    thirds (ℓ := (c : Thread nD τ).loc cc0_scratch0) (R3 0 0 256) fq (FW m ρ c)
  have a2 := rowsF c fq.right.left 0 0 128 256 (by decide) (by decide) (FW m ρ c)
  have a3 := rowsF c fq.right.right 0 0 128 256 (by decide) (by decide) (FW m ρ c)
  have b1 := cutF c 1 0 88 256 (by decide) (by decide) (FW m ρ c)
  have b2 := rowsF c fq.right 1 88 168 256 (by decide) (by decide) (FW m ρ c)
  rw [slotsF, a1, a2, a3, b1, b2,
    show srcPay m ρ 2 c = ptF c fq.right.left (R3 0 0 128) (FW m ρ c) from rfl, show srcPay m ρ 3 c = ptF c fq.right.left (R3 0 128 256) (FW m ρ c) from rfl]
  iintro ⟨H1, ⟨H2, H3⟩, ⟨H4, H5⟩, H6, H7, H8, H9⟩
  isplitl [H1 H2 H3 H4 H5]
  · isplitl [H1]; · iexact H1
    isplitl [H2 H3]
    · isplitl [H2]; · iexact H2
      iexact H3
    iframe
  iframe

/-- The backward slots likewise. -/
theorem join_B : iprop(ptB c fq.left (R3 0 0 256) (BW m ρ c) ∗ (srcPay m ρ 7 c ∗ srcPay m ρ 8 c) ∗ (ptB c fq.right.right (R3 0 0 128) (BW m ρ c) ∗ ptB c fq.right.right (R3 0 128 256) (BW m ρ c))
      ∗ ptB c fq.left (R3 1 0 256) (BW m ρ c) ∗ ptB c fq.right (R3 1 0 88) (BW m ρ c) ∗ ptB c fq.right (R3 1 88 168) (BW m ρ c) ∗ ptB c fq.right (R3 1 168 256) (BW m ρ c))
    ⊢ (((c : Thread nD τ).loc cc0_scratch1) ↦{fq} BW m ρ c : sProp 𝕄) := by
  have a1 : ptB c fq (R3 0 0 256) (BW m ρ c) = iprop(ptB c fq.left (R3 0 0 256) (BW m ρ c) ∗ ptB c fq.right.left (R3 0 0 256) (BW m ρ c) ∗ ptB c fq.right.right (R3 0 0 256) (BW m ρ c)) :=
    thirds (ℓ := (c : Thread nD τ).loc cc0_scratch1) (R3 0 0 256) fq (BW m ρ c)
  have a2 := rowsB c fq.right.left 0 0 128 256 (by decide) (by decide) (BW m ρ c)
  have a3 := rowsB c fq.right.right 0 0 128 256 (by decide) (by decide) (BW m ρ c)
  have b1 := cutB c 1 0 88 256 (by decide) (by decide) (BW m ρ c)
  have b2 := rowsB c fq.right 1 88 168 256 (by decide) (by decide) (BW m ρ c)
  rw [slotsB, a1, a2, a3, b1, b2,
    show srcPay m ρ 7 c = ptB c fq.right.left (R3 0 0 128) (BW m ρ c) from rfl, show srcPay m ρ 8 c = ptB c fq.right.left (R3 0 128 256) (BW m ρ c) from rfl]
  iintro ⟨H1, ⟨H2, H3⟩, ⟨H4, H5⟩, H6, H7, H8, H9⟩
  isplitl [H1 H2 H3 H4 H5]
  · isplitl [H1]; · iexact H1
    isplitl [H2 H3]
    · isplitl [H2]; · iexact H2
      iexact H3
    iframe
  iframe

/-- The antipode's block likewise. -/
theorem join_A : iprop(ptA c fq.left (R2 0 256) (X m ρ (rel c 4)) ∗ ptA c fq.right (R2 0 88) (X m ρ (rel c 4)) ∗ ptA c fq.right (R2 88 168) (X m ρ (rel c 4)) ∗ ptA c fq.right (R2 168 256) (X m ρ (rel c 4)))
    ⊢ (((c : Thread nD τ).loc cc0_scratch2) ↦{fq} X m ρ (rel c 4) : sProp 𝕄) := by
  have b1 := cutA c 0 88 256 (by decide) (by decide) (X m ρ (rel c 4))
  have b2 := rowsA c fq.right 88 168 256 (by decide) (by decide) (X m ρ (rel c 4))
  rw [univA, b1, b2]
end Pieces

end Cert.RingProof

end
-- ==== Proof.Part9.lean ====
/-
# The body, from the first product to the last send from the landed quarters
-/
module

public import proofs.«01_k».proof.Proof.Part5
public import proofs.«01_k».proof.Proof.Pieces
public import proofs.«01_k».proof.Proof.Out

@[expose] public section

noncomputable section

namespace Cert.RingProof

open Cert.KernelIdeal Cert.KernelIdeal.Gen
open Idealize.ShloMosaic
open Idealize.ShloMosaic.TcCoe Idealize.ShloMosaic.RefSig
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
section Parts
variable (K : Dev nD × Ci → ℕ) (c : Dev nD)

/-- All the rows of a block are the block. -/
theorem rows_all (Y : S256x2048.Idx → Elt F .f32) : rows Y 0 256 = Y := by
  funext j
  have h : (⟨(0 + (j 0).val) % 256, Nat.mod_lt _ (by decide)⟩ : Fin 256) = j 0 := by
    have hj : (j 0).val < 256 := (j 0).isLt
    apply Fin.ext
    show (0 + (j 0).val) % 256 = (j 0).val
    rw [Nat.zero_add, Nat.mod_eq_of_lt hj]
  show Y (ix2 _ _) = Y j
  rw [h]
  exact congrArg Y (eq_ix2 j).symm

/-- A slot of 256 rows can be read as 256 rows. -/
theorem squeezes_256 : (⟨3, ![1, 256, 2048]⟩ : Shape).Squeezes ⟨2, ![256, 2048]⟩ := by decide

/-- Loading rows that came round one way. -/
theorem load_FW (s a n b : ℕ) (hs : s < 2) (hn : a + n ≤ 256) (hb : b = a + n) {inb : ∀ x, (![s, a, 0] : Fin 3 → ℕ) x + (⟨3, ![1, n, 2048]⟩ : Shape).size x ≤ S2x256x2048.size x} {hl}
    {α : Type} {Q : α → sProp 𝕄} {kt : ((⟨3, ![1, n, 2048]⟩ : Shape).Idx → Elt F .f32) → Prog (TpuEff nD τ sig (Elt F) Λ₀ .tc) α}
    (q : PosShare TreeShare) (hq : (⟨3, ![1, n, 2048]⟩ : Shape).Squeezes ⟨2, ![n, 2048]⟩) :
    ptF c q (R3 s a b) (FW m ρ c) ⊢ iprop((∀ v, ⌜∀ hc, shapeCast (⟨2, ![n, 2048]⟩ : Shape) v hc = rows (if s = 0 then X m ρ (rel c 7) else X m ρ (rel c 6)) a n⌝
          -∗ ptF c q (R3 s a b) (FW m ρ c) -∗ WP c (kt v) Q)
      -∗ WP c (.op (.load mFW (Rect.unit (s := S2x256x2048) ![s, a, 0] (⟨3, ![1, n, 2048]⟩ : Shape).size inb).toLoadRect hl) kt) Q) := by
  subst hb
  exact load_F c s a n hs hn inb q (X m ρ (rel c 7)) (X m ρ (rel c 6)) hq

/-- Loading rows that came round the other way. -/
theorem load_BW (s a n b : ℕ) (hs : s < 2) (hn : a + n ≤ 256) (hb : b = a + n) {inb : ∀ x, (![s, a, 0] : Fin 3 → ℕ) x + (⟨3, ![1, n, 2048]⟩ : Shape).size x ≤ S2x256x2048.size x} {hl}
    {α : Type} {Q : α → sProp 𝕄} {kt : ((⟨3, ![1, n, 2048]⟩ : Shape).Idx → Elt F .f32) → Prog (TpuEff nD τ sig (Elt F) Λ₀ .tc) α}
    (q : PosShare TreeShare) (hq : (⟨3, ![1, n, 2048]⟩ : Shape).Squeezes ⟨2, ![n, 2048]⟩) :
    ptB c q (R3 s a b) (BW m ρ c) ⊢ iprop((∀ v, ⌜∀ hc, shapeCast (⟨2, ![n, 2048]⟩ : Shape) v hc = rows (if s = 0 then X m ρ (rel c 1) else X m ρ (rel c 2)) a n⌝
          -∗ ptB c q (R3 s a b) (BW m ρ c) -∗ WP c (kt v) Q)
      -∗ WP c (.op (.load mBW (Rect.unit (s := S2x256x2048) ![s, a, 0] (⟨3, ![1, n, 2048]⟩ : Shape).size inb).toLoadRect hl) kt) Q) := by
  subst hb
  exact load_B c s a n hs hn inb q (X m ρ (rel c 1)) (X m ρ (rel c 2)) hq

/-- The third payload of the kernel is the piece that 256 rows give. -/
theorem pay3_eq (v : S256x2048.Idx → Elt F .f32) (w : S2048x256.Idx → Elt F .f32) : k0_pay3 v w = blk256 v w := by
  unfold k0_pay3
  rw [shapeCast_self]; rfl

/-- What holds only at odd places fails at an even place. -/
theorem not_odd {p : Prop} (hp : p ↔ ev c = false) (h : ev c = true) : ¬ p := fun hh => by
  rw [h] at hp; exact Bool.noConfusion (hp.1 hh)
/-- What holds only at even places fails at an odd place. -/
theorem not_even {p : Prop} (hp : p ↔ ev c = true) (h : ev c = false) : ¬ p := fun hh => by
  rw [h] at hp; exact Bool.noConfusion (hp.1 hh)

/-- After part 8: at an even place copy 11 is still to be sent, at an odd place it has been. -/
def mid8 : sProp 𝕄 := if ev c then iprop(srcPay m ρ 11 c ∗ toks 11 c ∗ dstAny (F := F) 11 (ptn c) ∗ OW c left8e) else iprop(sent 11 c ∗ OW c left8o)
/-- What is held after part 8 at an even place. -/
theorem mid8_even (h : ev c = true) : mid8 m ρ c = iprop(srcPay m ρ 11 c ∗ toks 11 c ∗ dstAny (F := F) 11 (ptn c) ∗ OW c left8e) := if_pos h
/-- What is held after part 8 at an odd place. -/
theorem mid8_odd (h : ev c = false) : mid8 m ρ c = iprop(sent 11 c ∗ OW c left8o) := odd_if c h

/-- Sending copies 5, 6 and 10, and the product with the device's own block. -/
theorem part6 (w₁ w₂ w₃ w₄ : BitVec 32) {Q : _ → sProp 𝕄} :
    iprop(recs m ρ K ∗ (srcPay m ρ 5 c ∗ toks 5 c ∗ dstAny (F := F) 5 (lft c)) ∗ (srcPay m ρ 6 c ∗ toks 6 c ∗ dstAny (F := F) 6 (lft c)) ∗ (srcPay m ρ 10 c ∗ toks 10 c ∗ dstAny (F := F) 10 (ptn c)) ∗ OW c left2 ∗ ptX c fq.left (R2 0 256) (X m ρ c) ∗ ptW c (Wc m ρ c) ∗ outP m ρ c [])
      ⊢ iprop((∀ r, (sent 5 c ∗ sent 6 c ∗ sent 10 c ∗ OW c left5 ∗ ptX c fq.left (R2 0 256) (X m ρ c) ∗ ptW c (Wc m ρ c) ∗ outP m ρ c [(c, 0, 256)]) -∗ Q r)
        -∗ WP c (k0_part6_skel (F := F) mX (Memref.isWhole_whole _) mW (Memref.isWhole_whole _) mO (Memref.isWhole_whole _) mFW (Memref.isWhole_whole _) mBW (Memref.isWhole_whole _) mAN (Memref.isWhole_whole _) mCH (Memref.isWhole_whole _) mF1 (Memref.isWhole_whole _) mF2 (Memref.isWhole_whole _) mF3 (Memref.isWhole_whole _) cc0_scratch7 cc0_scratch8 cc0_scratch9 cc0_scratch10 cc0_scratch11 cc0_scratch12 c w₁ w₂ w₃ w₄) Q) := by
  unfold k0_part6_skel
  simp only [Prog.lift, Prog.bind_op, Prog.bind_ret, Prog.pure_eq_ret]
  iintro ⟨#HR, ⟨Hs5, Hk5, Hd5⟩, ⟨Hs6, Hk6, Hd6⟩, ⟨Hs10, Hk10, Hd10⟩, HO, HX, HW, Hout⟩ Hk
  iapply (send5 m ρ K c _ (dev6_eq c) rfl rfl left2 left3 (by decide) (by decide)) $$ [$]
  iintro ⟨Hn5, HO⟩
  iapply (send6 m ρ K c _ (dev7_eq c) rfl rfl left3 left4 (by decide) (by decide)) $$ [$]
  iintro ⟨Hn6, HO⟩
  iapply (send10 m ρ K c _ (dev8_eq c) rfl rfl left4 left5 (by decide) (by decide)) $$ [$]
  iintro ⟨Hn10, HO⟩
  iapply (load_X c fq.left (X m ρ c)) $$ [$]
  iintro HX
  iapply (load_W c (Wc m ρ c)) $$ [$]
  iintro HW
  iapply (gemm_step m ρ c c 0 256 (by decide) (off1_eq c) _ ((congrArg (Agrees m ρ c c 0 256) (pay3_eq _ _)).mpr (agrees_256 m ρ c c (Or.inl rfl))) []) $$ [$]
  iintro Hout
  iapply (ret_step c)
  iapply Hk
  iframe

/-- Copies 0 and 5 land; copy 2 is sent. -/
theorem part7 (w₁ w₂ : BitVec 32) {Q : _ → sProp 𝕄} :
    iprop(recs m ρ K ∗ rtok (F := F) 0 c ∗ rtok (F := F) 5 c ∗ (toks 2 c ∗ dstAny (F := F) 2 (rgt c)) ∗ OW c left5)
      ⊢ iprop((∀ r, (semVal (rcell c 0) 0 ∗ semVal (rcell c 5) 0 ∗ sent 2 c ∗ ptF c fq.left (R3 0 0 128) (FW m ρ c) ∗ ptB c fq.left (R3 0 0 128) (BW m ρ c) ∗ srcPay m ρ 7 c ∗ srcPay m ρ 11 c ∗ spr m ρ 11 c ∗ OW c left6) -∗ Q r)
        -∗ WP c (k0_part7_skel (F := F) mX (Memref.isWhole_whole _) mW (Memref.isWhole_whole _) mO (Memref.isWhole_whole _) mFW (Memref.isWhole_whole _) mBW (Memref.isWhole_whole _) mAN (Memref.isWhole_whole _) mCH (Memref.isWhole_whole _) mF1 (Memref.isWhole_whole _) mF2 (Memref.isWhole_whole _) mF3 (Memref.isWhole_whole _) cc0_scratch7 cc0_scratch8 cc0_scratch9 cc0_scratch10 cc0_scratch11 cc0_scratch12 c w₁ w₂) Q) := by
  unfold k0_part7_skel
  simp only [Prog.lift, Prog.bind_op, Prog.bind_ret, Prog.pure_eq_ret]
  iintro ⟨#HR, Hr0, Hr5, ⟨Hk2, Hd2⟩, HO⟩ Hk
  iapply (recvN m ρ K c 0 128 rfl rfl left5 (by decide)) $$ [$]
  iintro ⟨Hp, Hz0, HO⟩
  ihave Hp := (Entails.of_eq (got0 m ρ c)) $$ Hp
  icases Hp with ⟨HF, Hs2, HF'⟩
  iapply (send2 m ρ K c _ (dev9_eq c) rfl rfl left5 left6 (by decide) (by decide)) $$ [$]
  iintro ⟨Hn2, HO⟩
  iapply (recvN m ρ K c 5 128 rfl rfl left6 (by decide)) $$ [$]
  iintro ⟨Hp, Hz5, HO⟩
  ihave Hp := (Entails.of_eq (got5 m ρ c)) $$ Hp
  icases Hp with ⟨HB, Hs7, HB'⟩
  ihave Hb := (both11 m ρ c).1 $$ [$HF' $HB']
  icases Hb with ⟨Hs11, Hv11⟩
  iapply (ret_step c)
  iapply Hk
  iframe

/-- Copy 7 is sent, at an odd place copy 11; copy 1 lands and copy 3 is sent. -/
theorem part8 (w₁ w₂ : BitVec 32) (w₃ : BitVec 1) (w₄ : BitVec 32) {Q : _ → sProp 𝕄} :
    iprop(recs m ρ K ∗ rtok (F := F) 1 c ∗ (srcPay m ρ 7 c ∗ toks 7 c ∗ dstAny (F := F) 7 (lft c)) ∗ (srcPay m ρ 11 c ∗ toks 11 c ∗ dstAny (F := F) 11 (ptn c)) ∗ (toks 3 c ∗ dstAny (F := F) 3 (rgt c)) ∗ OW c left6)
      ⊢ iprop((∀ r, (semVal (rcell c 1) 0 ∗ sent 7 c ∗ sent 3 c ∗ ptF c fq.left (R3 0 128 256) (FW m ρ c) ∗ ptF c fq.right.right (R3 0 128 256) (FW m ρ c) ∗ mid8 m ρ c) -∗ Q r)
        -∗ WP c (k0_part8_skel (F := F) mX (Memref.isWhole_whole _) mW (Memref.isWhole_whole _) mO (Memref.isWhole_whole _) mFW (Memref.isWhole_whole _) mBW (Memref.isWhole_whole _) mAN (Memref.isWhole_whole _) mCH (Memref.isWhole_whole _) mF1 (Memref.isWhole_whole _) mF2 (Memref.isWhole_whole _) mF3 (Memref.isWhole_whole _) cc0_scratch7 cc0_scratch8 cc0_scratch9 cc0_scratch10 cc0_scratch11 cc0_scratch12 c w₁ w₂ w₃ w₄) Q) := by
  unfold k0_part8_skel
  simp only [Prog.lift, Prog.bind_op, Prog.bind_ret, Prog.pure_eq_ret]
  iintro ⟨#HR, Hr1, ⟨Hs7, Hk7, Hd7⟩, ⟨Hs11, Hk11, Hd11⟩, ⟨Hk3, Hd3⟩, HO⟩ Hk
  cases h : ev c
  · rw [mid8_odd m ρ c h]
    simp only [dif_pos ((cond1_iff c).2 h), Prog.lift, Prog.bind_op, Prog.bind_ret, Prog.pure_eq_ret]
    iapply (send7 m ρ K c _ (dev10_eq c) rfl rfl left6 left7 (by decide) (by decide)) $$ [$]
    iintro ⟨Hn7, HO⟩
    iapply (send11o m ρ K c _ h (dev11_eq c) rfl rfl left7 left7o (by decide) (by decide)) $$ [$]
    iintro ⟨Hn11, HO⟩
    iapply (recvN m ρ K c 1 128 rfl rfl left7o (by decide)) $$ [$]
    iintro ⟨Hp, Hz1, HO⟩
    ihave Hp := (Entails.of_eq (got1 m ρ c)) $$ Hp
    icases Hp with ⟨HF, Hs3, HF'⟩
    iapply (send3 m ρ K c _ (dev12_eq c) rfl rfl left7o left8o (by decide) (by decide)) $$ [$]
    iintro ⟨Hn3, HO⟩
    iapply (ret_step c)
    iapply Hk
    iframe
  · have hn1 : ¬ (k0_cond1 c = 1#1) := not_odd c (cond1_iff c) h
    rw [mid8_even m ρ c h]
    simp only [dif_neg hn1, Prog.lift, Prog.bind_op, Prog.bind_ret, Prog.pure_eq_ret]
    iapply (send7 m ρ K c _ (dev10_eq c) rfl rfl left6 left7 (by decide) (by decide)) $$ [$]
    iintro ⟨Hn7, HO⟩
    iapply (recvN m ρ K c 1 128 rfl rfl left7 (by decide)) $$ [$]
    iintro ⟨Hp, Hz1, HO⟩
    ihave Hp := (Entails.of_eq (got1 m ρ c)) $$ Hp
    icases Hp with ⟨HF, Hs3, HF'⟩
    iapply (send3 m ρ K c _ (dev12_eq c) rfl rfl left7 left8e (by decide) (by decide)) $$ [$]
    iintro ⟨Hn3, HO⟩
    iapply (ret_step c)
    iapply Hk
    iframe

/-- Copy 6 lands; copies 8 and 12, and at an even place 11, are sent. -/
theorem part9 (w₁ w₂ : BitVec 32) (w₃ w₄ : BitVec 1) (w₅ : BitVec 32) {Q : _ → sProp 𝕄} :
    iprop(recs m ρ K ∗ rtok (F := F) 6 c ∗ (toks 8 c ∗ dstAny (F := F) 8 (lft c)) ∗ (toks 12 c ∗ dstAny (F := F) 12 (ptn c)) ∗ mid8 m ρ c ∗ ptF c fq.left (R3 0 0 128) (FW m ρ c) ∗ ptF c fq.left (R3 0 128 256) (FW m ρ c) ∗ ptF c fq.right.right (R3 0 128 256) (FW m ρ c) ∗ ptB c fq.left (R3 0 0 128) (BW m ρ c))
      ⊢ iprop((∀ r, ⌜r.1 = X m ρ (rel c 7)⌝ -∗ (semVal (rcell c 6) 0 ∗ sent 8 c ∗ sent 11 c ∗ sent 12 c ∗ ptF c fq.left (R3 0 0 256) (FW m ρ c) ∗ ptB c fq.left (R3 0 0 256) (BW m ρ c) ∗ spr m ρ 12 c ∗ OW c left9) -∗ Q r)
        -∗ WP c (k0_part9_skel (F := F) mX (Memref.isWhole_whole _) mW (Memref.isWhole_whole _) mO (Memref.isWhole_whole _) mFW (Memref.isWhole_whole _) mBW (Memref.isWhole_whole _) mAN (Memref.isWhole_whole _) mCH (Memref.isWhole_whole _) mF1 (Memref.isWhole_whole _) mF2 (Memref.isWhole_whole _) mF3 (Memref.isWhole_whole _) cc0_scratch7 cc0_scratch8 cc0_scratch9 cc0_scratch10 cc0_scratch11 cc0_scratch12 c w₁ w₂ w₃ w₄ w₅) Q) := by
  unfold k0_part9_skel
  cases h : ev c
  · rw [mid8_odd m ρ c h]
    simp only [dif_pos ((cond2_iff c).2 h), dif_neg (not_even c (cond3_iff c) h), Prog.lift, Prog.bind_op, Prog.bind_ret, Prog.pure_eq_ret]
    iintro ⟨#HR, Hr6, ⟨Hk8, Hd8⟩, ⟨Hk12, Hd12⟩, ⟨Hn11, HO⟩, HF, HF', HF'', HB⟩ Hk
    iapply (recvN m ρ K c 6 128 rfl rfl left8o (by decide)) $$ [$]
    iintro ⟨Hp, Hz6, HO⟩
    ihave Hp := (Entails.of_eq (got6 m ρ c)) $$ Hp
    icases Hp with ⟨HB', Hs8, HB''⟩
    ihave Hb := (both12 m ρ c).1 $$ [$HF'' $HB'']
    icases Hb with ⟨Hs12, Hv12⟩
    iapply (send8 m ρ K c _ (dev13_eq c) rfl rfl left8o left8o' (by decide) (by decide)) $$ [$]
    iintro ⟨Hn8, HO⟩
    iapply (send12o m ρ K c _ h (dev14_eq c) rfl rfl left8o' left9 (by decide) (by decide)) $$ [$]
    iintro ⟨Hn12, HO⟩
    ihave HF := (Entails.of_eq (rowsF c fq.left 0 0 128 256 (by decide) (by decide) (FW m ρ c)).symm) $$ [$HF $HF']
    ihave HB := (Entails.of_eq (rowsB c fq.left 0 0 128 256 (by decide) (by decide) (BW m ρ c)).symm) $$ [$HB $HB']
    iapply (load_FW m ρ c 0 0 256 256 (by decide) (by decide) rfl fq.left squeezes_256) $$ [$]
    iintro %v %hv HF
    iapply (ret_step c)
    iapply Hk $$ []
    · ipureintro; exact (hv _).trans (rows_all _)
    iframe
  · rw [mid8_even m ρ c h]
    simp only [dif_neg (not_odd c (cond2_iff c) h), dif_pos ((cond3_iff c).2 h), Prog.lift, Prog.bind_op, Prog.bind_ret, Prog.pure_eq_ret]
    iintro ⟨#HR, Hr6, ⟨Hk8, Hd8⟩, ⟨Hk12, Hd12⟩, ⟨Hs11, Hk11, Hd11, HO⟩, HF, HF', HF'', HB⟩ Hk
    iapply (recvN m ρ K c 6 128 rfl rfl left8e (by decide)) $$ [$]
    iintro ⟨Hp, Hz6, HO⟩
    ihave Hp := (Entails.of_eq (got6 m ρ c)) $$ Hp
    icases Hp with ⟨HB', Hs8, HB''⟩
    ihave Hb := (both12 m ρ c).1 $$ [$HF'' $HB'']
    icases Hb with ⟨Hs12, Hv12⟩
    iapply (send8 m ρ K c _ (dev13_eq c) rfl rfl left8e left8e' (by decide) (by decide)) $$ [$]
    iintro ⟨Hn8, HO⟩
    iapply (send12e m ρ K c _ h (dev15_eq c) rfl rfl left8e' left8e'' (by decide) (by decide)) $$ [$]
    iintro ⟨Hn12, HO⟩
    iapply (send11e m ρ K c _ h (dev16_eq c) rfl rfl left8e'' left9 (by decide) (by decide)) $$ [$]
    iintro ⟨Hn11, HO⟩
    ihave HF := (Entails.of_eq (rowsF c fq.left 0 0 128 256 (by decide) (by decide) (FW m ρ c)).symm) $$ [$HF $HF']
    ihave HB := (Entails.of_eq (rowsB c fq.left 0 0 128 256 (by decide) (by decide) (BW m ρ c)).symm) $$ [$HB $HB']
    iapply (load_FW m ρ c 0 0 256 256 (by decide) (by decide) rfl fq.left squeezes_256) $$ [$]
    iintro %v %hv HF
    iapply (ret_step c)
    iapply Hk $$ []
    · ipureintro; exact (hv _).trans (rows_all _)
    iframe

end Parts

end Cert.RingProof

end
-- ==== Proof.Part17.lean ====
/-
# The body, from the product with the left neighbour's block to the antipode's
-/
module

public import proofs.«01_k».proof.Proof.Part9

@[expose] public section

noncomputable section

namespace Cert.RingProof

open Cert.KernelIdeal Cert.KernelIdeal.Gen
open Idealize.ShloMosaic
open Idealize.ShloMosaic.TcCoe Idealize.ShloMosaic.RefSig
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
section Parts
variable (K : Dev nD × Ci → ℕ) (c : Dev nD)

/-- The fifth payload of the kernel is the piece that 256 rows give. -/
theorem pay5_eq (v : S256x2048.Idx → Elt F .f32) (w : S2048x256.Idx → Elt F .f32) : k0_pay5 v w = blk256 v w := rfl
/-- The seventh payload of the kernel is the piece that 256 rows give. -/
theorem pay7_eq (v : S256x2048.Idx → Elt F .f32) (w : S2048x256.Idx → Elt F .f32) : k0_pay7 v w = blk256 v w := rfl

/-- After part 12: at an odd place copy 4 has been sent; at an even place it has not. -/
def mid12 : sProp 𝕄 := if ev c then iprop(toks 4 c ∗ dstAny (F := F) 4 (rgt c) ∗ spr m ρ 4 c ∗ OW c left9) else iprop(sent 4 c ∗ OW c left14)
/-- What is held after part 12 at an even place. -/
theorem mid12_even (h : ev c = true) : mid12 m ρ c = iprop(toks 4 c ∗ dstAny (F := F) 4 (rgt c) ∗ spr m ρ 4 c ∗ OW c left9) := if_pos h
/-- What is held after part 12 at an odd place. -/
theorem mid12_odd (h : ev c = false) : mid12 m ρ c = iprop(sent 4 c ∗ OW c left14) := odd_if c h
/-- The rows of the forward slot that copy 4 sends or spares. -/
theorem piece4_even (h : ev c = true) : ptF c fq.right (R3 1 0 88) (FW m ρ c) = spr m ρ 4 c := (if_pos h).symm
/-- At an odd place, these rows are the ones copy 4 sends. -/
theorem piece4_odd (h : ev c = false) : ptF c fq.right (R3 1 0 88) (FW m ρ c) = srcPay m ρ 4 c := (odd_if c h).symm

/-- After part 14: what the antipode's first half brought. -/
def mid14 : sProp 𝕄 := if ev c
  then iprop((toks 9 c ∗ dstAny (F := F) 9 (lft c)) ∗ spr m ρ 4 c ∗ ptA c fq.left (R2 0 128) (X m ρ (rel c 4)) ∗ ptA c fq.right (R2 88 128) (X m ρ (rel c 4)) ∗ semVal (rcell c 11) 0 ∗ rtok (F := F) 12 c ∗ OW c left14)
  else iprop(sent 9 c ∗ ptA c fq.left (R2 128 256) (X m ρ (rel c 4)) ∗ ptA c fq.right (R2 128 168) (X m ρ (rel c 4)) ∗ semVal (rcell c 12) 0 ∗ rtok (F := F) 11 c ∗ OW c left15)
/-- What is held after part 14 at an even place. -/
theorem mid14_even (h : ev c = true) : mid14 m ρ c = iprop((toks 9 c ∗ dstAny (F := F) 9 (lft c)) ∗ spr m ρ 4 c ∗ ptA c fq.left (R2 0 128) (X m ρ (rel c 4)) ∗ ptA c fq.right (R2 88 128) (X m ρ (rel c 4)) ∗ semVal (rcell c 11) 0 ∗ rtok (F := F) 12 c ∗ OW c left14) := if_pos h
/-- What is held after part 14 at an odd place. -/
theorem mid14_odd (h : ev c = false) : mid14 m ρ c = iprop(sent 9 c ∗ ptA c fq.left (R2 128 256) (X m ρ (rel c 4)) ∗ ptA c fq.right (R2 128 168) (X m ρ (rel c 4)) ∗ semVal (rcell c 12) 0 ∗ rtok (F := F) 11 c ∗ OW c left15) := odd_if c h

/-- After part 15: what is kept until the antipode's second half lands. -/
def mid15 : sProp 𝕄 := if ev c
  then iprop(spr m ρ 4 c ∗ ptA c fq.left (R2 0 128) (X m ρ (rel c 4)) ∗ ptA c fq.right (R2 88 128) (X m ρ (rel c 4)) ∗ semVal (rcell c 11) 0 ∗ rtok (F := F) 12 c)
  else iprop(spr m ρ 9 c ∗ ptA c fq.left (R2 128 256) (X m ρ (rel c 4)) ∗ ptA c fq.right (R2 128 168) (X m ρ (rel c 4)) ∗ semVal (rcell c 12) 0 ∗ rtok (F := F) 11 c)
/-- What is held after part 15 at an even place. -/
theorem mid15_even (h : ev c = true) : mid15 m ρ c = iprop(spr m ρ 4 c ∗ ptA c fq.left (R2 0 128) (X m ρ (rel c 4)) ∗ ptA c fq.right (R2 88 128) (X m ρ (rel c 4)) ∗ semVal (rcell c 11) 0 ∗ rtok (F := F) 12 c) := if_pos h
/-- What is held after part 15 at an odd place. -/
theorem mid15_odd (h : ev c = false) : mid15 m ρ c = iprop(spr m ρ 9 c ∗ ptA c fq.left (R2 128 256) (X m ρ (rel c 4)) ∗ ptA c fq.right (R2 128 168) (X m ρ (rel c 4)) ∗ semVal (rcell c 12) 0 ∗ rtok (F := F) 11 c) := odd_if c h

/-- No copy is left to send. -/
abbrev left0 : Finset (Fin 14) := ∅

/-- The first and the second half of the antipode's block, in the order they land. -/
abbrev fst4 : Dev nD × ℕ × ℕ := (rel c 4, if ev c then 0 else 128, 128)
/-- The half of the block four places on that is made into result rows second. -/
abbrev snd4 : Dev nD × ℕ × ℕ := (rel c 4, if ev c then 128 else 0, 128)
/-- At an even place the first half of the block four places on comes first. -/
theorem fst4_even (h : ev c = true) : fst4 c = (rel c 4, 0, 128) := by rw [fst4, if_pos h]
/-- At an odd place the second half of the block four places on comes first. -/
theorem fst4_odd (h : ev c = false) : fst4 c = (rel c 4, 128, 128) := by rw [fst4, if_neg (by rw [h]; decide)]
/-- At an even place the second half of the block four places on comes second. -/
theorem snd4_even (h : ev c = true) : snd4 c = (rel c 4, 128, 128) := by rw [snd4, if_pos h]
/-- At an odd place the first half of the block four places on comes second. -/
theorem snd4_odd (h : ev c = false) : snd4 c = (rel c 4, 0, 128) := by rw [snd4, if_neg (by rw [h]; decide)]

/-- One program and then another. -/
theorem bind_step {α β : Type} {Q : β → sProp 𝕄} (p : Prog (TpuEff nD τ sig (Elt F) Λ₀ .tc) α) (k : α → Prog (TpuEff nD τ sig (Elt F) Λ₀ .tc) β) :
    WP c p (fun a => WP c (k a) Q) ⊢ WP c (p >>= k) Q := by
  unfold WP
  rw [wp_bind]

/-- The product with the left neighbour's block; the right neighbour's block is read. -/
theorem part10 (w₁ : BitVec 32) (v : S256x2048.Idx → Elt F .f32) (hv : v = X m ρ (rel c 7)) (w₂ w₃ : BitVec 32) (Ls : List (Dev nD × ℕ × ℕ)) {Q : _ → sProp 𝕄} :
    iprop(ptW c (Wc m ρ c) ∗ ptB c fq.left (R3 0 0 256) (BW m ρ c) ∗ outP m ρ c Ls)
      ⊢ iprop((∀ r, ⌜r.1 = X m ρ (rel c 1)⌝ -∗ (ptW c (Wc m ρ c) ∗ ptB c fq.left (R3 0 0 256) (BW m ρ c) ∗ outP m ρ c ((rel c 7, 0, 256) :: Ls)) -∗ Q r)
        -∗ WP c (k0_part10_skel (F := F) mX (Memref.isWhole_whole _) mW (Memref.isWhole_whole _) mO (Memref.isWhole_whole _) mFW (Memref.isWhole_whole _) mBW (Memref.isWhole_whole _) mAN (Memref.isWhole_whole _) mCH (Memref.isWhole_whole _) mF1 (Memref.isWhole_whole _) mF2 (Memref.isWhole_whole _) mF3 (Memref.isWhole_whole _) cc0_scratch7 cc0_scratch8 cc0_scratch9 cc0_scratch10 cc0_scratch11 cc0_scratch12 c w₁ v w₂ w₃) Q) := by
  subst hv
  unfold k0_part10_skel
  simp only [Prog.lift, Prog.bind_op, Prog.bind_ret, Prog.pure_eq_ret]
  iintro ⟨HW, HB, Hout⟩ Hk
  iapply (load_W c (Wc m ρ c)) $$ [$]
  iintro HW
  iapply (gemm_step m ρ c (rel c 7) 0 256 (by decide) (off2_eq c) _ (agrees_256 m ρ c (rel c 7) (Or.inr (Or.inl rfl))) Ls) $$ [$]
  iintro Hout
  iapply (load_BW m ρ c 0 0 256 256 (by decide) (by decide) rfl fq.left squeezes_256) $$ [$]
  iintro %u %hu HB
  iapply (ret_step c)
  iapply Hk $$ []
  · ipureintro; exact (hu _).trans (rows_all _)
  iframe

/-- The product with the right neighbour's block; the partner's block lands and is multiplied. -/
theorem part11 (w₁ : BitVec 32) (w₂ : BitVec 1) (w₃ : BitVec 32) (v : S256x2048.Idx → Elt F .f32) (hv : v = X m ρ (rel c 1)) (w₄ : BitVec 32) (Ls : List (Dev nD × ℕ × ℕ)) {Q : _ → sProp 𝕄} :
    iprop(recs m ρ K ∗ rtok (F := F) 10 c ∗ OW c left9 ∗ ptW c (Wc m ρ c) ∗ outP m ρ c Ls)
      ⊢ iprop((∀ r, ⌜r.2 = k0_pay8 (X m ρ (ptn c)) (Wc m ρ c)⌝ -∗ (semVal (rcell c 10) 0 ∗ ptC c (X m ρ (ptn c)) ∗ OW c left9 ∗ ptW c (Wc m ρ c) ∗ outP m ρ c ((rel c 1, 0, 256) :: Ls)) -∗ Q r)
        -∗ WP c (k0_part11_skel (F := F) mX (Memref.isWhole_whole _) mW (Memref.isWhole_whole _) mO (Memref.isWhole_whole _) mFW (Memref.isWhole_whole _) mBW (Memref.isWhole_whole _) mAN (Memref.isWhole_whole _) mCH (Memref.isWhole_whole _) mF1 (Memref.isWhole_whole _) mF2 (Memref.isWhole_whole _) mF3 (Memref.isWhole_whole _) cc0_scratch7 cc0_scratch8 cc0_scratch9 cc0_scratch10 cc0_scratch11 cc0_scratch12 c w₁ w₂ w₃ v w₄) Q) := by
  subst hv
  unfold k0_part11_skel
  simp only [Prog.lift, Prog.bind_op, Prog.bind_ret, Prog.pure_eq_ret]
  iintro ⟨#HR, Hr10, HO, HW, Hout⟩ Hk
  iapply (load_W c (Wc m ρ c)) $$ [$]
  iintro HW
  iapply (gemm_step m ρ c (rel c 1) 0 256 (by decide) (off3_eq c) _ (agrees_256 m ρ c (rel c 1) (Or.inr (Or.inr (Or.inl rfl)))) Ls) $$ [$]
  iintro Hout
  iapply (recvN m ρ K c 10 256 rfl rfl left9 (by decide)) $$ [$]
  iintro ⟨Hp, Hz10, HO⟩
  ihave HC := (show dstPay m ρ 10 c ⊢ ptC c (X m ρ (ptn c)) from .rfl) $$ Hp
  iapply (load_C c (X m ρ (ptn c))) $$ [$]
  iintro HC
  iapply (load_W c (Wc m ρ c)) $$ [$]
  iintro HW
  iapply (ret_step c)
  iapply Hk $$ []
  · ipureintro; rfl
  iframe

/-- The partner's product is stored; copies 2 and 7 land, and at an odd place copy 4 is sent. -/
theorem part12 (w₁ w₂ : BitVec 32) (w₃ : BitVec 1) (w₄ : BitVec 32) (v : S256x256.Idx → Elt F .f32) (hv : v = k0_pay8 (X m ρ (ptn c)) (Wc m ρ c)) (Ls : List (Dev nD × ℕ × ℕ)) {Q : _ → sProp 𝕄} :
    iprop(recs m ρ K ∗ rtok (F := F) 2 c ∗ rtok (F := F) 7 c ∗ (toks 4 c ∗ dstAny (F := F) 4 (rgt c)) ∗ OW c left9 ∗ outP m ρ c Ls)
      ⊢ iprop((∀ r, ⌜r = rows (X m ρ (rel c 6)) 0 128⌝ -∗ (semVal (rcell c 2) 0 ∗ semVal (rcell c 7) 0 ∗ ptF c fq.left (R3 1 0 128) (FW m ρ c) ∗ ptF c fq.right (R3 1 88 128) (FW m ρ c) ∗ ptB c fq.left (R3 1 0 128) (BW m ρ c) ∗ ptB c fq.right (R3 1 0 88) (BW m ρ c) ∗ ptB c fq.right (R3 1 88 128) (BW m ρ c) ∗ mid12 m ρ c ∗ outP m ρ c ((ptn c, 0, 256) :: Ls)) -∗ Q r)
        -∗ WP c (k0_part12_skel (F := F) mX (Memref.isWhole_whole _) mW (Memref.isWhole_whole _) mO (Memref.isWhole_whole _) mFW (Memref.isWhole_whole _) mBW (Memref.isWhole_whole _) mAN (Memref.isWhole_whole _) mCH (Memref.isWhole_whole _) mF1 (Memref.isWhole_whole _) mF2 (Memref.isWhole_whole _) mF3 (Memref.isWhole_whole _) cc0_scratch7 cc0_scratch8 cc0_scratch9 cc0_scratch10 cc0_scratch11 cc0_scratch12 c w₁ w₂ w₃ w₄ v) Q) := by
  subst hv
  unfold k0_part12_skel
  simp only [Prog.lift, Prog.bind_op, Prog.bind_ret, Prog.pure_eq_ret]
  iintro ⟨#HR, Hr2, Hr7, ⟨Hk4, Hd4⟩, HO, Hout⟩ Hk
  iapply (gemm_step m ρ c (ptn c) 0 256 (by decide) (off4_eq c) _ (agrees_256 m ρ c (ptn c) (Or.inr (Or.inr (Or.inr rfl)))) Ls) $$ [$]
  iintro Hout
  iapply (recvN m ρ K c 2 128 rfl rfl left9 (by decide)) $$ [$]
  iintro ⟨Hp, Hz2, HO⟩
  ihave Hp := (Entails.of_eq (got2 m ρ c)) $$ Hp
  icases Hp with ⟨HF, Hf1, Hf2⟩
  cases h : ev c
  · rw [mid12_odd m ρ c h]
    simp only [dif_pos ((cond4_iff c).2 h), Prog.lift, Prog.bind_op, Prog.bind_ret, Prog.pure_eq_ret]
    ihave Hs4 := (Entails.of_eq (piece4_odd m ρ c h)) $$ Hf1
    iapply (send4o m ρ K c _ h (dev17_eq c) rfl rfl left9 left14 (by decide) (by decide)) $$ [$]
    iintro ⟨Hn4, HO⟩
    iapply (recvN m ρ K c 7 128 rfl rfl left14 (by decide)) $$ [$]
    iintro ⟨Hp, Hz7, HO⟩
    ihave Hp := (Entails.of_eq (got7 m ρ c)) $$ Hp
    icases Hp with ⟨HB, Hb1, Hb2⟩
    iapply (load_FW m ρ c 1 0 128 128 (by decide) (by decide) rfl fq.left squeezes_S1x128x2048_S128x2048) $$ [$]
    iintro %u %hu HF
    iapply (ret_step c)
    iapply Hk $$ []
    · ipureintro; exact hu _
    iframe
  · rw [mid12_even m ρ c h]
    simp only [dif_neg (not_odd c (cond4_iff c) h), Prog.lift, Prog.bind_op, Prog.bind_ret, Prog.pure_eq_ret]
    ihave Hv4 := (Entails.of_eq (piece4_even m ρ c h)) $$ Hf1
    iapply (recvN m ρ K c 7 128 rfl rfl left9 (by decide)) $$ [$]
    iintro ⟨Hp, Hz7, HO⟩
    ihave Hp := (Entails.of_eq (got7 m ρ c)) $$ Hp
    icases Hp with ⟨HB, Hb1, Hb2⟩
    iapply (load_FW m ρ c 1 0 128 128 (by decide) (by decide) rfl fq.left squeezes_S1x128x2048_S128x2048) $$ [$]
    iintro %u %hu HF
    iapply (ret_step c)
    iapply Hk $$ []
    · ipureintro; exact hu _
    iframe

/-- The product with the first rows from the second neighbour on the left; the rows from the right are read. -/
theorem part13 (w₁ : BitVec 32) (v : S128x2048.Idx → Elt F .f32) (hv : v = rows (X m ρ (rel c 6)) 0 128) (Ls : List (Dev nD × ℕ × ℕ)) {Q : _ → sProp 𝕄} :
    iprop(ptW c (Wc m ρ c) ∗ ptB c fq.left (R3 1 0 128) (BW m ρ c) ∗ outP m ρ c Ls)
      ⊢ iprop((∀ r, ⌜r.1 = rows (X m ρ (rel c 2)) 0 128⌝ -∗ (ptW c (Wc m ρ c) ∗ ptB c fq.left (R3 1 0 128) (BW m ρ c) ∗ outP m ρ c ((rel c 6, 0, 128) :: Ls)) -∗ Q r)
        -∗ WP c (k0_part13_skel (F := F) mX (Memref.isWhole_whole _) mW (Memref.isWhole_whole _) mO (Memref.isWhole_whole _) mFW (Memref.isWhole_whole _) mBW (Memref.isWhole_whole _) mAN (Memref.isWhole_whole _) mCH (Memref.isWhole_whole _) mF1 (Memref.isWhole_whole _) mF2 (Memref.isWhole_whole _) mF3 (Memref.isWhole_whole _) cc0_scratch7 cc0_scratch8 cc0_scratch9 cc0_scratch10 cc0_scratch11 cc0_scratch12 c w₁ v) Q) := by
  subst hv
  unfold k0_part13_skel
  simp only [Prog.lift, Prog.bind_op, Prog.bind_ret, Prog.pure_eq_ret]
  iintro ⟨HW, HB, Hout⟩ Hk
  iapply (load_W c (Wc m ρ c)) $$ [$]
  iintro HW
  iapply (gemm_step m ρ c (rel c 6) 0 128 (by decide) (off5_eq0 c) _ (agrees_128a m ρ c (rel c 6) (Or.inl rfl)) Ls) $$ [$]
  iintro Hout
  iapply (load_BW m ρ c 1 0 128 128 (by decide) (by decide) rfl fq.left squeezes_S1x128x2048_S128x2048) $$ [$]
  iintro %u %hu HB
  iapply (ret_step c)
  iapply Hk $$ []
  · ipureintro; exact hu _
  iframe

/-- At an even place: the antipode's first half lands, copy 4 is sent from it, and it is multiplied. -/
theorem part1 (h : ev c = true) (w₁ w₂ w₃ : BitVec 32) (hc : k0_cond5 c = 1#1) {Q : _ → sProp 𝕄} :
    iprop(recs m ρ K ∗ rtok (F := F) 11 c ∗ (toks 4 c ∗ dstAny (F := F) 4 (rgt c)) ∗ OW c left9 ∗ ptW c (Wc m ρ c))
      ⊢ iprop((∀ r, ⌜r.2 = blk128 (rows (X m ρ (rel c 4)) 0 128) (Wc m ρ c)⌝ -∗ (semVal (rcell c 11) 0 ∗ sent 4 c ∗ ptA c fq.left (R2 0 128) (X m ρ (rel c 4)) ∗ ptA c fq.right (R2 88 128) (X m ρ (rel c 4)) ∗ OW c left14 ∗ ptW c (Wc m ρ c)) -∗ Q r)
        -∗ WP c (k0_part1 (F := F) mX (Memref.isWhole_whole _) mW (Memref.isWhole_whole _) mO (Memref.isWhole_whole _) mFW (Memref.isWhole_whole _) mBW (Memref.isWhole_whole _) mAN (Memref.isWhole_whole _) mCH (Memref.isWhole_whole _) mF1 (Memref.isWhole_whole _) mF2 (Memref.isWhole_whole _) mF3 (Memref.isWhole_whole _) cc0_scratch7 cc0_scratch8 cc0_scratch9 cc0_scratch10 cc0_scratch11 cc0_scratch12 c w₁ w₂ w₃ hc) Q) := by
  rw [k0_part1_eq_skeleton]
  unfold k0_part1_skel
  simp only [Prog.lift, Prog.bind_op, Prog.bind_ret, Prog.pure_eq_ret]
  iintro ⟨#HR, Hr11, ⟨Hk4, Hd4⟩, HO, HW⟩ Hk
  iapply (recvN m ρ K c 11 128 rfl rfl left9 (by decide)) $$ [$]
  iintro ⟨Hp, Hz11, HO⟩
  ihave Hp := (Entails.of_eq (got11 m ρ c)) $$ Hp
  icases Hp with ⟨HA, Ha1, Ha2⟩
  ihave Hs4 := (Entails.of_eq (show ptA c fq.right (R2 0 88) (X m ρ (rel c 4)) = srcPay m ρ 4 c from (if_pos h).symm)) $$ Ha1
  iapply (send4e m ρ K c _ h (dev18_eq c) rfl rfl left9 left14 (by decide) (by decide)) $$ [$]
  iintro ⟨Hn4, HO⟩
  iapply (load_A c 0 128 (by decide) _ fq.left (X m ρ (rel c 4))) $$ HA
  iintro HA
  iapply (load_W c (Wc m ρ c)) $$ [$]
  iintro HW
  iapply (ret_step c)
  iapply Hk $$ []
  · ipureintro; rfl
  ihave HA := (show ptA c fq.left (R2 0 (0 + 128)) (X m ρ (rel c 4)) ⊢ ptA c fq.left (R2 0 128) (X m ρ (rel c 4)) from .rfl) $$ HA
  iframe

/-- At an odd place: the antipode's second half lands, copy 9 is sent from it, and it is multiplied. -/
theorem part2 (h : ev c = false) (w₁ w₂ w₃ : BitVec 32) (hc : k0_cond6 c = 1#1) {Q : _ → sProp 𝕄} :
    iprop(recs m ρ K ∗ rtok (F := F) 12 c ∗ (toks 9 c ∗ dstAny (F := F) 9 (lft c)) ∗ OW c left14 ∗ ptW c (Wc m ρ c))
      ⊢ iprop((∀ r, ⌜r.2 = blk128 (rows (X m ρ (rel c 4)) 128 128) (Wc m ρ c)⌝ -∗ (semVal (rcell c 12) 0 ∗ sent 9 c ∗ ptA c fq.left (R2 128 256) (X m ρ (rel c 4)) ∗ ptA c fq.right (R2 128 168) (X m ρ (rel c 4)) ∗ OW c left15 ∗ ptW c (Wc m ρ c)) -∗ Q r)
        -∗ WP c (k0_part2 (F := F) mX (Memref.isWhole_whole _) mW (Memref.isWhole_whole _) mO (Memref.isWhole_whole _) mFW (Memref.isWhole_whole _) mBW (Memref.isWhole_whole _) mAN (Memref.isWhole_whole _) mCH (Memref.isWhole_whole _) mF1 (Memref.isWhole_whole _) mF2 (Memref.isWhole_whole _) mF3 (Memref.isWhole_whole _) cc0_scratch7 cc0_scratch8 cc0_scratch9 cc0_scratch10 cc0_scratch11 cc0_scratch12 c w₁ w₂ w₃ hc) Q) := by
  rw [k0_part2_eq_skeleton]
  unfold k0_part2_skel
  simp only [Prog.lift, Prog.bind_op, Prog.bind_ret, Prog.pure_eq_ret]
  iintro ⟨#HR, Hr12, ⟨Hk9, Hd9⟩, HO, HW⟩ Hk
  iapply (recvN m ρ K c 12 128 rfl rfl left14 (by decide)) $$ [$]
  iintro ⟨Hp, Hz12, HO⟩
  ihave Hp := (Entails.of_eq (got12 m ρ c)) $$ Hp
  icases Hp with ⟨HA, Ha1, Ha2⟩
  ihave Hs9 := (Entails.of_eq (show ptA c fq.right (R2 168 256) (X m ρ (rel c 4)) = srcPay m ρ 9 c from (odd_if c h).symm)) $$ Ha2
  iapply (send9o m ρ K c _ h (dev19_eq c) rfl rfl left14 left15 (by decide) (by decide)) $$ [$]
  iintro ⟨Hn9, HO⟩
  iapply (load_A c 128 128 (by decide) _ fq.left (X m ρ (rel c 4))) $$ HA
  iintro HA
  iapply (load_W c (Wc m ρ c)) $$ [$]
  iintro HW
  iapply (ret_step c)
  iapply Hk $$ []
  · ipureintro; rfl
  ihave HA := (show ptA c fq.left (R2 128 (128 + 128)) (X m ρ (rel c 4)) ⊢ ptA c fq.left (R2 128 256) (X m ρ (rel c 4)) from .rfl) $$ HA
  iframe

/-- The product with the first rows from the second neighbour on the right, and with the half of the antipode's block that came first; copy 3 lands. -/
theorem part14 (w₁ w₂ w₃ : BitVec 32) (w₄ w₅ : BitVec 1) (w₆ : BitVec 32) (v : S128x2048.Idx → Elt F .f32) (hv : v = rows (X m ρ (rel c 2)) 0 128) (w₇ w₈ : BitVec 32) (w₉ : BitVec 1) (Ls : List (Dev nD × ℕ × ℕ)) {Q : _ → sProp 𝕄} :
    iprop(recs m ρ K ∗ rtok (F := F) 3 c ∗ rtok (F := F) 11 c ∗ rtok (F := F) 12 c ∗ (toks 9 c ∗ dstAny (F := F) 9 (lft c)) ∗ mid12 m ρ c ∗ ptW c (Wc m ρ c) ∗ outP m ρ c Ls)
      ⊢ iprop((∀ r, (semVal (rcell c 3) 0 ∗ sent 4 c ∗ ptF c fq.left (R3 1 128 256) (FW m ρ c) ∗ ptF c fq.right (R3 1 128 168) (FW m ρ c) ∗ ptF c fq.right (R3 1 168 256) (FW m ρ c) ∗ mid14 m ρ c ∗ ptW c (Wc m ρ c) ∗ outP m ρ c (fst4 c :: ((rel c 2, 0, 128) :: Ls))) -∗ Q r)
        -∗ WP c (k0_part14_skel (F := F) mX (Memref.isWhole_whole _) mW (Memref.isWhole_whole _) mO (Memref.isWhole_whole _) mFW (Memref.isWhole_whole _) mBW (Memref.isWhole_whole _) mAN (Memref.isWhole_whole _) mCH (Memref.isWhole_whole _) mF1 (Memref.isWhole_whole _) mF2 (Memref.isWhole_whole _) mF3 (Memref.isWhole_whole _) cc0_scratch7 cc0_scratch8 cc0_scratch9 cc0_scratch10 cc0_scratch11 cc0_scratch12 c w₁ w₂ w₃ w₄ w₅ w₆ v w₇ w₈ w₉) Q) := by
  subst hv
  unfold k0_part14_skel
  simp only [Prog.lift, Prog.bind_op, Prog.bind_ret, Prog.pure_eq_ret]
  cases h : ev c
  · rw [mid14_odd m ρ c h, fst4_odd c h, mid12_odd m ρ c h]
    simp only [dif_pos ((cond6_iff c).2 h), dif_neg (not_even c (cond5_iff c) h), Prog.lift, Prog.bind_op, Prog.bind_ret, Prog.pure_eq_ret]
    iintro ⟨#HR, Hr3, Hr11, Hr12, Hkd9, ⟨Hn4, HO⟩, HW, Hout⟩ Hk
    iapply (load_W c (Wc m ρ c)) $$ [$]
    iintro HW
    iapply (gemm_step m ρ c (rel c 2) 0 128 (by decide) (off6_eq0 c) _ (agrees_128a m ρ c (rel c 2) (Or.inr (Or.inl rfl))) Ls) $$ [$]
    iintro Hout
    iapply (bind_step c)
    iapply (part2 m ρ K c h _ _ _ _) $$ [$]
    iintro %r %hr ⟨Hza, Hn, HA, Ha2, HO, HW⟩
    iapply (gemm_step m ρ c (rel c 4) 128 128 (by decide) (off8_eq c) _ ((congrArg (Agrees m ρ c (rel c 4) 128 128) hr).mpr (agrees_128b m ρ c (rel c 4) (Or.inr (Or.inr rfl)))) _) $$ [$]
    iintro Hout
    iapply (recvN m ρ K c 3 128 rfl rfl left15 (by decide)) $$ [$]
    iintro ⟨Hp, Hz3, HO⟩
    ihave Hp := (Entails.of_eq (got3 m ρ c)) $$ Hp
    icases Hp with ⟨HF, Hf1, Hf2⟩
    iapply (ret_step c)
    iapply Hk
    iframe
  · rw [mid14_even m ρ c h, fst4_even c h, mid12_even m ρ c h]
    simp only [dif_neg (not_odd c (cond6_iff c) h), dif_pos ((cond5_iff c).2 h), Prog.lift, Prog.bind_op, Prog.bind_ret, Prog.pure_eq_ret]
    iintro ⟨#HR, Hr3, Hr11, Hr12, Hkd9, ⟨Hk4, Hd4, Hv4, HO⟩, HW, Hout⟩ Hk
    iapply (load_W c (Wc m ρ c)) $$ [$]
    iintro HW
    iapply (gemm_step m ρ c (rel c 2) 0 128 (by decide) (off6_eq0 c) _ (agrees_128a m ρ c (rel c 2) (Or.inr (Or.inl rfl))) Ls) $$ [$]
    iintro Hout
    iapply (bind_step c)
    iapply (part1 m ρ K c h _ _ _ _) $$ [$]
    iintro %r %hr ⟨Hza, Hn, HA, Ha2, HO, HW⟩
    iapply (gemm_step m ρ c (rel c 4) 0 128 (by decide) (off7_eq c) _ ((congrArg (Agrees m ρ c (rel c 4) 0 128) hr).mpr (agrees_128a m ρ c (rel c 4) (Or.inr (Or.inr rfl)))) _) $$ [$]
    iintro Hout
    iapply (recvN m ρ K c 3 128 rfl rfl left14 (by decide)) $$ [$]
    iintro ⟨Hp, Hz3, HO⟩
    ihave Hp := (Entails.of_eq (got3 m ρ c)) $$ Hp
    icases Hp with ⟨HF, Hf1, Hf2⟩
    iapply (ret_step c)
    iapply Hk
    iframe

/-- Copy 8 lands; the last sends, of copies 9 and 13, are made. -/
theorem part15 (w₁ w₂ : BitVec 32) (w₃ w₄ : BitVec 1) (w₅ : BitVec 32) {Q : _ → sProp 𝕄} :
    iprop(recs m ρ K ∗ rtok (F := F) 8 c ∗ (toks 13 c ∗ dstAny (F := F) 13 (ptn c)) ∗ mid14 m ρ c ∗ ptF c fq.left (R3 1 0 128) (FW m ρ c) ∗ ptF c fq.left (R3 1 128 256) (FW m ρ c) ∗ ptF c fq.right (R3 1 88 128) (FW m ρ c) ∗ ptF c fq.right (R3 1 128 168) (FW m ρ c) ∗ ptB c fq.left (R3 1 0 128) (BW m ρ c) ∗ ptB c fq.right (R3 1 88 128) (BW m ρ c))
      ⊢ iprop((∀ r, ⌜r.1 = rows (X m ρ (rel c 6)) 128 128⌝ -∗ (semVal (rcell c 8) 0 ∗ sent 9 c ∗ sent 13 c ∗ spr m ρ 13 c ∗ ptF c fq.left (R3 1 0 128) (FW m ρ c) ∗ ptF c fq.left (R3 1 128 256) (FW m ρ c) ∗ ptB c fq.left (R3 1 0 128) (BW m ρ c) ∗ ptB c fq.left (R3 1 128 256) (BW m ρ c) ∗ mid15 m ρ c ∗ OW c left0) -∗ Q r)
        -∗ WP c (k0_part15_skel (F := F) mX (Memref.isWhole_whole _) mW (Memref.isWhole_whole _) mO (Memref.isWhole_whole _) mFW (Memref.isWhole_whole _) mBW (Memref.isWhole_whole _) mAN (Memref.isWhole_whole _) mCH (Memref.isWhole_whole _) mF1 (Memref.isWhole_whole _) mF2 (Memref.isWhole_whole _) mF3 (Memref.isWhole_whole _) cc0_scratch7 cc0_scratch8 cc0_scratch9 cc0_scratch10 cc0_scratch11 cc0_scratch12 c w₁ w₂ w₃ w₄ w₅) Q) := by
  unfold k0_part15_skel
  simp only [Prog.lift, Prog.bind_op, Prog.bind_ret, Prog.pure_eq_ret]
  cases h : ev c
  · rw [mid14_odd m ρ c h, mid15_odd m ρ c h]
    simp only [dif_pos ((cond8_iff c).2 h), dif_neg (not_even c (cond7_iff c) h), Prog.lift, Prog.bind_op, Prog.bind_ret, Prog.pure_eq_ret]
    iintro ⟨#HR, Hr8, ⟨Hk13, Hd13⟩, ⟨Hn9, HA, Ha, Hza, Hra, HO⟩, HF, HF', Hf2, Hf3, HB, Hb2⟩ Hk
    iapply (recvN m ρ K c 8 128 rfl rfl left15 (by decide)) $$ [$]
    iintro ⟨Hp, Hz8, HO⟩
    ihave Hp := (Entails.of_eq (got8 m ρ c)) $$ Hp
    icases Hp with ⟨HB', Hb3, Hb4⟩
    ihave Hf := (Entails.of_eq (rowsF c fq.right 1 88 128 168 (by decide) (by decide) (FW m ρ c)).symm) $$ [$Hf2 $Hf3]
    ihave Hb := (Entails.of_eq (rowsB c fq.right 1 88 128 168 (by decide) (by decide) (BW m ρ c)).symm) $$ [$Hb2 $Hb3]
    ihave Hb13 := (both13 m ρ c).1 $$ [$Hf $Hb]
    icases Hb13 with ⟨Hs13, Hv13⟩
    ihave Hv9 := (Entails.of_eq (show ptB c fq.right (R3 1 168 256) (BW m ρ c) = spr m ρ 9 c from (odd_if c h).symm)) $$ Hb4
    iapply (send13o m ρ K c _ h (dev22_eq c) rfl rfl left15 left0 (by decide) (by decide)) $$ [$]
    iintro ⟨Hn13, HO⟩
    iapply (load_FW m ρ c 1 128 128 256 (by decide) (by decide) rfl fq.left squeezes_S1x128x2048_S128x2048) $$ [$]
    iintro %u %hu HF'
    iapply (ret_step c)
    iapply Hk $$ []
    · ipureintro; exact hu _
    iframe
  · rw [mid14_even m ρ c h, mid15_even m ρ c h]
    simp only [dif_neg (not_odd c (cond8_iff c) h), dif_pos ((cond7_iff c).2 h), Prog.lift, Prog.bind_op, Prog.bind_ret, Prog.pure_eq_ret]
    iintro ⟨#HR, Hr8, ⟨Hk13, Hd13⟩, ⟨⟨Hk9, Hd9⟩, Hv4, HA, Ha, Hza, Hra, HO⟩, HF, HF', Hf2, Hf3, HB, Hb2⟩ Hk
    iapply (recvN m ρ K c 8 128 rfl rfl left14 (by decide)) $$ [$]
    iintro ⟨Hp, Hz8, HO⟩
    ihave Hp := (Entails.of_eq (got8 m ρ c)) $$ Hp
    icases Hp with ⟨HB', Hb3, Hb4⟩
    ihave Hf := (Entails.of_eq (rowsF c fq.right 1 88 128 168 (by decide) (by decide) (FW m ρ c)).symm) $$ [$Hf2 $Hf3]
    ihave Hb := (Entails.of_eq (rowsB c fq.right 1 88 128 168 (by decide) (by decide) (BW m ρ c)).symm) $$ [$Hb2 $Hb3]
    ihave Hb13 := (both13 m ρ c).1 $$ [$Hf $Hb]
    icases Hb13 with ⟨Hs13, Hv13⟩
    ihave Hs9 := (Entails.of_eq (show ptB c fq.right (R3 1 168 256) (BW m ρ c) = srcPay m ρ 9 c from (if_pos h).symm)) $$ Hb4
    iapply (send9e m ρ K c _ h (dev20_eq c) rfl rfl left14 left15 (by decide) (by decide)) $$ [$]
    iintro ⟨Hn9, HO⟩
    iapply (send13e m ρ K c _ h (dev21_eq c) rfl rfl left15 left0 (by decide) (by decide)) $$ [$]
    iintro ⟨Hn13, HO⟩
    iapply (load_FW m ρ c 1 128 128 256 (by decide) (by decide) rfl fq.left squeezes_S1x128x2048_S128x2048) $$ [$]
    iintro %u %hu HF'
    iapply (ret_step c)
    iapply Hk $$ []
    · ipureintro; exact hu _
    iframe

/-- The product with the last rows from the second neighbour on the left; those from the right are read and multiplied. -/
theorem part16 (w₁ : BitVec 32) (v : S128x2048.Idx → Elt F .f32) (hv : v = rows (X m ρ (rel c 6)) 128 128) (w₂ w₃ : BitVec 32) (Ls : List (Dev nD × ℕ × ℕ)) {Q : _ → sProp 𝕄} :
    iprop(ptW c (Wc m ρ c) ∗ ptB c fq.left (R3 1 128 256) (BW m ρ c) ∗ outP m ρ c Ls)
      ⊢ iprop((∀ r, ⌜r.1 = blk128 (rows (X m ρ (rel c 2)) 128 128) (Wc m ρ c)⌝ -∗ (ptW c (Wc m ρ c) ∗ ptB c fq.left (R3 1 128 256) (BW m ρ c) ∗ outP m ρ c ((rel c 6, 128, 128) :: Ls)) -∗ Q r)
        -∗ WP c (k0_part16_skel (F := F) mX (Memref.isWhole_whole _) mW (Memref.isWhole_whole _) mO (Memref.isWhole_whole _) mFW (Memref.isWhole_whole _) mBW (Memref.isWhole_whole _) mAN (Memref.isWhole_whole _) mCH (Memref.isWhole_whole _) mF1 (Memref.isWhole_whole _) mF2 (Memref.isWhole_whole _) mF3 (Memref.isWhole_whole _) cc0_scratch7 cc0_scratch8 cc0_scratch9 cc0_scratch10 cc0_scratch11 cc0_scratch12 c w₁ v w₂ w₃) Q) := by
  subst hv
  unfold k0_part16_skel
  simp only [Prog.lift, Prog.bind_op, Prog.bind_ret, Prog.pure_eq_ret]
  iintro ⟨HW, HB, Hout⟩ Hk
  iapply (load_W c (Wc m ρ c)) $$ [$]
  iintro HW
  iapply (gemm_step m ρ c (rel c 6) 128 128 (by decide) (off5_eq1 c) _ (agrees_128b m ρ c (rel c 6) (Or.inl rfl)) Ls) $$ [$]
  iintro Hout
  iapply (load_BW m ρ c 1 128 128 256 (by decide) (by decide) rfl fq.left squeezes_S1x128x2048_S128x2048) $$ [$]
  iintro %u %hu HB
  iapply (load_W c (Wc m ρ c)) $$ [$]
  iintro HW
  iapply (ret_step c)
  iapply Hk $$ []
  · ipureintro; exact congrArg (fun z => blk128 z (Wc m ρ c)) (hu _)
  iframe

/-- The last rows from the right are stored; the other half of the antipode's block lands and is multiplied; copy 4 lands. -/
theorem part17 (w₁ w₂ : BitVec 32) (w₃ w₄ : BitVec 1) (w₅ : BitVec 32) (v : S128x256.Idx → Elt F .f32) (hv : v = blk128 (rows (X m ρ (rel c 2)) 128 128) (Wc m ρ c)) (w₆ : BitVec 32) (Ls : List (Dev nD × ℕ × ℕ)) {Q : _ → sProp 𝕄} :
    iprop(recs m ρ K ∗ rtok (F := F) 4 c ∗ mid15 m ρ c ∗ OW c left0 ∗ ptW c (Wc m ρ c) ∗ outP m ρ c Ls)
      ⊢ iprop((∀ r, (semVal (rcell c 11) 0 ∗ semVal (rcell c 12) 0 ∗ semVal (rcell c 4) 0 ∗ spr m ρ 4 c ∗ spr m ρ 9 c ∗ ptA c fq.left (R2 0 256) (X m ρ (rel c 4)) ∗ ptA c fq.right (R2 88 168) (X m ρ (rel c 4)) ∗ pt1 c (F1 m ρ c) ∗ OW c left0 ∗ ptW c (Wc m ρ c) ∗ outP m ρ c (snd4 c :: ((rel c 2, 128, 128) :: Ls))) -∗ Q r)
        -∗ WP c (k0_part17_skel (F := F) mX (Memref.isWhole_whole _) mW (Memref.isWhole_whole _) mO (Memref.isWhole_whole _) mFW (Memref.isWhole_whole _) mBW (Memref.isWhole_whole _) mAN (Memref.isWhole_whole _) mCH (Memref.isWhole_whole _) mF1 (Memref.isWhole_whole _) mF2 (Memref.isWhole_whole _) mF3 (Memref.isWhole_whole _) cc0_scratch7 cc0_scratch8 cc0_scratch9 cc0_scratch10 cc0_scratch11 cc0_scratch12 c w₁ w₂ w₃ w₄ w₅ v w₆) Q) := by
  subst hv
  unfold k0_part17_skel
  simp only [Prog.lift, Prog.bind_op, Prog.bind_ret, Prog.pure_eq_ret]
  cases h : ev c
  · rw [mid15_odd m ρ c h, snd4_odd c h]
    simp only [dif_pos ((cond10_iff c).2 h), dif_neg (not_even c (cond9_iff c) h), Prog.lift, Prog.bind_op, Prog.bind_ret, Prog.pure_eq_ret]
    iintro ⟨#HR, Hr4, ⟨Hv9, HA, Ha, Hza, Hrb⟩, HO, HW, Hout⟩ Hk
    iapply (gemm_step m ρ c (rel c 2) 128 128 (by decide) (off6_eq1 c) _ (agrees_128b m ρ c (rel c 2) (Or.inr (Or.inl rfl))) Ls) $$ [$]
    iintro Hout
    iapply (recvN m ρ K c 11 128 rfl rfl left0 (by decide)) $$ [$]
    iintro ⟨Hp, Hzb, HO⟩
    ihave Hp := (Entails.of_eq (got11 m ρ c)) $$ Hp
    icases Hp with ⟨HA', Ha1, Ha2⟩
    iapply (load_A c 0 128 (by decide) _ fq.left (X m ρ (rel c 4))) $$ HA'
    iintro HA'
    ihave HA' := (show ptA c fq.left (R2 0 (0 + 128)) (X m ρ (rel c 4)) ⊢ ptA c fq.left (R2 0 128) (X m ρ (rel c 4)) from .rfl) $$ HA'
    iapply (load_W c (Wc m ρ c)) $$ [$]
    iintro HW
    iapply (gemm_step m ρ c (rel c 4) 0 128 (by decide) (off10_eq c) _ (agrees_128a m ρ c (rel c 4) (Or.inr (Or.inr rfl))) _) $$ [$]
    iintro Hout
    iapply (recvN m ρ K c 4 88 rfl rfl left0 (by decide)) $$ [$]
    iintro ⟨Hp, Hz4, HO⟩
    ihave H1 := (show dstPay m ρ 4 c ⊢ pt1 c (F1 m ρ c) from .rfl) $$ Hp
    ihave HA := (Entails.of_eq (rowsA c fq.left 0 128 256 (by decide) (by decide) (X m ρ (rel c 4))).symm) $$ [$HA' $HA]
    ihave Ha := (Entails.of_eq (rowsA c fq.right 88 128 168 (by decide) (by decide) (X m ρ (rel c 4))).symm) $$ [$Ha2 $Ha]
    ihave Hv4 := (Entails.of_eq (show ptA c fq.right (R2 0 88) (X m ρ (rel c 4)) = spr m ρ 4 c from (odd_if c h).symm)) $$ Ha1
    iapply (ret_step c)
    iapply Hk
    iframe
  · rw [mid15_even m ρ c h, snd4_even c h]
    simp only [dif_neg (not_odd c (cond10_iff c) h), dif_pos ((cond9_iff c).2 h), Prog.lift, Prog.bind_op, Prog.bind_ret, Prog.pure_eq_ret]
    iintro ⟨#HR, Hr4, ⟨Hv4, HA, Ha, Hza, Hrb⟩, HO, HW, Hout⟩ Hk
    iapply (gemm_step m ρ c (rel c 2) 128 128 (by decide) (off6_eq1 c) _ (agrees_128b m ρ c (rel c 2) (Or.inr (Or.inl rfl))) Ls) $$ [$]
    iintro Hout
    iapply (recvN m ρ K c 12 128 rfl rfl left0 (by decide)) $$ [$]
    iintro ⟨Hp, Hzb, HO⟩
    ihave Hp := (Entails.of_eq (got12 m ρ c)) $$ Hp
    icases Hp with ⟨HA', Ha1, Ha2⟩
    iapply (load_A c 128 128 (by decide) _ fq.left (X m ρ (rel c 4))) $$ HA'
    iintro HA'
    ihave HA' := (show ptA c fq.left (R2 128 (128 + 128)) (X m ρ (rel c 4)) ⊢ ptA c fq.left (R2 128 256) (X m ρ (rel c 4)) from .rfl) $$ HA'
    iapply (load_W c (Wc m ρ c)) $$ [$]
    iintro HW
    iapply (gemm_step m ρ c (rel c 4) 128 128 (by decide) (off9_eq c) _ (agrees_128b m ρ c (rel c 4) (Or.inr (Or.inr rfl))) _) $$ [$]
    iintro Hout
    iapply (recvN m ρ K c 4 88 rfl rfl left0 (by decide)) $$ [$]
    iintro ⟨Hp, Hz4, HO⟩
    ihave H1 := (show dstPay m ρ 4 c ⊢ pt1 c (F1 m ρ c) from .rfl) $$ Hp
    ihave HA := (Entails.of_eq (rowsA c fq.left 0 128 256 (by decide) (by decide) (X m ρ (rel c 4))).symm) $$ [$HA $HA']
    ihave Ha := (Entails.of_eq (rowsA c fq.right 88 128 168 (by decide) (by decide) (X m ρ (rel c 4))).symm) $$ [$Ha $Ha1]
    ihave Hv9 := (Entails.of_eq (show ptA c fq.right (R2 168 256) (X m ρ (rel c 4)) = spr m ρ 9 c from (if_pos h).symm)) $$ Ha2
    iapply (ret_step c)
    iapply Hk
    iframe

end Parts

end Cert.RingProof

end
-- ==== Proof.Part21.lean ====
/-
# The body, from the far pieces to the last wait
-/
module

public import proofs.«01_k».proof.Proof.Part17

@[expose] public section

noncomputable section

namespace Cert.RingProof

open Cert.KernelIdeal Cert.KernelIdeal.Gen
open Idealize.ShloMosaic
open Idealize.ShloMosaic.TcCoe Idealize.ShloMosaic.RefSig
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)
section Parts
variable (K : Dev nD × Ci → ℕ) (c : Dev nD)

/-- The product with the far block's first rows; copy 13 lands and is multiplied. -/
theorem part18 (w₁ w₂ w₃ : BitVec 32) (Ls : List (Dev nD × ℕ × ℕ)) {Q : _ → sProp 𝕄} :
    iprop(recs m ρ K ∗ rtok (F := F) 13 c ∗ pt1 c (F1 m ρ c) ∗ OW c left0 ∗ ptW c (Wc m ρ c) ∗ outP m ρ c Ls)
      ⊢ iprop((∀ r, (semVal (rcell c 13) 0 ∗ pt1 c (F1 m ρ c) ∗ pt2 c (F2 m ρ c) ∗ OW c left0 ∗ ptW c (Wc m ρ c) ∗ outP m ρ c ((far c, 88, 80) :: ((far c, 0, 88) :: Ls))) -∗ Q r)
        -∗ WP c (k0_part18_skel (F := F) mX (Memref.isWhole_whole _) mW (Memref.isWhole_whole _) mO (Memref.isWhole_whole _) mFW (Memref.isWhole_whole _) mBW (Memref.isWhole_whole _) mAN (Memref.isWhole_whole _) mCH (Memref.isWhole_whole _) mF1 (Memref.isWhole_whole _) mF2 (Memref.isWhole_whole _) mF3 (Memref.isWhole_whole _) cc0_scratch7 cc0_scratch8 cc0_scratch9 cc0_scratch10 cc0_scratch11 cc0_scratch12 c w₁ w₂ w₃) Q) := by
  unfold k0_part18_skel
  simp only [Prog.lift, Prog.bind_op, Prog.bind_ret, Prog.pure_eq_ret]
  iintro ⟨#HR, Hr13, H1, HO, HW, Hout⟩ Hk
  iapply (load_1 c (F1 m ρ c)) $$ [$]
  iintro H1
  iapply (load_W c (Wc m ρ c)) $$ [$]
  iintro HW
  iapply (gemm_step m ρ c (far c) 0 88 (by decide) (off11_eq0 c) _ (agrees_88a m ρ c) Ls) $$ [$]
  iintro Hout
  iapply (recvN m ρ K c 13 80 rfl rfl left0 (by decide)) $$ [$]
  iintro ⟨Hp, Hz13, HO⟩
  ihave H2 := (show dstPay m ρ 13 c ⊢ pt2 c (F2 m ρ c) from .rfl) $$ Hp
  iapply (load_2 c (F2 m ρ c)) $$ [$]
  iintro H2
  iapply (load_W c (Wc m ρ c)) $$ [$]
  iintro HW
  iapply (gemm_step m ρ c (far c) 88 80 (by decide) (off12_eq c) _ (agrees_80 m ρ c) _) $$ [$]
  iintro Hout
  iapply (ret_step c)
  iapply Hk
  iframe

/-- Copy 9 lands and is multiplied; copies 0 and 1 have left. -/
theorem part19 (w₁ : BitVec 32) (Ls : List (Dev nD × ℕ × ℕ)) {Q : _ → sProp 𝕄} :
    iprop(recs m ρ K ∗ rtok (F := F) 9 c ∗ sent 0 c ∗ sent 1 c ∗ OW c left0 ∗ ptW c (Wc m ρ c) ∗ outP m ρ c Ls)
      ⊢ iprop((∀ r, (semVal (rcell c 9) 0 ∗ pt3 c (F3 m ρ c) ∗ (srcPay m ρ 0 c ∗ semVal (scell c 0) 0) ∗ (srcPay m ρ 1 c ∗ semVal (scell c 1) 0) ∗ OW c left0 ∗ ptW c (Wc m ρ c) ∗ outP m ρ c ((far c, 168, 88) :: Ls)) -∗ Q r)
        -∗ WP c (k0_part19_skel (F := F) mX (Memref.isWhole_whole _) mW (Memref.isWhole_whole _) mO (Memref.isWhole_whole _) mFW (Memref.isWhole_whole _) mBW (Memref.isWhole_whole _) mAN (Memref.isWhole_whole _) mCH (Memref.isWhole_whole _) mF1 (Memref.isWhole_whole _) mF2 (Memref.isWhole_whole _) mF3 (Memref.isWhole_whole _) cc0_scratch7 cc0_scratch8 cc0_scratch9 cc0_scratch10 cc0_scratch11 cc0_scratch12 c w₁) Q) := by
  unfold k0_part19_skel
  simp only [Prog.lift, Prog.bind_op, Prog.bind_ret, Prog.pure_eq_ret]
  iintro ⟨#HR, Hr9, Hn0, Hn1, HO, HW, Hout⟩ Hk
  iapply (recvN m ρ K c 9 88 rfl rfl left0 (by decide)) $$ [$]
  iintro ⟨Hp, Hz9, HO⟩
  ihave H3 := (show dstPay m ρ 9 c ⊢ pt3 c (F3 m ρ c) from .rfl) $$ Hp
  iapply (load_3 c (F3 m ρ c)) $$ [$]
  iintro H3
  iapply (load_W c (Wc m ρ c)) $$ [$]
  iintro HW
  iapply (gemm_step m ρ c (far c) 168 88 (by decide) (off11_eq1 c) _ (agrees_88b m ρ c) _) $$ [$]
  iintro Hout
  iapply (leftN m ρ K c 0 128 rfl rfl left0) $$ [$]
  iintro ⟨Hs0, Hy0, HO⟩
  iapply (leftN m ρ K c 1 128 rfl rfl left0) $$ [$]
  iintro ⟨Hs1, Hy1, HO⟩
  iapply (ret_step c)
  iapply Hk
  iframe

/-- Copies 2, 3, 4, 5 and 6 have left. -/
theorem part20 {Q : _ → sProp 𝕄} :
    iprop(recs m ρ K ∗ sent 2 c ∗ sent 3 c ∗ sent 4 c ∗ sent 5 c ∗ sent 6 c ∗ OW c left0)
      ⊢ iprop((∀ r, ((srcPay m ρ 2 c ∗ semVal (scell c 2) 0) ∗ (srcPay m ρ 3 c ∗ semVal (scell c 3) 0) ∗ (srcPay m ρ 4 c ∗ semVal (scell c 4) 0) ∗ (srcPay m ρ 5 c ∗ semVal (scell c 5) 0) ∗ (srcPay m ρ 6 c ∗ semVal (scell c 6) 0) ∗ OW c left0) -∗ Q r)
        -∗ WP c (k0_part20_skel (F := F) mX (Memref.isWhole_whole _) mW (Memref.isWhole_whole _) mO (Memref.isWhole_whole _) mFW (Memref.isWhole_whole _) mBW (Memref.isWhole_whole _) mAN (Memref.isWhole_whole _) mCH (Memref.isWhole_whole _) mF1 (Memref.isWhole_whole _) mF2 (Memref.isWhole_whole _) mF3 (Memref.isWhole_whole _) cc0_scratch7 cc0_scratch8 cc0_scratch9 cc0_scratch10 cc0_scratch11 cc0_scratch12 ) Q) := by
  unfold k0_part20_skel
  simp only [Prog.lift, Prog.bind_op, Prog.bind_ret, Prog.pure_eq_ret]
  iintro ⟨#HR, Hn2, Hn3, Hn4, Hn5, Hn6, HO⟩ Hk
  iapply (leftN m ρ K c 2 128 rfl rfl left0) $$ [$]
  iintro ⟨Hs2, Hy2, HO⟩
  iapply (leftN m ρ K c 3 128 rfl rfl left0) $$ [$]
  iintro ⟨Hs3, Hy3, HO⟩
  iapply (leftN m ρ K c 4 88 rfl rfl left0) $$ [$]
  iintro ⟨Hs4, Hy4, HO⟩
  iapply (leftN m ρ K c 5 128 rfl rfl left0) $$ [$]
  iintro ⟨Hs5, Hy5, HO⟩
  iapply (leftN m ρ K c 6 128 rfl rfl left0) $$ [$]
  iintro ⟨Hs6, Hy6, HO⟩
  iapply (ret_step c)
  iapply Hk
  iframe

/-- Copies 7, 8, 9 and 10 have left. -/
theorem part21 {Q : _ → sProp 𝕄} :
    iprop(recs m ρ K ∗ sent 7 c ∗ sent 8 c ∗ sent 9 c ∗ sent 10 c ∗ OW c left0)
      ⊢ iprop((∀ r, ((srcPay m ρ 7 c ∗ semVal (scell c 7) 0) ∗ (srcPay m ρ 8 c ∗ semVal (scell c 8) 0) ∗ (srcPay m ρ 9 c ∗ semVal (scell c 9) 0) ∗ (srcPay m ρ 10 c ∗ semVal (scell c 10) 0) ∗ OW c left0) -∗ Q r)
        -∗ WP c (k0_part21_skel (F := F) mX (Memref.isWhole_whole _) mW (Memref.isWhole_whole _) mO (Memref.isWhole_whole _) mFW (Memref.isWhole_whole _) mBW (Memref.isWhole_whole _) mAN (Memref.isWhole_whole _) mCH (Memref.isWhole_whole _) mF1 (Memref.isWhole_whole _) mF2 (Memref.isWhole_whole _) mF3 (Memref.isWhole_whole _) cc0_scratch7 cc0_scratch8 cc0_scratch9 cc0_scratch10 cc0_scratch11 cc0_scratch12 ) Q) := by
  unfold k0_part21_skel
  simp only [Prog.lift, Prog.bind_op, Prog.bind_ret, Prog.pure_eq_ret]
  iintro ⟨#HR, Hn7, Hn8, Hn9, Hn10, HO⟩ Hk
  iapply (leftN m ρ K c 7 128 rfl rfl left0) $$ [$]
  iintro ⟨Hs7, Hy7, HO⟩
  iapply (leftN m ρ K c 8 128 rfl rfl left0) $$ [$]
  iintro ⟨Hs8, Hy8, HO⟩
  iapply (leftN m ρ K c 9 88 rfl rfl left0) $$ [$]
  iintro ⟨Hs9, Hy9, HO⟩
  iapply (leftN m ρ K c 10 256 rfl rfl left0) $$ [$]
  iintro ⟨Hs10, Hy10, HO⟩
  iapply (ret_step c)
  iapply Hk
  iframe

end Parts

end Cert.RingProof

end
-- ==== Proof.Body.lean ====
/-
# The whole body of one device
-/
module

public import proofs.«01_k».proof.Proof.Part21

@[expose] public section

noncomputable section

namespace Cert.RingProof

open Cert.KernelIdeal Cert.KernelIdeal.Gen
open Idealize.ShloMosaic
open Idealize.ShloMosaic.TcCoe Idealize.ShloMosaic.RefSig
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

section Cover
variable (c : Dev nD)

/-- The rows stored by the whole body, the last first. -/
abbrev allSegs : List (Dev nD × ℕ × ℕ) :=
  [(far c, 168, 88), (far c, 88, 80), (far c, 0, 88), snd4 c, (rel c 2, 128, 128), (rel c 6, 128, 128), fst4 c, (rel c 2, 0, 128), (rel c 6, 0, 128),
    (ptn c, 0, 256), (rel c 1, 0, 256), (rel c 7, 0, 256), (c, 0, 256)]

/-- Every device is one of the eight named from `c`. -/
theorem eight (c o : Dev nD) : o = far c ∨ o = rel c 4 ∨ o = rel c 2 ∨ o = rel c 6 ∨ o = ptn c ∨ o = rel c 1 ∨ o = rel c 7 ∨ o = c := by
  revert c o; decide

/-- The first half of the block four places on is among the rows stored. -/
theorem mem4a : (rel c 4, 0, 128) ∈ allSegs c := by
  cases h : ev c
  · have := snd4_odd c h; simp [allSegs, this]
  · have := fst4_even c h; simp [allSegs, this]
/-- The second half of the block four places on is among the rows stored. -/
theorem mem4b : (rel c 4, 128, 128) ∈ allSegs c := by
  cases h : ev c
  · have := fst4_odd c h; simp [allSegs, this]
  · have := snd4_even c h; simp [allSegs, this]

/-- The stored rows are all the rows. -/
theorem cover (i : S2048x256.Idx) : ∃ s ∈ allSegs c, inSeg s i := by
  have hi : (i 0).val < 2048 := (i 0).isLt
  have ho : (i 0).val / 256 < 8 := by omega
  have key : ∀ (o : Dev nD) (a n : ℕ), (o, a, n) ∈ allSegs c → (⟨(i 0).val / 256, ho⟩ : Dev nD) = o → a ≤ (i 0).val % 256 → (i 0).val % 256 < a + n →
      ∃ s ∈ allSegs c, inSeg s i := fun o a n hm he h1 h2 => ⟨(o, a, n), hm, by
    have hv : (i 0).val / 256 = o.val := congrArg Fin.val he
    constructor
    · show 256 * o.val + a ≤ (i 0).val; omega
    · show (i 0).val < 256 * o.val + a + n; omega⟩
  rcases eight c ⟨(i 0).val / 256, ho⟩ with h | h | h | h | h | h | h | h
  · by_cases h1 : (i 0).val % 256 < 88
    · exact key _ 0 88 (by simp [allSegs]) h (Nat.zero_le _) (by omega)
    · by_cases h2 : (i 0).val % 256 < 168
      · exact key _ 88 80 (by simp [allSegs]) h (by omega) (by omega)
      · exact key _ 168 88 (by simp [allSegs]) h (by omega) (by omega)
  · by_cases h1 : (i 0).val % 256 < 128
    · exact key _ 0 128 (mem4a c) h (Nat.zero_le _) (by omega)
    · exact key _ 128 128 (mem4b c) h (by omega) (by omega)
  · by_cases h1 : (i 0).val % 256 < 128
    · exact key _ 0 128 (by simp [allSegs]) h (Nat.zero_le _) (by omega)
    · exact key _ 128 128 (by simp [allSegs]) h (by omega) (by omega)
  · by_cases h1 : (i 0).val % 256 < 128
    · exact key _ 0 128 (by simp [allSegs]) h (Nat.zero_le _) (by omega)
    · exact key _ 128 128 (by simp [allSegs]) h (by omega) (by omega)
  all_goals exact key _ 0 256 (by simp [allSegs]) h (Nat.zero_le _) (by omega)

/-- Once every row is stored, the result window holds the result. -/
theorem out_full : outP m ρ c (allSegs c) ⊢ (((c : Thread nD τ).loc cc0_stg2_0) ↦{fq} OUT m ρ c : sProp 𝕄) := by
  unfold outP
  iintro ⟨%f, %hf, H⟩
  have he : f = OUT m ρ c := funext fun i => by
    obtain ⟨s, hs, hi⟩ := cover c i
    exact hf s hs i hi
  rw [he]
  iexact H
end Cover

section Parts
variable (K : Dev nD × Ci → ℕ) (c : Dev nD)

/-- What the body is run from: the records, what is owed, the neighbours' barrier tokens with the landing rows they are promised, the tokens of
the fourteen copies, the rights to wait for fourteen landings, the two blocks, and the result window. -/
def pre (W : Waits sig Unit) : sProp 𝕄 :=
  iprop(recs m ρ K ∗ owes (c : Thread nD τ) (O₀ c) W ∗ (dutyTok ER (barCell (lft c)) 0 0 ∗ barPay (lft c) 0) ∗ (dutyTok ER (barCell (rgt c)) 0 1 ∗ barPay (rgt c) 1)
    ∗ (dutyTok ER (barCell (ptn c)) 0 2 ∗ barPay (ptn c) 2) ∗ (cred (tallyAt (barCell c) () 3) ∗ atPos ER (barCell c) 0 ∅ 0)
    ∗ (toks 0 c ∗ toks 1 c ∗ toks 2 c ∗ toks 3 c ∗ toks 4 c ∗ toks 5 c ∗ toks 6 c ∗ toks 7 c ∗ toks 8 c ∗ toks 9 c ∗ toks 10 c ∗ toks 11 c ∗ toks 12 c ∗ toks 13 c)
    ∗ (rtok (F := F) 0 c ∗ rtok (F := F) 1 c ∗ rtok (F := F) 2 c ∗ rtok (F := F) 3 c ∗ rtok (F := F) 4 c ∗ rtok (F := F) 5 c ∗ rtok (F := F) 6 c ∗ rtok (F := F) 7 c ∗ rtok (F := F) 8 c ∗ rtok (F := F) 9 c ∗ rtok (F := F) 10 c ∗ rtok (F := F) 11 c ∗ rtok (F := F) 12 c ∗ rtok (F := F) 13 c)
    ∗ (((c : Thread nD τ).loc cc0_stg0_0) ↦{fq} X m ρ c) ∗ ptW c (Wc m ρ c) ∗ outP m ρ c [])

/-- What the body leaves: every semaphore at zero, the two blocks as they were, the result, what landed, and nothing owed. -/
def post : sProp 𝕄 :=
  iprop(semVal (barCell c) 0 ∗ (semVal (scell c 0) 0 ∗ semVal (scell c 1) 0 ∗ semVal (scell c 2) 0 ∗ semVal (scell c 3) 0 ∗ semVal (scell c 4) 0 ∗ semVal (scell c 5) 0 ∗ semVal (scell c 6) 0 ∗ semVal (scell c 7) 0 ∗ semVal (scell c 8) 0 ∗ semVal (scell c 9) 0 ∗ semVal (scell c 10) 0 ∗ semVal (scell c 11) 0 ∗ semVal (scell c 12) 0 ∗ semVal (scell c 13) 0) ∗ (semVal (rcell c 0) 0 ∗ semVal (rcell c 1) 0 ∗ semVal (rcell c 2) 0 ∗ semVal (rcell c 3) 0 ∗ semVal (rcell c 4) 0 ∗ semVal (rcell c 5) 0 ∗ semVal (rcell c 6) 0 ∗ semVal (rcell c 7) 0 ∗ semVal (rcell c 8) 0 ∗ semVal (rcell c 9) 0 ∗ semVal (rcell c 10) 0 ∗ semVal (rcell c 11) 0 ∗ semVal (rcell c 12) 0 ∗ semVal (rcell c 13) 0)
    ∗ (((c : Thread nD τ).loc cc0_stg0_0) ↦{fq} X m ρ c) ∗ ptW c (Wc m ρ c) ∗ (((c : Thread nD τ).loc cc0_stg2_0) ↦{fq} OUT m ρ c)
    ∗ ((((c : Thread nD τ).loc cc0_scratch0) ↦{fq} FW m ρ c) ∗ (((c : Thread nD τ).loc cc0_scratch1) ↦{fq} BW m ρ c) ∗ (((c : Thread nD τ).loc cc0_scratch2) ↦{fq} X m ρ (rel c 4))
      ∗ ptC c (X m ρ (ptn c)) ∗ pt1 c (F1 m ρ c) ∗ pt2 c (F2 m ρ c) ∗ pt3 c (F3 m ρ c)) ∗ OW c left0)

/-- The run of the body on device `c`. -/
theorem body_run (W : Waits sig Unit) {Q : PUnit → sProp 𝕄} :
    pre m ρ K c W ⊢ iprop((post m ρ c -∗ Q ⟨⟩) -∗ WP c (cc0_body (F := F) mX (Memref.isWhole_whole _) mW (Memref.isWhole_whole _) mO (Memref.isWhole_whole _) mFW (Memref.isWhole_whole _) mBW (Memref.isWhole_whole _) mAN (Memref.isWhole_whole _) mCH (Memref.isWhole_whole _) mF1 (Memref.isWhole_whole _) mF2 (Memref.isWhole_whole _) mF3 (Memref.isWhole_whole _) cc0_scratch7 cc0_scratch8 cc0_scratch9 cc0_scratch10 cc0_scratch11 cc0_scratch12) Q) := by
  simp only [cc0_body_eq_skeleton]
  unfold cc0_body_skel
  simp only [k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton]
  unfold pre
  iintro ⟨#HR, HO, Hbl, Hbr, Hbp, Hbar, ⟨Hk0, Hk1, Hk2, Hk3, Hk4, Hk5, Hk6, Hk7, Hk8, Hk9, Hk10, Hk11, Hk12, Hk13⟩, ⟨Hr0, Hr1, Hr2, Hr3, Hr4, Hr5, Hr6, Hr7, Hr8, Hr9, Hr10, Hr11, Hr12, Hr13⟩, Hx, HW, Hout⟩ Hk
  ihave Hx := (Entails.of_eq (split_x m ρ c)) $$ Hx
  icases Hx with ⟨HX, ⟨Hs0, Hs1⟩, ⟨Hs5, Hs6⟩, Hs10⟩
  iapply (bind_step c)
  iapply (part3 c)
  iintro %r3
  iapply (bind_step c)
  iapply (part4 m ρ K c _ _ _ _ _ W) $$ [$]
  iintro %r4 %h4 HO
  iapply (bind_step c)
  iapply (part5 m ρ K c _ _ _ _ _ h4 W) $$ [$]
  iintro %r5 ⟨HzB, ⟨Hd2, Hd3, Hd4⟩, HP1, HP2, Hn0, Hn1, HO⟩
  ihave HP1 := (show barPay (F := F) c 1 ⊢ iprop(dstAny (F := F) 5 (lft c) ∗ dstAny (F := F) 6 (lft c) ∗ dstAny (F := F) 7 (lft c) ∗ dstAny (F := F) 8 (lft c) ∗ dstAny (F := F) 9 (lft c)) from Entails.of_eq rfl) $$ HP1
  icases HP1 with ⟨Hd5, Hd6, Hd7, Hd8, Hd9⟩
  ihave HP2 := (show barPay (F := F) c 2 ⊢ iprop(dstAny (F := F) 10 (ptn c) ∗ dstAny (F := F) 11 (ptn c) ∗ dstAny (F := F) 12 (ptn c) ∗ dstAny (F := F) 13 (ptn c)) from Entails.of_eq rfl) $$ HP2
  icases HP2 with ⟨Hd10, Hd11, Hd12, Hd13⟩
  iapply (bind_step c)
  iapply (part6 m ρ K c _ _ _ _) $$ [$]
  iintro %r6 ⟨Hn5, Hn6, Hn10, HO, HX, HW, Hout⟩
  iapply (bind_step c)
  iapply (part7 m ρ K c _ _) $$ [$]
  iintro %r7 ⟨Hz0, Hz5, Hn2, HFa, HBa, Hs7, Hs11, Hv11, HO⟩
  iapply (bind_step c)
  iapply (part8 m ρ K c _ _ _ _) $$ [$]
  iintro %r8 ⟨Hz1, Hn7, Hn3, HFb, HFv, Hmid⟩
  iapply (bind_step c)
  iapply (part9 m ρ K c _ _ _ _ _) $$ [$]
  iintro %r9 %h9 ⟨Hz6, Hn8, Hn11, Hn12, HF0, HB0, Hv12, HO⟩
  iapply (bind_step c)
  iapply (part10 m ρ c _ _ h9 _ _ _) $$ [$]
  iintro %r10 %h10 ⟨HW, HB0, Hout⟩
  iapply (bind_step c)
  iapply (part11 m ρ K c _ _ _ _ h10 _ _) $$ [$]
  iintro %r11 %h11 ⟨Hz10, HC, HO, HW, Hout⟩
  iapply (bind_step c)
  iapply (part12 m ρ K c _ _ _ _ _ h11 _) $$ [$]
  iintro %r12 %h12 ⟨Hz2, Hz7, HF1, Hf2, HB1, Hb1, Hb2, Hmid, Hout⟩
  iapply (bind_step c)
  iapply (part13 m ρ c _ _ h12 _) $$ [$]
  iintro %r13 %h13 ⟨HW, HB1, Hout⟩
  iapply (bind_step c)
  iapply (part14 m ρ K c _ _ _ _ _ _ _ h13 _ _ _ _) $$ [$]
  iintro %r14 ⟨Hz3, Hn4, HF2, Hf3, Hf4, Hmid, HW, Hout⟩
  iapply (bind_step c)
  iapply (part15 m ρ K c _ _ _ _ _) $$ [$]
  iintro %r15 %h15 ⟨Hz8, Hn9, Hn13, Hv13, HF1, HF2, HB1, HB2, Hmid, HO⟩
  iapply (bind_step c)
  iapply (part16 m ρ c _ _ h15 _ _ _) $$ [$]
  iintro %r16 %h16 ⟨HW, HB2, Hout⟩
  iapply (bind_step c)
  iapply (part17 m ρ K c _ _ _ _ _ _ h16 _ _) $$ [$]
  iintro %r17 ⟨Hz11, Hz12, Hz4, Hv4, Hv9, HA0, Ha, H1, HO, HW, Hout⟩
  iapply (bind_step c)
  iapply (part18 m ρ K c _ _ _ _) $$ [$]
  iintro %r18 ⟨Hz13, H1, H2, HO, HW, Hout⟩
  iapply (bind_step c)
  iapply (part19 m ρ K c _ _) $$ [$]
  iintro %r19 ⟨Hz9, H3, ⟨Hs0, Hy0⟩, ⟨Hs1, Hy1⟩, HO, HW, Hout⟩
  iapply (bind_step c)
  iapply (part20 m ρ K c) $$ [$]
  iintro %r20 ⟨⟨Hs2, Hy2⟩, ⟨Hs3, Hy3⟩, ⟨Hs4, Hy4⟩, ⟨Hs5, Hy5⟩, ⟨Hs6, Hy6⟩, HO⟩
  iapply (bind_step c)
  iapply (part21 m ρ K c) $$ [$]
  iintro %r21 ⟨⟨Hs7, Hy7⟩, ⟨Hs8, Hy8⟩, ⟨Hs9, Hy9⟩, ⟨Hs10, Hy10⟩, HO⟩
  simp only [Prog.lift, Prog.bind_op, Prog.bind_ret, Prog.pure_eq_ret]
  iapply (leftN m ρ K c 11 128 rfl rfl left0) $$ [$]
  iintro ⟨Hs11, Hy11, HO⟩
  iapply (leftN m ρ K c 12 128 rfl rfl left0) $$ [$]
  iintro ⟨Hs12, Hy12, HO⟩
  iapply (leftN m ρ K c 13 80 rfl rfl left0) $$ [$]
  iintro ⟨Hs13, Hy13, HO⟩
  ihave H4 := (both4 m ρ c).2 $$ [$Hs4 $Hv4]
  icases H4 with ⟨Hf1, Ha1⟩
  ihave H9 := (both9 m ρ c).2 $$ [$Hs9 $Hv9]
  icases H9 with ⟨Hb4, Ha4⟩
  ihave H11 := (both11 m ρ c).2 $$ [$Hs11 $Hv11]
  icases H11 with ⟨HFt, HBt⟩
  ihave H12 := (both12 m ρ c).2 $$ [$Hs12 $Hv12]
  icases H12 with ⟨HFu, HBu⟩
  ihave H13 := (both13 m ρ c).2 $$ [$Hs13 $Hv13]
  icases H13 with ⟨Hfm, Hbm⟩
  ihave HF1 := (Entails.of_eq (rowsF c fq.left 1 0 128 256 (by decide) (by decide) (FW m ρ c)).symm) $$ [$HF1 $HF2]
  ihave HB1 := (Entails.of_eq (rowsB c fq.left 1 0 128 256 (by decide) (by decide) (BW m ρ c)).symm) $$ [$HB1 $HB2]
  ihave HF := (join_F m ρ c) $$ [$HF0 $Hs2 $Hs3 $HFt $HFu $HF1 $Hf1 $Hfm $Hf4]
  ihave HB := (join_B m ρ c) $$ [$HB0 $Hs7 $Hs8 $HBt $HBu $HB1 $Hb1 $Hbm $Hb4]
  ihave HA := (join_A m ρ c) $$ [$HA0 $Ha1 $Ha $Ha4]
  ihave Hx := (Entails.of_eq (split_x m ρ c).symm) $$ [$HX $Hs0 $Hs1 $Hs5 $Hs6 $Hs10]
  ihave Hout := (out_full m ρ c) $$ Hout
  iapply (ret_step c)
  iapply Hk
  unfold post
  iframe

end Parts

end Cert.RingProof

end
-- ==== Proof.Deal.lean ====
/-
# The tokens dealt at launch

The protocol's ghost state is made once for the whole mesh, every cell's invariant is allocated, and the
tokens go to the devices that pay with them: a barrier cell's three to the three neighbours, a receive
cell's to the device its copy comes from.
-/
module

public import proofs.«01_k».proof.Proof.Body
public import Idealize.ShloMosaic.Lib.Pipeline.Launch

@[expose] public section

noncomputable section

namespace Cert.RingProof

open Cert.KernelIdeal Cert.KernelIdeal.Gen
open Idealize.ShloMosaic
open Idealize.ShloMosaic.TcCoe Idealize.ShloMosaic.RefSig
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The kernel's own semaphores and all cells -/

/-- The fourteen send and fourteen receive semaphores. -/
abbrev osem : Bool × Fin 14 → SemLoc sig := fun bk => csem (some bk)

/-- The copies' semaphores are the kernel's own, each named once. -/
theorem ownSemFacts : Pipeline.OwnSemFacts cfg0.spec osem := by decide

/-- Different cells of a device have different semaphores. -/
theorem csem_injective : Function.Injective csem := by
  intro i j h
  rcases i with _ | ⟨_ | _, k⟩ <;> rcases j with _ | ⟨_ | _, l⟩
  · rfl
  · cases h
  · cases h
  · cases h
  · have h' : sS k = sS l := SemLoc.dma.inj h
    rw [← kOf_sS k, h', kOf_sS]
  · have h' : sS k = sR l := SemLoc.dma.inj h
    exact absurd ((isR_sS k).symm.trans ((congrArg isR h').trans (isR_sR l))) Bool.false_ne_true
  · cases h
  · have h' : sR k = sS l := SemLoc.dma.inj h
    exact absurd ((isR_sS l).symm.trans ((congrArg isR h').symm.trans (isR_sR k))) Bool.false_ne_true
  · have h' : sR k = sR l := SemLoc.dma.inj h
    rw [← kOf_sR k, h', kOf_sR]

/-- Different names are different cells. -/
theorem kcell_injective : Function.Injective (kcell : Dev nD × Ci → GSem nD τ sig) := by
  rintro ⟨c, i⟩ ⟨c', j⟩ h
  have h1 : c = c' := by have := congrArg (fun g : GSem nD τ sig => g.1.1) h; exact this
  have h2 : i = j := csem_injective (congrArg Prod.snd h)
  rw [h1, h2]

/-- All the cells that follow rounds. -/
def ringCells : Finset (GSem nD τ sig) := Finset.univ.map ⟨kcell, kcell_injective⟩

/-- The duties of a device's cells: three at its barrier, one at every send or receive cell. -/
abbrev Ti : Type := Fin 3 ⊕ (Bool × Fin 14)
/-- The duty that a name stands for: a barrier's, or a copy's. -/
abbrev tokOf (ct : Dev nD × Ti) : GSem nD τ sig × ℕ × Fin 3 := match ct.2 with
  | .inl d => (barCell ct.1, 0, d)
  | .inr bk => (kcell (ct.1, some bk), 0, 0)

/-- Different names are different duties. -/
theorem tokOf_injective : Function.Injective (tokOf : Dev nD × Ti → GSem nD τ sig × ℕ × Fin 3) := by
  rintro ⟨c, i⟩ ⟨c', j⟩ h
  have hg := congrArg (fun x : GSem nD τ sig × ℕ × Fin 3 => x.1) h
  have hd := congrArg (fun x : GSem nD τ sig × ℕ × Fin 3 => x.2.2) h
  rcases i with d | bk <;> rcases j with d' | bk'
  · have h1 := kcell_injective (a₁ := (c, none)) (a₂ := (c', none)) hg
    have h2 : d = d' := hd
    rw [(Prod.mk.inj h1).1, h2]
  · have h1 := kcell_injective (a₁ := (c, none)) (a₂ := (c', some bk')) hg
    cases (Prod.mk.inj h1).2
  · have h1 := kcell_injective (a₁ := (c, some bk)) (a₂ := (c', none)) hg
    cases (Prod.mk.inj h1).2
  · have h1 := kcell_injective (a₁ := (c, some bk)) (a₂ := (c', some bk')) hg
    obtain ⟨h2, h3⟩ := Prod.mk.inj h1
    rw [h2, Option.some.inj h3]

/-- All the duties. -/
def ringToks : Finset (GSem nD τ sig × ℕ × Fin 3) := Finset.univ.map ⟨tokOf, tokOf_injective⟩

/-- The launch's ghost element: the staging cells' and the protocol's. -/
def u₀ : UU :=
  (initOf (Pipeline.cells cfgs cellOf_inj) (Pipeline.launchToks cfgs cellOf_inj), initOf ringCells ringToks)

/-- Something for each of the fourteen copies, written out. -/
theorem bigSep_fin14 (Φ : Fin 14 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13) :=
  bigSep_univ_eq_bigSepL [0, 1, 2, 3, 4, 5, 6, 7, 8, 9, 10, 11, 12, 13] (by decide) (by decide) Φ
/-- Something for each of three, written out. -/
theorem bigSep_fin3 (Φ : Fin 3 → sProp 𝕄) : bigSep Finset.univ Φ = iprop(Φ 0 ∗ Φ 1 ∗ Φ 2) :=
  bigSep_univ_eq_bigSepL [0, 1, 2] (by decide) (by decide) Φ
/-- Something for each side of each copy is the send sides and the receive sides. -/
theorem bigSep_sides (Φ : Bool × Fin 14 → sProp 𝕄) :
    bigSep Finset.univ Φ = iprop(bigSep Finset.univ (fun k => Φ (false, k)) ∗ bigSep Finset.univ (fun k => Φ (true, k))) := by
  rw [bigSep_univ_prod]
  exact bigSep_univ_eq_bigSepL [false, true] (by decide) (by decide) _
/-- Something for each cell of a device is the barrier's and the copies'. -/
theorem bigSep_cells (Φ : Ci → sProp 𝕄) : bigSep Finset.univ Φ = iprop(Φ none ∗ bigSep Finset.univ (fun bk => Φ (some bk))) := by
  rw [bigSep_univ_equiv (Equiv.optionEquivSumPUnit.{0} (Bool × Fin 14)).symm, bigSep_univ_sum, show (Finset.univ : Finset PUnit.{1}) = {⟨⟩} from rfl, bigSep_singleton]
  exact BI.Entails.antisymm BI.sep_comm BI.sep_comm

/-- Per device and copy is per copy and device. -/
theorem bigSep_swap {A B : Type} [Fintype A] [Fintype B] (Φ : A → B → sProp 𝕄) :
    (bigSep Finset.univ fun a => bigSep Finset.univ fun b => Φ a b) = bigSep Finset.univ fun b => bigSep Finset.univ fun a => Φ a b := by
  rw [← bigSep_univ_prod (fun x : A × B => Φ x.1 x.2), bigSep_univ_equiv (Equiv.prodComm B A), bigSep_univ_prod]; rfl

/-! ## What each device is dealt -/

/-- The duty tokens of device `c`'s own cells. -/
def mine (c : Dev nD) : sProp 𝕄 := bigSep Finset.univ fun t : Ti => dutyTok ER (tokOf (c, t)).1 (tokOf (c, t)).2.1 (tokOf (c, t)).2.2
/-- A device's positions at its own cells. -/
def poss (c : Dev nD) : sProp 𝕄 := bigSep Finset.univ fun i : Ci => atPos ER (kcell (c, i)) 0 ∅ 0

/-- What the launch element deals device `c`. -/
def G (c : Dev nD) : sProp 𝕄 :=
  iprop((bigSep Finset.univ fun i : Ci => roundState ER (Rd m ρ) (kcell (c, i)) 0)
    ∗ (poss c ∗ bigSep Finset.univ fun i : Ci => reached ER (kcell (c, i)) 0) ∗ mine c)

/-- The rounds' ghost state at launch deals every device its part. -/
theorem fund_ring : BI.own (ER (initOf ringCells ringToks)) ⊢ (|==> bigSep Finset.univ (G m ρ) : sProp 𝕄) := by
  have hX (Φ : GSem nD τ sig → sProp 𝕄) : bigSep ringCells Φ = bigSep Finset.univ fun c : Dev nD => bigSep Finset.univ fun i : Ci => Φ (kcell (c, i)) := by
    unfold ringCells; rw [bigSep_map, bigSep_univ_prod]; rfl
  have hT : bigSep ringToks (fun x => (dutyTok ER x.1 x.2.1 x.2.2 : sProp 𝕄)) = bigSep Finset.univ fun c : Dev nD => mine c := by
    unfold ringToks; rw [bigSep_map, bigSep_univ_prod]; rfl
  iintro HX
  imod (Rounds.fund ER (Rd m ρ) ringCells ringToks) $$ HX with ⟨Hst, Hr, Hat, Htok⟩
  imodintro
  ihave Hst' := (Entails.of_eq (hX fun g => roundState ER (Rd m ρ) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G poss; simp only [bigSep_sep']
  isplitl [Hst']; · iexact Hst'
  isplitl [Hat' Hr']
  · isplitl [Hat'] <;> iassumption
  iexact Htok'

/-! ## Allocating the invariants -/

/-- The runtime's barrier semaphore is the one semaphore outside the launch. -/
theorem unscopedSems0_eq (c : Dev nD) : (unscopedSems0 c : sProp 𝕄) = semVal (barCell c) 0 := by
  unfold unscopedSems0; rw [bigSep_eq_bigSepL_of_eq [SemLoc.reg barS] (by decide) (by decide)]; rfl

/-- A device's semaphores at launch are all its cells at 0. -/
theorem sems0_eq (c : Dev nD) :
    iprop(Pipeline.ownSems0 (Ix := Unit) (Name := ℕ) (U := UU) (Lvl := ℕ) (Val := Elt F) (τ := τ) osem c ∗ unscopedSems0 c)
      = (bigSep Finset.univ fun i : Ci => semVal (kcell (c, i)) 0 : sProp 𝕄) := by
  rw [unscopedSems0_eq, bigSep_cells]; exact BI.Entails.antisymm BI.sep_comm BI.sep_comm

/-- A device's semaphores at 0 and its part of the rounds set up its cells' invariants. -/
theorem core_alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : Ci => iprop(∃ κ : ℕ, cellInv ER (Rd m ρ) κ (kcell (c, i))))
          ∗ (poss c ∗ bigSep Finset.univ fun i : Ci => reached ER (kcell (c, i)) 0) ∗ mine c) := by
  unfold G
  iintro ⟨Hos, Hus, Hst, Hat, Htok⟩
  ihave Hv := (Entails.of_eq (sems0_eq (F := F) c)) $$ [Hos Hus]
  · isplitl [Hos] <;> iassumption
  imod (show iprop((bigSep Finset.univ fun i : Ci => semVal (kcell (c, i)) 0) ∗ bigSep Finset.univ fun i : Ci => roundState ER (Rd m ρ) (kcell (c, i)) 0)
      ⊢ (|={Set.univ}=> bigSep Finset.univ fun i => iprop(∃ κ : ℕ, cellInv ER (Rd m ρ) κ (kcell (c, i))) : sProp 𝕄) from by
        rw [← bigSep_sep']
        exact (bigSep_mono fun i _ => (Rounds.body_intro ER (Rd m ρ) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

/-- Every cell's invariant and that its round is reached. -/
def cellRecs (K : Dev nD × Ci → ℕ) : sProp 𝕄 :=
  bigSep Finset.univ fun ci : Dev nD × Ci => iprop(cellInv ER (Rd m ρ) (K ci) (kcell ci) ∗ reached ER (kcell ci) 0)

/-- The cells' records can be used any number of times. -/
instance cellRecs_persistent (K : Dev nD × Ci → ℕ) : BI.Persistent (cellRecs m ρ K) := by unfold cellRecs; infer_instance

/-- The duty tokens device `c` pays with. -/
def pays (c : Dev nD) : sProp 𝕄 :=
  iprop((dutyTok ER (barCell (lft c)) 0 0 ∗ dutyTok ER (barCell (rgt c)) 0 1 ∗ dutyTok ER (barCell (ptn c)) 0 2)
    ∗ (bigSep Finset.univ fun k : Fin 14 => dutyTok ER (scell c k) 0 0) ∗ (bigSep Finset.univ fun k : Fin 14 => dutyTok ER (rcell (dd k c) k) 0 0))

/-- What the global step makes of a device's share. -/
def G' (c : Dev nD) : sProp 𝕄 := iprop(∃ K, cellRecs m ρ K ∗ poss c ∗ pays c)

/-- The device before, the device after and the partner, as permutations of the mesh. -/
def turnL : Dev nD ≃ Dev nD := ⟨lft, rgt, rgt_lft, lft_rgt⟩
/-- Going to the partner permutes the devices. -/
def turnP : Dev nD ≃ Dev nD := ⟨ptn, ptn, ptn_ptn, ptn_ptn⟩
/-- Going to where copy `k` is sent permutes the devices. -/
def turnK (k : Fin 14) : Dev nD ≃ Dev nD := ⟨dd k, ss k, ss_dd k, dd_ss k⟩

/-- The tokens go around: every device's own become every device's to pay with. -/
theorem toks_around : (bigSep Finset.univ fun c : Dev nD => (mine c : sProp 𝕄)) = bigSep Finset.univ fun c : Dev nD => pays c := by
  have hm : ∀ c : Dev nD, (mine c : sProp 𝕄) = iprop((dutyTok ER (barCell c) 0 0 ∗ dutyTok ER (barCell c) 0 1 ∗ dutyTok ER (barCell c) 0 2)
      ∗ (bigSep Finset.univ fun k : Fin 14 => dutyTok ER (scell c k) 0 0) ∗ (bigSep Finset.univ fun k : Fin 14 => dutyTok ER (rcell c k) 0 0)) := fun c => by
    unfold mine; rw [bigSep_univ_sum, bigSep_fin3, bigSep_sides]; rfl
  rw [bigSep_congr (s := Finset.univ) fun c _ => hm c]
  unfold pays
  rw [bigSep_sep', bigSep_sep', bigSep_sep', bigSep_sep', bigSep_sep', bigSep_sep', bigSep_sep', bigSep_sep',
    bigSep_univ_equiv turnL (fun c : Dev nD => (dutyTok ER (barCell c) 0 0 : sProp 𝕄)),
    bigSep_univ_equiv turnL.symm (fun c : Dev nD => (dutyTok ER (barCell c) 0 1 : sProp 𝕄)),
    bigSep_univ_equiv turnP (fun c : Dev nD => (dutyTok ER (barCell c) 0 2 : sProp 𝕄)),
    bigSep_swap (fun (c : Dev nD) (k : Fin 14) => (dutyTok ER (rcell c k) 0 0 : sProp 𝕄)),
    bigSep_congr (s := Finset.univ) fun (k : Fin 14) _ => bigSep_univ_equiv (turnK k) (fun c : Dev nD => (dutyTok ER (rcell c k) 0 0 : sProp 𝕄)),
    bigSep_swap (fun (k : Fin 14) (c : Dev nD) => (dutyTok ER (rcell (turnK k c) k) 0 0 : sProp 𝕄))]
  rfl

/-- What the devices set up, put together, is what each device is dealt: all the invariants, and the duties it is to do. -/
theorem regroup :
    (bigSep Finset.univ fun c : Dev nD => iprop((bigSep Finset.univ fun i : Ci => iprop(∃ κ : ℕ, cellInv ER (Rd m ρ) κ (kcell (c, i))))
          ∗ (poss c ∗ bigSep Finset.univ fun i : Ci => reached ER (kcell (c, i)) 0) ∗ mine c) : sProp 𝕄)
      ⊢ bigSep Finset.univ (G' m ρ) := by
  rw [bigSep_sep', bigSep_sep', bigSep_sep', ← bigSep_univ_prod (fun ci : Dev nD × Ci => iprop(∃ κ : ℕ, cellInv ER (Rd m ρ) κ (kcell ci))),
    ← bigSep_univ_prod (fun ci : Dev nD × Ci => (reached ER (kcell ci) 0 : sProp 𝕄)), toks_around]
  iintro ⟨HI, ⟨Hat, HR⟩, Htok⟩
  ihave HK := (BI.bigSep_exists_pi Finset.univ (fun (ci : Dev nD × Ci) (κ : ℕ) => (cellInv ER (Rd m ρ) κ (kcell ci) : sProp 𝕄))) $$ HI
  icases HK with ⟨%K, HI⟩
  ihave HC := (Entails.of_eq (show iprop((bigSep Finset.univ fun ci : Dev nD × Ci => cellInv ER (Rd m ρ) (K ci) (kcell ci)) ∗ bigSep Finset.univ fun ci : Dev nD × Ci => reached ER (kcell ci) 0)
      = cellRecs m ρ K from by unfold cellRecs; rw [bigSep_sep'])) $$ [$HI $HR]
  iapply (show iprop(cellRecs m ρ K ∗ (bigSep Finset.univ fun c : Dev nD => poss c) ∗ bigSep Finset.univ fun c : Dev nD => pays c) ⊢ bigSep Finset.univ (G' m ρ) from by
    rw [← bigSep_sep']
    refine (sep_mono_left (BI.bigSep_of_persistent (Finset.univ : Finset (Dev nD)) (cellRecs m ρ K))).trans ?_
    rw [← bigSep_sep']
    exact bigSep_mono fun c _ => show iprop(cellRecs m ρ K ∗ poss c ∗ pays c) ⊢ G' m ρ c by unfold G'; iintro H; iexists K; iexact H)
  iframe

/-- The global step: the semaphores of every device at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => core_alloc m ρ c).trans (bigSep_fupd _ _)).trans (BI.fupd_mono (regroup m ρ))

/-! ## The credit for what the others owe -/

/-- Barrier cells are the same when their devices are. -/
theorem bar_iff {a b : Dev nD} : Iff (barCell a = barCell b) (a = b) :=
  ⟨fun h => (Prod.mk.inj (kcell_injective (a₁ := (a, none)) (a₂ := (b, none)) h)).1, fun h => h ▸ rfl⟩
/-- Receive cells are the same when their devices and copies are. -/
theorem recv_iff {a b : Dev nD} {k l : Fin 14} : Iff (rcell a k = rcell b l) (a = b ∧ k = l) :=
  ⟨fun h => by
    obtain ⟨h1, h2⟩ := Prod.mk.inj (kcell_injective (a₁ := (a, some (true, k))) (a₂ := (b, some (true, l))) h)
    exact ⟨h1, (Prod.mk.inj (Option.some.inj h2)).2⟩, fun h => by rw [h.1, h.2]⟩

/-- No copy owes a barrier. -/
theorem owS_bar (d c : Dev nD) : owS d Finset.univ (barCell c) () = 0 := by
  by_contra h
  obtain ⟨k, _, hk⟩ := owS_pos (Nat.pos_of_ne_zero h)
  cases congrArg Prod.snd hk

/-- A receive cell is owed its copy's credit by that copy's sender, and nothing by any other device. -/
theorem owS_recv (d c : Dev nD) (k : Fin 14) : owS d Finset.univ (rcell c k) () = if d = ss k c then N k else 0 := by
  unfold owS
  rw [Finset.sum_apply, Finsupp.finset_sum_apply, Finset.sum_eq_single k (fun j _ hj => by
    rw [tallyAt_apply]; exact if_neg fun h => hj (recv_iff.mp h.1).2.symm) (fun h => absurd (Finset.mem_univ _) h), tallyAt_apply]
  by_cases h : d = ss k c
  · subst h; rw [dd_ss, if_pos ⟨rfl, rfl⟩, if_pos rfl]
  · rw [if_neg h]; exact if_neg fun h' => h (by rw [(recv_iff.mp h'.1).1, ss_dd])

/-- What device `d` owes device `c`'s barrier cell: a unit if it is a neighbour, once for each way it is one. -/
theorem owed_bar (d c : Dev nD) : O₀ d (barCell c) () = (if d = ptn c then 1 else 0) + (if d = lft c then 1 else 0) + (if d = rgt c then 1 else 0) := by
  unfold O₀
  rw [Pi.add_apply, Finsupp.add_apply, Pi.add_apply, Finsupp.add_apply, Pi.add_apply, Finsupp.add_apply, owS_bar, tallyAt_apply, tallyAt_apply, tallyAt_apply, Nat.zero_add]
  have e : ∀ (f g : Dev nD → Dev nD) (_ : ∀ x, f (g x) = x) (_ : ∀ x, g (f x) = x), (if barCell c = barCell (f d) ∧ () = () then 1 else 0) = if d = g c then 1 else 0 := fun f g h1 h2 => by
    by_cases h : d = g c
    · rw [if_pos h]; exact if_pos ⟨by rw [h, h1], rfl⟩
    · rw [if_neg h]; exact if_neg fun h' => h (by rw [bar_iff.mp h'.1, h2])
  exact congrArg₂ _ (congrArg₂ _ (e ptn ptn ptn_ptn ptn_ptn) (e rgt lft rgt_lft lft_rgt)) (e lft rgt lft_rgt rgt_lft)

/-- What device `d` owes device `c`'s receive cell of copy `k`. -/
theorem owed_recv (d c : Dev nD) (k : Fin 14) : O₀ d (rcell c k) () = if d = ss k c then N k else 0 := by
  unfold O₀
  have e : ∀ x : Dev nD, tallyAt (barCell x) () 1 (rcell c k) () = 0 := fun x => by
    rw [tallyAt_apply]; exact if_neg fun h => by cases congrArg Prod.snd h.1
  rw [Pi.add_apply, Finsupp.add_apply, Pi.add_apply, Finsupp.add_apply, Pi.add_apply, Finsupp.add_apply, e, e, e, owS_recv]; rfl

/-- At launch a barrier cell has three units of credit. -/
theorem launch_bar (c : Dev nD) :
    tallyOn (barCell c) (launchCredit (Pipeline.owing O₀) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (ptn c) fun _ => 1, Finset.sum_ite_eq' Finset.univ (lft c) fun _ => 1, Finset.sum_ite_eq' Finset.univ (rgt c) fun _ => 1,
    if_pos (Finset.mem_univ _), if_pos (Finset.mem_univ _), if_pos (Finset.mem_univ _)]

/-- At launch a receive cell has its copy's credit. -/
theorem launch_recv (c : Dev nD) (k : Fin 14) :
    tallyOn (rcell c k) (launchCredit (Pipeline.owing O₀) 0 (rcell c k)) = (tallyAt (rcell c k) () (N k) : CellTallies nD τ sig Unit) := by
  unfold tallyAt; refine congrArg _ (Finsupp.ext fun u => ?_); cases u
  rw [Pipeline.launchCredit_owing, Finsupp.single_eq_same, Finset.sum_congr rfl fun d _ => owed_recv d c k, Finset.sum_ite_eq' Finset.univ (ss k c) fun _ => N k,
    if_pos (Finset.mem_univ _)]

/-- A device's credit at launch is its barrier's three units and its fourteen copies' credits. -/
theorem creds (c : Dev nD) :
    (Pipeline.launchCred O₀ c : sProp 𝕄) ⊢ iprop(cred (tallyAt (barCell c) () 3) ∗ bigSep Finset.univ fun k : Fin 14 => cred (tallyAt (rcell c k) () (N k))) := by
  unfold Pipeline.launchCred
  rw [bigSep_univ_at _ (SemLoc.reg barS), launch_bar]
  refine sep_mono_right ?_
  refine (bigSep_subset (t := Finset.univ.image fun k : Fin 14 => SemLoc.dma (sR k)) fun x hx => ?_).trans ?_
  · obtain ⟨k, _, rfl⟩ := Finset.mem_image.mp hx
    exact Finset.mem_erase.mpr ⟨nofun, Finset.mem_univ _⟩
  · rw [bigSep_image_of_injOn (fun a _ b _ h => by
      have h' : sR a = sR b := SemLoc.dma.inj h
      rw [← kOf_sR a, h', kOf_sR])]
    exact bigSep_mono fun k _ => Entails.of_eq (congrArg cred (launch_recv c k))

end Cert.RingProof

end
-- ==== Proof.Launch.lean ====
/-
# The run of the whole program

The kernel's body, run on every device from the tokens dealt at launch, put under the launch theorem: the
program ends on every schedule, with each array at named contents and every semaphore at zero.
-/
module

public import proofs.«01_k».proof.Proof.Deal
public import Idealize.ShloMosaic.Lib.Pipeline.CollectiveSegs

@[expose] public section

noncomputable section

namespace Cert.RingProof

open Cert.KernelIdeal Cert.KernelIdeal.Gen
open Idealize.ShloMosaic
open Idealize.ShloMosaic.TcCoe Idealize.ShloMosaic.RefSig
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
local notation "𝕄" => MT nD τ sig Unit (Elt F) ℕ UU ℕ
variable (m : (ℓ : Loc nD τ sig) → Buf (Elt F) ℓ) (ρ : Dev nD → PrngReg)

/-! ## The landing rows at launch -/

/-- The seven landing buffers of device `c`, holding `C`. -/
def lands (c : Dev nD) (C : Cont F) : sProp 𝕄 :=
  iprop((((c : Thread nD τ).loc cc0_scratch0) ↦{fq} C.fw) ∗ (((c : Thread nD τ).loc cc0_scratch1) ↦{fq} C.bw) ∗ (((c : Thread nD τ).loc cc0_scratch2) ↦{fq} C.an)
    ∗ ptC c C.ch ∗ pt1 c C.f1 ∗ pt2 c C.f2 ∗ pt3 c C.f3)

/-- Rows of a copy holding any contents are the rows of the copy before it lands. -/
theorem any_of (k : Fin 14) (c : Dev nD) (C : Cont F) : dst (F := F) k c C ⊢ dstAny (F := F) k c := by
  unfold dstAny; iintro H; iexists C; iexact H

/-- The seven buffers cut into the rows of the fourteen copies. -/
theorem lands_cut (c : Dev nD) (C : Cont F) : lands c C ⊢ iprop(barPay (F := F) (lft c) 0 ∗ barPay (F := F) (rgt c) 1 ∗ barPay (F := F) (ptn c) 2) := by
  unfold barPay lands
  rw [rgt_lft, lft_rgt, ptn_ptn, slotsF, slotsB, univA, rowsF c fq 0 0 128 256 (by decide) (by decide), rowsF c fq 1 0 128 256 (by decide) (by decide),
    rowsB c fq 0 0 128 256 (by decide) (by decide), rowsB c fq 1 0 128 256 (by decide) (by decide), rowsA c fq 0 128 256 (by decide) (by decide)]
  show iprop(((dst (F := F) 0 c C ∗ dst (F := F) 1 c C) ∗ dst (F := F) 2 c C ∗ dst (F := F) 3 c C) ∗ ((dst (F := F) 5 c C ∗ dst (F := F) 6 c C) ∗ dst (F := F) 7 c C ∗ dst (F := F) 8 c C)
    ∗ (dst (F := F) 11 c C ∗ dst (F := F) 12 c C) ∗ dst (F := F) 10 c C ∗ dst (F := F) 4 c C ∗ dst (F := F) 13 c C ∗ dst (F := F) 9 c C)
    ⊢ iprop((dstAny (F := F) 0 c ∗ dstAny (F := F) 1 c ∗ dstAny (F := F) 2 c ∗ dstAny (F := F) 3 c ∗ dstAny (F := F) 4 c)
      ∗ (dstAny (F := F) 5 c ∗ dstAny (F := F) 6 c ∗ dstAny (F := F) 7 c ∗ dstAny (F := F) 8 c ∗ dstAny (F := F) 9 c)
      ∗ (dstAny (F := F) 10 c ∗ dstAny (F := F) 11 c ∗ dstAny (F := F) 12 c ∗ dstAny (F := F) 13 c))
  iintro ⟨⟨⟨H0, H1⟩, H2, H3⟩, ⟨⟨H5, H6⟩, H7, H8⟩, ⟨H11, H12⟩, H10, H4, H13, H9⟩
  ihave H0 := (any_of 0 c C) $$ H0
  ihave H1 := (any_of 1 c C) $$ H1
  ihave H2 := (any_of 2 c C) $$ H2
  ihave H3 := (any_of 3 c C) $$ H3
  ihave H4 := (any_of 4 c C) $$ H4
  ihave H5 := (any_of 5 c C) $$ H5
  ihave H6 := (any_of 6 c C) $$ H6
  ihave H7 := (any_of 7 c C) $$ H7
  ihave H8 := (any_of 8 c C) $$ H8
  ihave H9 := (any_of 9 c C) $$ H9
  ihave H10 := (any_of 10 c C) $$ H10
  ihave H11 := (any_of 11 c C) $$ H11
  ihave H12 := (any_of 12 c C) $$ H12
  ihave H13 := (any_of 13 c C) $$ H13
  iframe

/-! ## The pipeline's proof data -/

/-- What device `c`'s body starts from, but for the landing buffers. -/
def start (c : Dev nD) : sProp 𝕄 :=
  iprop(G' m ρ c ∗ (cred (tallyAt (barCell c) () 3) ∗ bigSep Finset.univ fun k : Fin 14 => cred (tallyAt (rcell c k) () (N k))) ∗ levAts L lv)

/-- What device `c`'s body starts from, with the landing buffers. -/
def Φ₀ (c : Dev nD) : sProp 𝕄 := iprop(start m ρ c ∗ ∃ C, lands (F := F) c C)
/-- After the body: the landing buffers and every semaphore of the protocol at zero. -/
def Φ₁ (c : Dev nD) : sProp 𝕄 :=
  iprop(lands c (cont m ρ c) ∗ semVal (barCell c) 0 ∗ (bigSep Finset.univ fun k : Fin 14 => semVal (scell c k) 0) ∗ (bigSep Finset.univ fun k : Fin 14 => semVal (rcell c k) 0))

/-- What the windows of device `c` hold before and after the body, and what it owes. -/
def dats (_ : Fin 1) (c : Dev nD) : Dat τ (Elt F) Unit ℕ UU ℕ cfg0 c where
  A w := (s₀ m ρ).mem ((cfg0.win w).arr.view.loc (c : Thread nD τ))
  after w _ := match w with
    | ⟨0, _⟩ => X m ρ c
    | ⟨1, _⟩ => Wc m ρ c
    | ⟨2, _⟩ => OUT m ρ c
  Φ t := match t with
    | ⟨0, _⟩ => Φ₀ m ρ c
    | ⟨_ + 1, _⟩ => Φ₁ m ρ c
  q _ := fullShare
  owed t := match t with
    | ⟨0, _⟩ => O₀ c
    | ⟨_ + 1, _⟩ => 0

/-- Owning a whole buffer is holding it at the whole share. -/
theorem owns_whole_eq (c : Dev nD) (b : Ref sig .tc) (Y : b.ty.Contents (Elt F)) :
    (owns (Ix := Unit) (Name := ℕ) (U := UU) (Lvl := ℕ) (c : Thread nD τ) (Memref.whole b) fullShare Y : sProp 𝕄)
      = iprop(∃ f : Buf (Elt F) (((c : Dev nD) : Thread nD τ).loc b), ⌜f = Y⌝ ∗ (((c : Thread nD τ).loc b) ↦{fullShare} f)) := by
  unfold owns; simp only [Memref.view_whole, View.read_whole, View.set_whole]

/-- A whole buffer of device `c`, holding `Y`. -/
abbrev stg (c : Dev nD) (b : Ref sig .tc) (Y : b.ty.Contents (Elt F)) : sProp 𝕄 :=
  iprop(∃ f : Buf (Elt F) (((c : Dev nD) : Thread nD τ).loc b), ⌜f = Y⌝ ∗ (((c : Thread nD τ).loc b) ↦{fullShare} f))

/-! ## The body -/

/-- What a device is dealt, with its landing buffers and its windows, is what the body is run from. -/
theorem pre_intro (K : Dev nD × Ci → ℕ) (c : Dev nD) (W : Waits sig Unit) (C : Cont F) (g2 : S2048x256.Idx → Elt F .f32) :
    iprop(recs m ρ K ∗ owes (c : Thread nD τ) (O₀ c) W ∗ poss c ∗ pays c
        ∗ (cred (tallyAt (barCell c) () 3) ∗ bigSep Finset.univ fun k : Fin 14 => cred (tallyAt (rcell c k) () (N k))) ∗ lands c C
        ∗ (((c : Thread nD τ).loc cc0_stg0_0) ↦{fq} X m ρ c) ∗ ptW c (Wc m ρ c) ∗ (((c : Thread nD τ).loc cc0_stg2_0) ↦{fq} g2))
      ⊢ pre m ρ K c W := by
  unfold poss pays pre toks rtok
  rw [bigSep_cells, bigSep_sides, bigSep_fin14, bigSep_fin14, bigSep_fin14, bigSep_fin14, bigSep_fin14]
  iintro ⟨#HR, HO, ⟨Hab, ⟨Has0, Has1, Has2, Has3, Has4, Has5, Has6, Has7, Has8, Has9, Has10, Has11, Has12, Has13⟩, Har0, Har1, Har2, Har3, Har4, Har5, Har6, Har7, Har8, Har9, Har10, Har11, Har12, Har13⟩, ⟨⟨Hb0, Hb1, Hb2⟩, ⟨Hts0, Hts1, Hts2, Hts3, Hts4, Hts5, Hts6, Hts7, Hts8, Hts9, Hts10, Hts11, Hts12, Hts13⟩, Htr0, Htr1, Htr2, Htr3, Htr4, Htr5, Htr6, Htr7, Htr8, Htr9, Htr10, Htr11, Htr12, Htr13⟩, ⟨Hcb, Hc0, Hc1, Hc2, Hc3, Hc4, Hc5, Hc6, Hc7, Hc8, Hc9, Hc10, Hc11, Hc12, Hc13⟩, HL, Hx, Hw, Ho⟩
  ihave HL := (lands_cut c C) $$ HL
  icases HL with ⟨HL0, HL1, HL2⟩
  ihave Hout := (show (((c : Thread nD τ).loc cc0_stg2_0) ↦{fq} g2 : sProp 𝕄) ⊢ outP m ρ c [] from by
    unfold outP; iintro H; iexists g2; isplitr; · (ipureintro; exact fun _ h => absurd h (List.not_mem_nil));
    iexact H) $$ Ho
  isplitr; · iexact HR
  iframe

/-- What the body leaves is the next point's invariant, with the windows. -/
theorem post_exit (c : Dev nD) :
    post m ρ c ⊢ iprop(Φ₁ m ρ c ∗ OW c left0 ∗ (((c : Thread nD τ).loc cc0_stg0_0) ↦{fq} X m ρ c) ∗ ptW c (Wc m ρ c) ∗ (((c : Thread nD τ).loc cc0_stg2_0) ↦{fq} OUT m ρ c)) := by
  unfold post Φ₁ lands
  rw [bigSep_fin14, bigSep_fin14]
  iintro ⟨Hb, Hs, Hr, Hx, Hw, Ho, Hl, HO⟩
  isplitl [Hb Hs Hr Hl]
  · isplitl [Hl]; · iexact Hl
    isplitl [Hb]; · iexact Hb
    isplitl [Hs]; · iexact Hs
    iexact Hr
  iframe

/-- With no copy left to send nothing is owed. -/
theorem owS_none (c : Dev nD) : owS c ∅ = 0 := rfl

/-- What the body of device `c` is run from. -/
def bodyPre (c : Dev nD) : sProp 𝕄 :=
  iprop(Φ₀ m ρ c ∗ (dats m ρ 0 c).owesAt () t0_0.castSucc
    ∗ (∃ d, stg c cc0_stg0_0 ((dats m ρ 0 c).before (0 : Fin 3) t0_0 d))
    ∗ (∃ d, stg c cc0_stg1_0 ((dats m ρ 0 c).before (1 : Fin 3) t0_0 d))
    ∗ (∃ d, stg c cc0_stg2_0 ((dats m ρ 0 c).before (2 : Fin 3) t0_0 d)))

/-- What the body of device `c` leaves: its result window holds the result. -/
def bodyPost (c : Dev nD) : sProp 𝕄 :=
  iprop(Φ₁ m ρ c ∗ (dats m ρ 0 c).owesAt () t0_0.succ ∗ stg c cc0_stg0_0 (X m ρ c) ∗ stg c cc0_stg1_0 (Wc m ρ c) ∗ stg c cc0_stg2_0 (OUT m ρ c))

/-- The body of every device runs to its end without fault and leaves the result. -/
theorem sound_body (c : Dev nD) : bodyPre m ρ c ⊢ WP c (cc0_body (F := F) mX (Memref.isWhole_whole _) mW (Memref.isWhole_whole _) mO (Memref.isWhole_whole _) mFW (Memref.isWhole_whole _) mBW (Memref.isWhole_whole _) mAN (Memref.isWhole_whole _) mCH (Memref.isWhole_whole _) mF1 (Memref.isWhole_whole _) mF2 (Memref.isWhole_whole _) mF3 (Memref.isWhole_whole _) cc0_scratch7 cc0_scratch8 cc0_scratch9 cc0_scratch10 cc0_scratch11 cc0_scratch12) (fun _ => bodyPost m ρ c) := by
  unfold bodyPre Φ₀ start G'
  iintro ⟨⟨⟨⟨%K, #HR, Hp, Ht⟩, Hc, #Hlev⟩, ⟨%C, HL⟩⟩, Ho, ⟨%d0, %g0, %hg0, Hx⟩, ⟨%d1, %g1, %hg1, Hw⟩, ⟨%d2, %g2, %hg2, Hout⟩⟩
  have hx : g0 = X m ρ c := by rw [hg0]; unfold Dat.before; rw [if_pos (fetch0_0 t0_0)]; rfl
  have hw : g1 = Wc m ρ c := by rw [hg1]; unfold Dat.before; rw [if_pos (fetch0_1 t0_0)]; rfl
  subst hx hw
  unfold Dat.owesAt Pipeline.owesWithin
  icases Ho with ⟨%W, %hW, HO⟩
  rw [show (dats m ρ 0 c).owed t0_0.castSucc = O₀ c from rfl]
  ihave HK := (show iprop(cellRecs m ρ K ∗ levAts L lv) ⊢ recs m ρ K from .rfl) $$ [$HR $Hlev]
  ihave Hpre := (pre_intro m ρ K c W C g2) $$ [$]
  iapply (body_run m ρ K c W) $$ Hpre
  iintro Hpost
  ihave Hq := (post_exit m ρ c) $$ Hpost
  icases Hq with ⟨HΦ, HO, Hx, Hw, Ho⟩
  unfold bodyPost Dat.owesAt Pipeline.owesWithin OW
  icases HO with ⟨%W', HO⟩
  rw [show (dats m ρ 0 c).owed t0_0.succ = 0 from rfl]
  isplitl [HΦ]; · iexact HΦ
  isplitl [HO]
  · iexists W'; isplitr; · (ipureintro; exact fun _ _ => Or.inl trivial)
    iexact HO
  isplitl [Hx]; · (iexists _; isplitr; · (ipureintro; rfl)); iexact Hx
  isplitl [Hw]; · (iexists _; isplitr; · (ipureintro; rfl)); iexact Hw
  iexists _; isplitr; · (ipureintro; rfl)
  iexact Ho

set_option maxRecDepth 4000 in
/-- The library's body obligation on device `c`. -/
theorem body_obligation (c : Dev nD) : BodyObligation (dats (F := F) m ρ 0 c) (defs₀ (F := F)) 𝒱₀ () Set.univ := fun t => by
  rw [show t = t0_0 from fin_N0 t]
  rw [bigSep_W0, bigSep_W0]
  simp only [owns_whole_eq]
  exact sound_body m ρ c

/-! ## The launch -/

/-- Every window is held at the whole share. -/
theorem share_full (c : Dev nD) (w : Fin cfg0.W) : (dats m ρ 0 c).share w = fullShare := by unfold Dat.share; split <;> rfl

/-- What the launch gives a device is what its body starts from. -/
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start m ρ c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

/-- With the landing buffers given, the body can start. -/
theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀ lands
  iintro ⟨Hs, -, ⟨%f0, H0⟩, ⟨%f1, H1⟩, ⟨%f2, H2⟩, ⟨%f3, H3⟩, ⟨%f4, H4⟩, ⟨%f5, H5⟩, ⟨%f6, H6⟩⟩
  isplitl [Hs]; · iexact Hs
  iexists (⟨f0, f1, f2, f3, f4, f5, f6⟩ : Cont F)
  isplitl [H0]; · iexact H0
  isplitl [H1]; · iexact H1
  isplitl [H2]; · iexact H2
  isplitl [H3]; · iexact H3
  isplitl [H4]; · iexact H4
  isplitl [H5]; · iexact H5
  iexact H6

/-- What the body leaves gives back the semaphores at 0 and the landing buffers. -/
theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, unscopedSems0_eq]
  unfold Φ₁ lands Pipeline.ownSems0
  rw [bigSep_sides]
  iintro ⟨⟨H0, H1, H2, H3, H4, H5, H6⟩, HzB, HzS, HzR⟩
  isplitl [HzB]; · iexact HzB
  isplitl [HzS HzR]
  · isplitl [HzS] <;> iassumption
  isplitl [H0]; · (iexists _; iexact H0)
  isplitl [H1]; · (iexists _; iexact H1)
  isplitl [H2]; · (iexists _; iexact H2)
  isplitl [H3]; · (iexists _; iexact H3)
  isplitl [H4]; · (iexists _; iexact H4)
  isplitl [H5]; · (iexists _; iexact H5)
  iexists _; iexact H6

/-- Waiting on a staging cell is allowed by the levels. -/
theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-! ## The run -/

/-- Device `c`'s array of window `w` after the run. -/
def finalA (c : Dev nD) (w : Fin cfg0.W) : Buf (Elt F) ((cfg0.win w).arr.view.loc (c : Thread nD τ)) := (dats m ρ 0 c).arrAt w cfg0.N

/-- Every device's arrays are at their named contents. -/
def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values and from any memory with zero counters, every execution of the program ends, with each device's arrays at
their named contents and every semaphore at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := block_pos0) (harr := arr_whole0) (hstage := stage_whole0) (hshare := share_full m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_ring m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The `x` array after the run holds what it held. -/
theorem finalA_x (c : Dev nD) : finalA m ρ c (0 : Fin 3) = (s₀ m ρ).mem (win0_0.arr.view.loc (c : Thread nD τ)) :=
  (dats (F := F) m ρ 0 c).arrAt_in (0 : Fin 3) rfl _
/-- The `w` array after the run holds what it held. -/
theorem finalA_w (c : Dev nD) : finalA m ρ c (1 : Fin 3) = (s₀ m ρ).mem (win0_1.arr.view.loc (c : Thread nD τ)) :=
  (dats (F := F) m ρ 0 c).arrAt_in (1 : Fin 3) rfl _

end Cert.RingProof

end
-- ==== Proof.Arrays.lean ====
/-
# The arrays after the run

The block of each window is its whole array: what device `c` reads is its argument buffer, and its result
buffer ends at the products that the body left there.
-/
module

public import proofs.«01_k».proof.Proof.Launch
public import proofs.«01_k».proof.Proof.Gen.Kernel
public import proofs.«01_k».proof.Defs

@[expose] public section

noncomputable section

namespace Cert.RingProof

open Idealize.ShloMosaic Idealize.ShloMosaic.TcCoe Idealize.SL Idealize.SL.Sem Cert.KernelIdeal Cert.KernelIdeal.Gen

variable {F : FTy → Type} [FloatOps F]
variable (m : (ℓ : Loc nD τ sig) → Buf (Elt F) ℓ) (ρ : Dev nD → PrngReg)

/-- Device `c`'s block of `x` is its first argument buffer. -/
theorem X_eq (c : Dev nD) : X m ρ c = m ((c : Thread nD τ).loc main_arg0) :=
  Memref.read_access_unit_zero (Elt F) main_arg0 (funext fun a => by fin_cases a <;> decide) (fun a => by fin_cases a <;> decide) _

/-- Device `c`'s block of the weights is its second argument buffer. -/
theorem Wc_eq (c : Dev nD) : Wc m ρ c = m ((c : Thread nD τ).loc main_arg1) :=
  Memref.read_access_unit_zero (Elt F) main_arg1 (funext fun a => by fin_cases a <;> decide) (fun a => by fin_cases a <;> decide) _

/-- Device `c`'s result buffer ends at the products of all the blocks of `x` with its block of the weights. -/
theorem finalA_out (c : Dev nD) : finalA m ρ c (2 : Fin 3) = OUT m ρ c := by
  have ho : (win0_2.blk (0 : Fin 1)).view.read (Elt F) (finalA m ρ c (2 : Fin 3)) = OUT m ρ c := by
    unfold finalA
    rw [show cfg0.N = ((0 : Fin 1) : Fin cfg0.N).val + 1 from rfl, (dats m ρ 0 c).arrAt_succ (2 : Fin 3) (0 : Fin 1),
      show (cfg0.win (2 : Fin 3)).flush (0 : Fin 1) = true from by decide, if_pos rfl]
    exact View.read_write_univ _ _
  rw [← ho]
  exact (Memref.read_access_unit_zero (Elt F) main_v1 (funext fun a => by fin_cases a <;> decide) (fun a => by fin_cases a <;> decide) _).symm

/-- From any memory with zero counters, every execution of the program ends with the arguments of each device unchanged, its
result at the products, and every semaphore at zero. -/
theorem run_arrays : θ_run defs (onTc (τ := τ) (main (F := F))) ⟨m, fun _ => 0, ρ⟩ (fun r =>
    (∀ c : Dev nD, r.2.mem ((c : Thread nD τ).loc main_v1) = OUT m ρ c
      ∧ r.2.mem ((c : Thread nD τ).loc main_arg0) = m ((c : Thread nD τ).loc main_arg0)
      ∧ r.2.mem ((c : Thread nD τ).loc main_arg1) = m ((c : Thread nD τ).loc main_arg1))
    ∧ r.2.sem = fun _ => 0) :=
  (θ_run defs _ _).mono (fun _ h => ⟨fun c => ⟨(h.1 c (2 : Fin 3)).trans (finalA_out m ρ c),
    (h.1 c (0 : Fin 3)).trans (finalA_x m ρ c), (h.1 c (1 : Fin 3)).trans (finalA_w m ρ c)⟩, h.2⟩) (run_main m ρ)

/-- The two programs have the same body table. -/
theorem kernel_defs₀ : Cert.Kernel.defs₀ (F := Bits) = Cert.KernelIdeal.defs₀ (F := Bits) := by
  unfold Cert.Kernel.defs₀ Cert.KernelIdeal.defs₀
  refine congrArg Defs.onTc (funext fun l => funext fun a => ?_)
  match l, a with
  | ⟨0, _⟩, (t, s) => rfl

/-- The same with the pipelines' bodies. -/
theorem kernel_defs : Cert.Kernel.defs (F := Bits) = Cert.KernelIdeal.defs (F := Bits) := congrArg (Pipeline.defs _) kernel_defs₀

/-- The arguments of each device end unchanged and every semaphore at zero, on any body table that is the kernel's. -/
theorem frame_of {D : Defs nD τ sig (Elt F) (Pipeline.Sig Λ₀ (Fin 1) fun p => (pcfgs (F := F) p).Adm)} (h : D = defs) :
    θ_run D (onTc (τ := τ) (main (F := F))) ⟨m, fun _ => 0, ρ⟩ (fun r =>
      (∀ c : Dev nD, r.2.mem ((c : Thread nD τ).loc main_arg0) = m ((c : Thread nD τ).loc main_arg0)
        ∧ r.2.mem ((c : Thread nD τ).loc main_arg1) = m ((c : Thread nD τ).loc main_arg1))
      ∧ r.2.sem = fun _ => 0) := by
  subst h
  exact (θ_run defs _ _).mono (fun _ h => ⟨fun c => (h.1 c).2, h.2⟩) (run_arrays m ρ)

/-- The kernel's frame at the machine's floats. -/
theorem frame_kernel : Cert.quiescent_Kernel := fun m ρ _ => frame_of (F := Bits) m ρ kernel_defs

/-- The idealized kernel's frame. -/
theorem frame_ideal : Cert.quiescent_KernelIdeal := fun m ρ _ => frame_of (F := Ideal) m ρ rfl

end Cert.RingProof

end
-- ==== Proof.Product.lean ====
/-
# What the kernel computes, over the extended reals

Every block that the body stores is `y · σ(y)` for `y` the product of rows of one device's block of `x` with the
block of the weights, in whichever number of rows it is computed.
-/
module

public import proofs.«01_k».proof.Proof.Arrays
public import Idealize.ShloMosaic.Lib.Pointwise
public import Idealize.ShloMosaic.Lib.Layout

@[expose] public section

noncomputable section

namespace Cert.RingProof

open Idealize.ShloMosaic Idealize.ShloMosaic.TcCoe Cert.KernelIdeal Cert.KernelIdeal.Gen

/-- The product of `x`'s row and `w`'s column. -/
def dotp {M N : ℕ} (x : (⟨2, ![M, 2048]⟩ : Shape).Idx → EReal) (w : (⟨2, ![2048, N]⟩ : Shape).Idx → EReal) (i : Fin M) (j : Fin N) : EReal :=
  ∑ k : Fin 2048, x (ix2 i k) * w (ix2 k j)

/-- The activation. -/
def silu (y : EReal) : EReal := y * Ideal.logistic y

/-- A block of 256 rows is the activated product. -/
theorem blk256_val (v : S256x2048.Idx → Elt Ideal .f32) (w : S2048x256.Idx → Elt Ideal .f32) (i : Fin 256) (j : Fin 256) :
    blk256 v w (ix2 i j) = silu (dotp v w i j) := by
  unfold silu dotp
  pointwise [k0_pay8, k0_pay9]

/-- A block of 128 rows is the activated product. -/
theorem blk128_val (v : S128x2048.Idx → Elt Ideal .f32) (w : S2048x256.Idx → Elt Ideal .f32) (i : Fin 128) (j : Fin 256) :
    blk128 v w (ix2 i j) = silu (dotp v w i j) := by
  unfold silu dotp
  pointwise [k0_pay11]

/-- A block of 88 rows is the activated product. -/
theorem blk88_val (v : S88x2048.Idx → Elt Ideal .f32) (w : S2048x256.Idx → Elt Ideal .f32) (i : Fin 88) (j : Fin 256) :
    blk88 v w (ix2 i j) = silu (dotp v w i j) := by
  unfold silu dotp
  pointwise [k0_pay19]

/-- A block of 80 rows is the activated product. -/
theorem blk80_val (v : S80x2048.Idx → Elt Ideal .f32) (w : S2048x256.Idx → Elt Ideal .f32) (i : Fin 80) (j : Fin 256) :
    blk80 v w (ix2 i j) = silu (dotp v w i j) := by
  unfold silu dotp
  pointwise [k0_pay20]

variable (m : (ℓ : Loc nD τ sig) → Buf (Elt Ideal) ℓ) (ρ : Dev nD → PrngReg)

/-- The product of row `i` of some rows of a block is that of the row of the block. -/
theorem dotp_rows (Y : S256x2048.Idx → Elt Ideal .f32) (w : S2048x256.Idx → Elt Ideal .f32) (a n : ℕ) (i : Fin n) (r j : Fin 256)
    (h : a + i.val = r.val) : dotp (rows Y a n) w i j = dotp Y w r j := by
  refine Finset.sum_congr rfl fun k _ => congrArg (· * _) ?_
  show Y (ix2 ⟨(a + i.val) % 256, _⟩ k) = _
  exact congrArg (fun r => Y (ix2 r k)) (Fin.ext ((congrArg (· % 256) h).trans (Nat.mod_eq_of_lt r.isLt)))

/-- Row `r` of those that come from device `o`, at column `j` of device `c`'s result, in whichever piece it is computed. -/
theorem OUT'_val (c o : Dev nD) (r j : Fin 256) : OUT' m ρ c o r j = silu (dotp (X m ρ o) (Wc m ρ c) r j) := by
  unfold OUT'
  split
  · exact blk256_val ..
  split
  · split
    · rw [blk88_val, dotp_rows _ _ 0 88 _ r j (Nat.zero_add _)]
    split
    · rw [blk80_val, dotp_rows _ _ 88 80 _ r j (by dsimp only; omega)]
    · rw [blk88_val, dotp_rows _ _ 168 88 _ r j (by dsimp only; omega)]
  split
  · rw [blk128_val, dotp_rows _ _ 0 128 _ r j (Nat.zero_add _)]
  · rw [blk128_val, dotp_rows _ _ 128 128 _ r j (by dsimp only; omega)]

/-- A whole array is cut along its columns into eight blocks. -/
theorem tiles_cols : Layout.Tiles ⟨2, ![2048, 256]⟩ ⟨2, ![2048, 2048]⟩ 1 8 := by decide

/-- When each device holds its block of rows of `x` and its block of columns of `w`, the product of the whole arrays at an index of
block `c` of the columns is that of the block of rows the index lies in with device `c`'s block of columns. -/
theorem dotp_block (x w : (⟨2, ![2048, 2048]⟩ : Shape).Idx → EReal)
    (hx : ∀ c : Dev nD, m ((c : Thread nD τ).loc main_arg0) = Layout.block ⟨2, ![256, 2048]⟩ ⟨2, ![2048, 2048]⟩ 0 8 c x)
    (hw : ∀ c : Dev nD, m ((c : Thread nD τ).loc main_arg1) = Layout.block ⟨2, ![2048, 256]⟩ ⟨2, ![2048, 2048]⟩ 1 8 c w)
    (c o : Dev nD) (i : S2048x256.Idx) (r j : Fin 256) (h0 : (i 0).val = 256 * o.val + r.val) (h1 : (i 1).val = j.val) :
    dotp (X m ρ o) (Wc m ρ c) r j = dotp x w (tiles_cols.idx c i 0) (tiles_cols.idx c i 1) := by
  refine Finset.sum_congr rfl fun k _ => ?_
  rw [X_eq, Wc_eq, hx, hw]
  refine congrArg₂ (· * ·) (congrArg x (funext fun a => Fin.ext ?_)) (congrArg w (funext fun a => Fin.ext ?_))
  · match a with
    | ⟨0, _⟩ => exact (congrArg (· + r.val) (Nat.mul_comm _ _)).trans h0.symm
    | ⟨1, _⟩ => rfl
  · match a with
    | ⟨0, _⟩ => rfl
    | ⟨1, _⟩ => exact congrArg (c.val * 256 + ·) h1.symm

/-- The device whose block of rows an index of the result lies in, and the row there. -/
theorem split_row (i : S2048x256.Idx) : ∃ (o : Dev nD) (r : Fin 256), (i 0).val = 256 * o.val + r.val := by
  have hi : (i 0).val < 2048 := (i 0).isLt
  exact ⟨⟨(i 0).val / 256, show _ < 8 by omega⟩, ⟨(i 0).val % 256, Nat.mod_lt _ (by decide)⟩, (Nat.div_add_mod _ _).symm⟩

/-- Device `c`'s result is then block `c` of the columns of the activated product of the whole arrays. -/
theorem OUT_block (x w : (⟨2, ![2048, 2048]⟩ : Shape).Idx → EReal)
    (hx : ∀ c : Dev nD, m ((c : Thread nD τ).loc main_arg0) = Layout.block ⟨2, ![256, 2048]⟩ ⟨2, ![2048, 2048]⟩ 0 8 c x)
    (hw : ∀ c : Dev nD, m ((c : Thread nD τ).loc main_arg1) = Layout.block ⟨2, ![2048, 256]⟩ ⟨2, ![2048, 2048]⟩ 1 8 c w) (c : Dev nD) :
    OUT m ρ c = Layout.block ⟨2, ![2048, 256]⟩ ⟨2, ![2048, 2048]⟩ 1 8 c (fun i => silu (dotp x w (i 0) (i 1))) := by
  funext i
  obtain ⟨o, r, h0⟩ := split_row i
  exact (OUT_eq m ρ c o i r (i 1) h0 rfl).trans ((OUT'_val m ρ c o r (i 1)).trans (congrArg silu (dotp_block m ρ x w hx hw c o i r (i 1) h0 rfl)))

end Cert.RingProof

end
-- ==== Proof.Clip.lean ====
/-
# The reference, over the extended reals

The reference clips the product before the exponential. Where the product lies between -60 and 60 the clip is the
identity, and the reference's quotient is `y · σ(y)`. The mask says exactly that; the bounds on the rows of `x` and the
columns of `w` imply it.
-/
module

public import proofs.«01_k».proof.Proof.Product
public import proofs.«01_k».proof.Proof.Gen.ReferenceIdeal
public import proofs.«01_k».proof.Proof.Gen.ReferenceIdeal.Run
public import Idealize.ShloMosaic.Lib.IdealHost
public import proofs.«01_k».proof.On_unclipped
public import proofs.«01_k».proof.Pre_bounded_KernelIdeal

@[expose] public section

noncomputable section

namespace Cert.RingProof

open Idealize.ShloMosaic

/-- The word of the reference's upper limit is 60. -/
theorem ofBits_60 : Ideal.ofBits .f32 0x42700000#32 = ((60 : ℝ) : EReal) := by
  simp [Ideal.ofBits, Ideal.ieee, -EReal.coe_mul]; norm_num
/-- The word of its lower limit is -60. -/
theorem ofBits_neg60 : Ideal.ofBits .f32 0xC2700000#32 = ((-60 : ℝ) : EReal) := by
  simp [Ideal.ofBits, Ideal.ieee, -EReal.coe_mul, -EReal.coe_neg]; norm_num
/-- The word of the bound on the rows is 2400. -/
theorem ofBits_2400 : Ideal.ofBits .f32 0x45160000#32 = ((2400 : ℝ) : EReal) := by
  simp [Ideal.ofBits, Ideal.ieee, -EReal.coe_mul]; norm_num
/-- The word of the bound on the columns is 3/2. -/
theorem ofBits_1_5 : Ideal.ofBits .f32 0x3FC00000#32 = ((3 / 2 : ℝ) : EReal) := by
  simp [Ideal.ofBits, Ideal.ieee, -EReal.coe_mul]; norm_num

/-- The reference's activation: the quotient by one plus the exponential of minus the clipped value. -/
def clipped (y : EReal) : EReal := Ideal.div y (1 + Ideal.exp (-(min ((60 : ℝ) : EReal) (max ((-60 : ℝ) : EReal) y))))

/-- Between the limits the two activations agree. -/
theorem silu_eq_clipped {y : EReal} (h : ((-60 : ℝ) : EReal) ≤ y) (h' : y ≤ ((60 : ℝ) : EReal)) : silu y = clipped y := by
  unfold silu clipped
  rw [max_eq_right h, min_eq_right h']
  refine Ideal.mul_one_div ?_
  induction y with
  | bot => exact absurd h (by simp)
  | top => exact absurd h' (by simp)
  | coe r =>
    rw [← EReal.coe_neg, Ideal.exp_coe, ← EReal.coe_one, ← EReal.coe_add]
    exact EReal.coe_ne_zero.2 (by positivity)

/-- A sum of reals is their sum as extended reals. -/
theorem coe_sum {n : ℕ} (g : Fin n → ℝ) : ((∑ k, g k : ℝ) : EReal) = ∑ k, (g k : EReal) :=
  map_sum (⟨⟨Real.toEReal, EReal.coe_zero⟩, EReal.coe_add⟩ : ℝ →+ EReal) g Finset.univ

/-- A sum of squares below a real bound is a sum of squares of reals. -/
theorem reals_of_sum_le {n : ℕ} (f : Fin n → EReal) (b : ℝ) (h : ∑ k, f k * f k ≤ (b : EReal)) :
    ∃ g : Fin n → ℝ, (∀ k, f k = (g k : EReal)) ∧ ∑ k, g k * g k ≤ b := by
  have hk : ∀ k, f k * f k ≤ (b : EReal) := fun k =>
    (Finset.single_le_sum (f := fun k => f k * f k) (fun i _ => EReal.mul_nonneg_iff.2 ((le_total 0 (f i)).imp (fun h => ⟨h, h⟩) fun h => ⟨h, h⟩)) (Finset.mem_univ k)).trans h
  have hr : ∀ k, ∃ r : ℝ, f k = (r : EReal) := fun k => by
    have := hk k
    generalize f k = y at this ⊢
    induction y with
    | bot => exact absurd this (by simp)
    | top => exact absurd this (by simp)
    | coe r => exact ⟨r, rfl⟩
  choose g hg using hr
  refine ⟨g, hg, ?_⟩
  have : ∑ k, f k * f k = ((∑ k, g k * g k : ℝ) : EReal) := by
    rw [coe_sum]
    exact Finset.sum_congr rfl fun k _ => by rw [hg k, EReal.coe_mul]
  rw [this] at h
  exact EReal.coe_le_coe_iff.1 h

/-- A row whose squares sum to at most 2400 and a column whose squares sum to at most 3/2 have a product between the limits. -/
theorem product_bounds {n : ℕ} (f g : Fin n → EReal) (hf : ∑ k, f k * f k ≤ ((2400 : ℝ) : EReal)) (hg : ∑ k, g k * g k ≤ ((3 / 2 : ℝ) : EReal)) :
    ((-60 : ℝ) : EReal) ≤ ∑ k, f k * g k ∧ ∑ k, f k * g k ≤ ((60 : ℝ) : EReal) := by
  obtain ⟨a, ha, ha'⟩ := reals_of_sum_le f _ hf
  obtain ⟨b, hb, hb'⟩ := reals_of_sum_le g _ hg
  have hs : ∑ k, f k * g k = ((∑ k, a k * b k : ℝ) : EReal) := by
    rw [coe_sum]
    exact Finset.sum_congr rfl fun k _ => by rw [ha k, hb k, EReal.coe_mul]
  have hc := Finset.sum_mul_sq_le_sq_mul_sq Finset.univ a b
  simp only [pow_two] at hc
  have hn : 0 ≤ ∑ k, b k * b k := Finset.sum_nonneg fun k _ => mul_self_nonneg _
  have h60 : (∑ k, a k * b k) ^ 2 ≤ 60 ^ 2 := by nlinarith
  rw [hs, EReal.coe_le_coe_iff, EReal.coe_le_coe_iff]
  exact abs_le_of_sq_le_sq' h60 (by norm_num)

/-- A comparison that came out 1 holds. -/
theorem of_decide {p : Prop} [Decidable p] (h : BitVec.ofBool (decide p) = 1#1) : p := by
  by_contra hp
  rw [decide_eq_false hp] at h
  exact absurd h (by decide)

/-- Two comparisons whose conjunction is 1 hold. -/
theorem both_of_and {p q : Prop} [Decidable p] [Decidable q] (h : BitVec.ofBool (decide p) &&& BitVec.ofBool (decide q) = 1#1) : p ∧ q := by
  have key : ∀ a b : Bool, BitVec.ofBool a &&& BitVec.ofBool b = 1#1 → a = true ∧ b = true := by decide
  exact (key _ _ h).imp of_decide_eq_true of_decide_eq_true

/-! ## The printed reference, mask and precondition -/

section Printed

variable (x w : FVec Ideal ⟨2, ![2048, 2048]⟩ .f32)

open Cert.ReferenceIdeal Cert.ReferenceIdeal.Gen in
/-- The reference's result at an index is the clipped activation of the product. -/
theorem reference_val (i : (⟨2, ![2048, 2048]⟩ : Shape).Idx) :
    (Host.divf (Host.dotGeneral dot_S2048x2048_S2048x2048_S2048x2048_1_0_0_1_n_n none x w) (addf (broadcastInDim S2048x2048 ![] bcast_S_S2048x2048 (constant S_ .f32 0x3F800000#32)) (Host.exp (Host.negf (minimumf (broadcastInDim S2048x2048 ![] bcast_S_S2048x2048 (id (constant S_ .f32 0x42700000#32))) (maximumf (broadcastInDim S2048x2048 ![] bcast_S_S2048x2048 (id (constant S_ .f32 0xC2700000#32))) (Host.dotGeneral dot_S2048x2048_S2048x2048_S2048x2048_1_0_0_1_n_n none x w)))))) : FVec Ideal S2048x2048 .f32) i
      = clipped (dotp x w (i 0) (i 1)) := by
  unfold clipped dotp
  rw [← ofBits_60, ← ofBits_neg60]
  pointwise
  rfl

/-- The facts of the mask. -/
instance mask_facts : Cert.On_unclipped.Facts where
  bcast_S_S2048x2048 := by decide
  dot_S2048x2048_S2048x2048_S2048x2048_1_0_0_1_n_n_wf := by decide

/-- The facts of the precondition on one device's blocks. -/
instance pre_facts : Cert.Pre_bounded_KernelIdeal.Facts where
  reducesTo_S256x2048_S256_d1 := by decide
  h_S_ := by decide
  bcast_S_S256 := by decide
  reducesTo_S2048x256_S256_d0 := by decide

/-- The mask is set where the product lies between the limits. -/
theorem mask_val (i : (⟨2, ![2048, 2048]⟩ : Shape).Idx) (h : Cert.On_unclipped.fn (F := Ideal) x w i = 1#1) :
    ((-60 : ℝ) : EReal) ≤ dotp x w (i 0) (i 1) ∧ dotp x w (i 0) (i 1) ≤ ((60 : ℝ) : EReal) := by
  have e : Cert.On_unclipped.fn (F := Ideal) x w i
      = BitVec.ofBool (decide (((-60 : ℝ) : EReal) ≤ dotp x w (i 0) (i 1))) &&& BitVec.ofBool (decide (dotp x w (i 0) (i 1) ≤ ((60 : ℝ) : EReal))) := by
    unfold dotp
    rw [← ofBits_60, ← ofBits_neg60]
    pointwise [Cert.On_unclipped.fn]
    rfl
  rw [e] at h
  exact both_of_and h

/-- Rows of a block of `x` under the precondition: the squares of each sum to at most 2400. -/
theorem pre_rows (x : FVec Ideal ⟨2, ![256, 2048]⟩ .f32) (w : FVec Ideal ⟨2, ![2048, 256]⟩ .f32)
    (h : (Cert.Pre_bounded_KernelIdeal.fn (F := Ideal) x w).1 = fun _ => 1#1) (r : Fin 256) :
    ∑ k : Fin 2048, x (ix2 r k) * x (ix2 r k) ≤ ((2400 : ℝ) : EReal) := by
  have h := congrFun h (ix1 r)
  rw [← ofBits_2400]
  pointwise [Cert.Pre_bounded_KernelIdeal.fn] at h
  exact of_decide h

/-- Columns of a block of `w` under the precondition: the squares of each sum to at most 3/2. -/
theorem pre_cols (x : FVec Ideal ⟨2, ![256, 2048]⟩ .f32) (w : FVec Ideal ⟨2, ![2048, 256]⟩ .f32)
    (h : (Cert.Pre_bounded_KernelIdeal.fn (F := Ideal) x w).2 = fun _ => 1#1) (j : Fin 256) :
    ∑ k : Fin 2048, w (ix2 k j) * w (ix2 k j) ≤ ((3 / 2 : ℝ) : EReal) := by
  have h := congrFun h (ix1 j)
  rw [← ofBits_1_5]
  pointwise [Cert.Pre_bounded_KernelIdeal.fn] at h
  exact of_decide h

end Printed

end Cert.RingProof

end
-- ==== Proof.lean ====
/-
# The certificate's claims

The frames of the kernel, of its idealization and of the reference; that the idealization rewrites nothing; and that over
the extended reals the kernel's result is the reference's, at every element that the reference does not clip, and at every
element when the rows of `x` and the columns of `w` are bounded.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Arrays
public import proofs.«01_k».proof.Proof.Clip

@[expose] public section

noncomputable section

namespace Cert.Proof

open Idealize.ShloMosaic Idealize.SL.Sem Cert.RingProof

/-- The facts of the precondition on the whole arrays. -/
instance pre_whole_facts : Cert.Pre_bounded_ReferenceIdeal.Facts where
  reducesTo_S2048x2048_S2048_d1 := by decide
  h_S_ := by decide
  bcast_S_S2048 := by decide
  reducesTo_S2048x2048_S2048_d0 := by decide

/-- The reference's frame: no operation writes its arguments and it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The reference's run: its result is the clipped activation of the product of its arguments, which end unchanged. -/
theorem run_reference (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread _ Cert.ReferenceIdeal.τ).loc Cert.ReferenceIdeal.main_v6)
          = (fun i => clipped (dotp (m ((c.tc : Thread _ Cert.ReferenceIdeal.τ).loc Cert.ReferenceIdeal.main_arg0)) (m ((c.tc : Thread _ Cert.ReferenceIdeal.τ).loc Cert.ReferenceIdeal.main_arg1)) (i 0) (i 1)))
      ∧ r.2.mem ((c.tc : Thread _ Cert.ReferenceIdeal.τ).loc Cert.ReferenceIdeal.main_arg0) = m ((c.tc : Thread _ Cert.ReferenceIdeal.τ).loc Cert.ReferenceIdeal.main_arg0)
      ∧ r.2.mem ((c.tc : Thread _ Cert.ReferenceIdeal.τ).loc Cert.ReferenceIdeal.main_arg1) = m ((c.tc : Thread _ Cert.ReferenceIdeal.τ).loc Cert.ReferenceIdeal.main_arg1)) :=
  (θ_run Cert.ReferenceIdeal.defs _ _).mono (fun _ h c => ⟨(h c).1.trans (funext fun i => reference_val _ _ i), (h c).2⟩)
    (Cert.ReferenceIdeal.Value.run (F := Ideal) m g)

/-- At every element where the product lies between the reference's limits, each device's result is its block of the reference's. -/
theorem algebraic_unclipped : Cert.algebraic_KernelIdeal_ReferenceIdeal_on_unclipped := fun m g m' g' _ hb =>
  ⟨_, (θ_run Cert.KernelIdeal.defs _ _).mono
      (fun _ h c => ⟨fun i hi => by
        have hm := mask_val _ _ _ hi
        rw [(h.1 c).1, OUT_block m g _ _ (fun c => (hb c).1) (fun c => (hb c).2) c]
        exact silu_eq_clipped hm.1 hm.2, (h.1 c).2⟩)
      (run_arrays (F := Ideal) m g),
    (θ_run Cert.ReferenceIdeal.defs _ _).mono (fun _ h => ⟨fun i _ => congrFun (h 0).1 i, (h 0).2⟩) (run_reference m' g')⟩

/-- When the squares of each row of every block of `x` sum to at most 2400, and those of each column of every block of `w` to at
most 3/2, the product lies between the reference's limits everywhere. -/
theorem bounded_elem (m : (ℓ : Loc Cert.KernelIdeal.nD Cert.KernelIdeal.τ Cert.KernelIdeal.sig) → Buf (Elt Ideal) ℓ) (g : Dev Cert.KernelIdeal.nD → PrngReg)
    (hp : Cert.Pre_KernelIdeal_bounded_KernelIdeal m) (x w : (⟨2, ![2048, 2048]⟩ : Shape).Idx → EReal)
    (hx : ∀ c : Dev Cert.KernelIdeal.nD, m ((c.tc : Thread _ Cert.KernelIdeal.τ).loc Cert.KernelIdeal.main_arg0) = Layout.block ⟨2, ![256, 2048]⟩ ⟨2, ![2048, 2048]⟩ 0 8 c x)
    (hw : ∀ c : Dev Cert.KernelIdeal.nD, m ((c.tc : Thread _ Cert.KernelIdeal.τ).loc Cert.KernelIdeal.main_arg1) = Layout.block ⟨2, ![2048, 256]⟩ ⟨2, ![2048, 2048]⟩ 1 8 c w)
    (c : Dev Cert.KernelIdeal.nD) (i : Cert.KernelIdeal.S2048x256.Idx) :
    ((-60 : ℝ) : EReal) ≤ dotp x w (tiles_cols.idx c i 0) (tiles_cols.idx c i 1) ∧ dotp x w (tiles_cols.idx c i 0) (tiles_cols.idx c i 1) ≤ ((60 : ℝ) : EReal) := by
  obtain ⟨o, r, h0⟩ := split_row i
  rw [← dotp_block m g x w hx hw c o i r (i 1) h0 rfl, X_eq, Wc_eq]
  exact product_bounds _ _ (pre_rows _ _ (hp o).1 r) (pre_cols _ _ (hp c).2 (i 1))

/-- When the squares of each row of every block of `x` sum to at most 2400, and those of each column of every block of `w` to at
most 3/2, each device's whole result is its block of the reference's. -/
theorem algebraic_bounded : Cert.algebraic_KernelIdeal_ReferenceIdeal_pre_bounded_KernelIdeal := fun m g m' g' hp hb =>
  ⟨_, (θ_run Cert.KernelIdeal.defs _ _).mono
      (fun _ h c => ⟨by
        rw [(h.1 c).1, OUT_block m g _ _ (fun c => (hb c).1) (fun c => (hb c).2) c]
        funext i
        exact (bounded_elem m g hp _ _ (fun c => (hb c).1) (fun c => (hb c).2) c i).elim silu_eq_clipped, (h.1 c).2⟩)
      (run_arrays (F := Ideal) m g),
    (θ_run Cert.ReferenceIdeal.defs _ _).mono (fun _ h => h 0) (run_reference m' g')⟩

/-- All the claims of the certificate. -/
theorem claim : Cert.Claim := ⟨Cert.Kernel.Gen.facts, Cert.KernelIdeal.Gen.facts, Cert.ReferenceIdeal.Gen.facts, pre_facts, pre_whole_facts, mask_facts,
  frame_kernel, frame_ideal, fun m g _ => frame_ideal m g trivial, frame_reference, fun m g _ => frame_reference m g trivial, trivial,
  algebraic_bounded, algebraic_unclipped⟩

end Cert.Proof

end
